-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_scaled [hPre_scaled : Cert.Pre_scaled.Facts] (m : (ℓ : Loc Cert.KernelIdeal.nD Cert.KernelIdeal.τ Cert.KernelIdeal.sig) → Buf (Elt Ideal) ℓ) : Prop :=
  ∀ c : Dev Cert.KernelIdeal.nD,
    (Cert.Pre_scaled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaled [hPre_scaled : Cert.Pre_scaled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scaled [hKernelIdeal : Cert.KernelIdeal.Facts] [hPre_scaled : Cert.Pre_scaled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scaled [hReferenceIdeal : Cert.ReferenceIdeal.Facts] [hPre_scaled : Cert.Pre_scaled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_scaled [hKernelIdeal : Cert.KernelIdeal.Facts] [hReferenceIdeal : Cert.ReferenceIdeal.Facts] [hPre_scaled : Cert.Pre_scaled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_lengths : Cert.Pre_lengths.Facts) (hPre_scaled : Cert.Pre_scaled.Facts),
    quiescent_Kernel (hKernel := hKernel) (hPre_lengths := hPre_lengths)
    ∧ quiescent_KernelIdeal (hKernelIdeal := hKernelIdeal) (hPre_lengths := hPre_lengths)
    ∧ quiescent_KernelIdeal_pre_scaled (hKernelIdeal := hKernelIdeal) (hPre_scaled := hPre_scaled)
    ∧ quiescent_ReferenceIdeal (hReferenceIdeal := hReferenceIdeal)
    ∧ quiescent_ReferenceIdeal_pre_scaled (hReferenceIdeal := hReferenceIdeal) (hPre_scaled := hPre_scaled)
    ∧ preserves_Kernel_KernelIdeal
    ∧ algebraic_KernelIdeal_ReferenceIdeal_pre_scaled (hKernelIdeal := hKernelIdeal) (hReferenceIdeal := hReferenceIdeal) (hPre_scaled := hPre_scaled)
-- ==== Pre_lengths.lean ====
abbrev S192x7x64 : Shape := ⟨3, ![192, 7, 64]⟩
abbrev S24x16384x7x64 : Shape := ⟨4, ![24, 16384, 7, 64]⟩
abbrev S24x7 : Shape := ⟨2, ![24, 7]⟩
abbrev S24x7x192 : Shape := ⟨3, ![24, 7, 192]⟩
abbrev S24x192x7x64 : Shape := ⟨4, ![24, 192, 7, 64]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S192x7x64 .bf16) (main_arg1 : FVec F S24x16384x7x64 .fp8e4m3) (main_arg2 : FVec F S24x7 .f32) (main_arg3 : FVec F S24x16384x7x64 .fp8e4m3) (main_arg4 : FVec F S24x7 .f32) (main_arg5 : FVec F S24x7x192 .f32) (main_arg6 : FVec F S24x192x7x64 .fp8e5m2) (main_arg7 : FVec F S24x7 .f32) (main_arg8 : FVec F S24x7x192 .f32) (main_arg9 : IVec S24 32) : IVec S24 1 :=
  let main_c : IVec S_ 32 := constantI S_ 32 1#32
  let main_v0 : IVec S24 32 := broadcastInDim S24 ![] bcast_S_S24 main_c
  let main_v1 : IVec S24 1 := cmpi .sge main_arg9 main_v0
  main_v1
-- ==== Pre_scaled.lean ====
abbrev S192x7x64 : Shape := ⟨3, ![192, 7, 64]⟩
abbrev S24x16384x7x64 : Shape := ⟨4, ![24, 16384, 7, 64]⟩
abbrev S24x7 : Shape := ⟨2, ![24, 7]⟩
abbrev S24x7x192 : Shape := ⟨3, ![24, 7, 192]⟩
abbrev S24x192x7x64 : Shape := ⟨4, ![24, 192, 7, 64]⟩
abbrev S24 : Shape := ⟨1, ![24]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel
  bcast_S_S24x7 : S_.BroadcastsInDim S24x7 (![] : Fin 0 → Fin S24x7.rank)
  reducesTo_S24x7_S_d0_1 : S24x7.ReducesTo [0, 1] S_

variable [Facts]

def fn {F : FTy → Type} [FloatOps F] (main_arg0 : FVec F S192x7x64 .bf16) (main_arg1 : FVec F S24x16384x7x64 .fp8e4m3) (main_arg2 : FVec F S24x7 .f32) (main_arg3 : FVec F S24x16384x7x64 .fp8e4m3) (main_arg4 : FVec F S24x7 .f32) (main_arg5 : FVec F S24x7x192 .f32) (main_arg6 : FVec F S24x192x7x64 .fp8e5m2) (main_arg7 : FVec F S24x7 .f32) (main_arg8 : FVec F S24x7x192 .f32) (main_arg9 : IVec S24 32) : IVec S_ 1 :=
  let main_c : IVec S_ 32 := constantI S_ 32 1#32
  let main_v0 : IVec S24 32 := broadcastInDim S24 ![] bcast_S_S24 main_c
  let main_v1 : IVec S24 1 := cmpi .sge main_arg9 main_v0
  let main_c_0 : IVec S_ 1 := constantI S_ 1 1#1
  let main_v2 : IVec S_ 1 := (fun x v => Host.reduce IntOp.andi x v reducesTo_S24_S_d0 h_S_) main_v1 main_c_0
  let main_cst : FVec F S_ .f32 := constant S_ .f32 0x00000000#32
  let main_v3 : FVec F S24x7 .f32 := broadcastInDim S24x7 ![] bcast_S_S24x7 main_cst
  let main_v4 : IVec S24x7 1 := cmpf .oge main_arg2 main_v3
  let main_cst_1 : FVec F S_ .f32 := constant S_ .f32 0x7F800000#32
  let main_v5 : FVec F S24x7 .f32 := broadcastInDim S24x7 ![] bcast_S_S24x7 main_cst_1
  let main_v6 : IVec S24x7 1 := cmpf .olt main_arg2 main_v5
  let main_v7 : IVec S24x7 1 := andi main_v4 main_v6
  let main_c_2 : IVec S_ 1 := constantI S_ 1 1#1
  let main_v8 : IVec S_ 1 := (fun x v => Host.reduce IntOp.andi x v reducesTo_S24x7_S_d0_1 h_S_) main_v7 main_c_2
  let main_v9 : IVec S_ 1 := andi main_v2 main_v8
  main_v9
-- ==== Kernel.lean ====
abbrev S192x7x64 : Shape := ⟨3, ![192, 7, 64]⟩
abbrev S24x16384x7x64 : Shape := ⟨4, ![24, 16384, 7, 64]⟩
abbrev S24x7 : Shape := ⟨2, ![24, 7]⟩
abbrev S24x7x192 : Shape := ⟨3, ![24, 7, 192]⟩
abbrev S24x192x7x64 : Shape := ⟨4, ![24, 192, 7, 64]⟩
abbrev S24 : Shape := ⟨1, ![24]⟩
abbrev S24x7x64x16384 : Shape := ⟨4, ![24, 7, 64, 16384]⟩
abbrev S24x7x64x192 : Shape := ⟨4, ![24, 7, 64, 192]⟩
abbrev S7x64x192 : Shape := ⟨3, ![7, 64, 192]⟩
abbrev S7x192x64 : Shape := ⟨3, ![7, 192, 64]⟩
abbrev S24x7x192x64 : Shape := ⟨4, ![24, 7, 192, 64]⟩
abbrev S24x7x192x1 : Shape := ⟨4, ![24, 7, 192, 1]⟩
abbrev S24x7x192x128 : Shape := ⟨4, ![24, 7, 192, 128]⟩
abbrev S7x24 : Shape := ⟨2, ![7, 24]⟩
abbrev S1x7x64x1024 : Shape := ⟨4, ![1, 7, 64, 1024]⟩
abbrev S1 : Shape := ⟨1, ![1]⟩
abbrev S1x7x192x128 : Shape := ⟨4, ![1, 7, 192, 128]⟩
abbrev S1x7x192x64 : Shape := ⟨4, ![1, 7, 192, 64]⟩
abbrev S1x7x64x192 : Shape := ⟨4, ![1, 7, 64, 192]⟩
abbrev S1x1 : Shape := ⟨2, ![1, 1]⟩
abbrev S1x192x64 : Shape := ⟨3, ![1, 192, 64]⟩
abbrev S192x64 : Shape := ⟨2, ![192, 64]⟩
abbrev S1x64x192 : Shape := ⟨3, ![1, 64, 192]⟩
abbrev S64x192 : Shape := ⟨2, ![64, 192]⟩
abbrev S1x1x64x192 : Shape := ⟨4, ![1, 1, 64, 192]⟩
abbrev S1x1x64x256 : Shape := ⟨4, ![1, 1, 64, 256]⟩
abbrev S64x256 : Shape := ⟨2, ![64, 256]⟩
abbrev S1x1x192x128 : Shape := ⟨4, ![1, 1, 192, 128]⟩
abbrev S192x128 : Shape := ⟨2, ![192, 128]⟩
abbrev S192x256 : Shape := ⟨2, ![192, 256]⟩
abbrev S1x256 : Shape := ⟨2, ![1, 256]⟩
abbrev S1x1x192x64 : Shape := ⟨4, ![1, 1, 192, 64]⟩

abbrev nBuf : Space → Nat
  | .hbm => 25
  | .vmem => 22
  | .smem => 4
  | _ => 0

abbrev bufTy : (tb : Table) → Fin (tcTables nBuf tb) → BufTy
  | .hbm, ⟨0, _⟩ => ⟨S192x7x64, .bf16⟩
  | .hbm, ⟨1, _⟩ => ⟨S24x16384x7x64, .fp8e4m3⟩
  | .hbm, ⟨2, _⟩ => ⟨S24x7, .f32⟩
  | .hbm, ⟨3, _⟩ => ⟨S24x16384x7x64, .fp8e4m3⟩
  | .hbm, ⟨4, _⟩ => ⟨S24x7, .f32⟩
  | .hbm, ⟨5, _⟩ => ⟨S24x7x192, .f32⟩
  | .hbm, ⟨6, _⟩ => ⟨S24x192x7x64, .fp8e5m2⟩
  | .hbm, ⟨7, _⟩ => ⟨S24x7, .f32⟩
  | .hbm, ⟨8, _⟩ => ⟨S24x7x192, .f32⟩
  | .hbm, ⟨9, _⟩ => ⟨S24x7x64x16384, .fp8e4m3⟩
  | .hbm, ⟨10, _⟩ => ⟨S24x7x64x16384, .fp8e4m3⟩
  | .hbm, ⟨11, _⟩ => ⟨S24x7x64x192, .fp8e5m2⟩
  | .hbm, ⟨12, _⟩ => ⟨S7x64x192, .bf16⟩
  | .hbm, ⟨13, _⟩ => ⟨S7x192x64, .bf16⟩
  | .hbm, ⟨14, _⟩ => ⟨S24x7x192x64, .fp8e5m2⟩
  | .hbm, ⟨15, _⟩ => ⟨S24x7x192x1, .f32⟩
  | .hbm, ⟨16, _⟩ => ⟨S24x7x192x128, .f32⟩
  | .hbm, ⟨17, _⟩ => ⟨S24x7x192x1, .f32⟩
  | .hbm, ⟨18, _⟩ => ⟨S24x7x192x128, .f32⟩
  | .hbm, ⟨19, _⟩ => ⟨S7x24, .f32⟩
  | .hbm, ⟨20, _⟩ => ⟨S7x24, .f32⟩
  | .hbm, ⟨21, _⟩ => ⟨S24x7x64x16384, .bf16⟩
  | .hbm, ⟨22, _⟩ => ⟨S24x7x64x16384, .bf16⟩
  | .hbm, ⟨23, _⟩ => ⟨S24x7x64x192, .f32⟩
  | .hbm, ⟨24, _⟩ => ⟨S7x64x192, .bf16⟩
  | .local _ .vmem, ⟨0, _⟩ => ⟨S7x192x64, .bf16⟩
  | .local _ .vmem, ⟨1, _⟩ => ⟨S7x64x192, .bf16⟩
  | .local _ .vmem, ⟨2, _⟩ => ⟨S1x7x64x1024, .fp8e4m3⟩
  | .local _ .vmem, ⟨3, _⟩ => ⟨S1x7x64x1024, .fp8e4m3⟩
  | .local _ .vmem, ⟨4, _⟩ => ⟨S1x7x64x1024, .fp8e4m3⟩
  | .local _ .vmem, ⟨5, _⟩ => ⟨S1x7x64x1024, .fp8e4m3⟩
  | .local _ .vmem, ⟨6, _⟩ => ⟨S1x7x192x128, .f32⟩
  | .local _ .vmem, ⟨7, _⟩ => ⟨S1x7x192x128, .f32⟩
  | .local _ .vmem, ⟨8, _⟩ => ⟨S1x7x192x128, .f32⟩
  | .local _ .vmem, ⟨9, _⟩ => ⟨S1x7x192x128, .f32⟩
  | .local _ .vmem, ⟨10, _⟩ => ⟨S1x7x192x64, .fp8e5m2⟩
  | .local _ .vmem, ⟨11, _⟩ => ⟨S1x7x192x64, .fp8e5m2⟩
  | .local _ .vmem, ⟨12, _⟩ => ⟨S1x7x64x192, .fp8e5m2⟩
  | .local _ .vmem, ⟨13, _⟩ => ⟨S1x7x64x192, .fp8e5m2⟩
  | .local _ .vmem, ⟨14, _⟩ => ⟨S1x7x64x1024, .bf16⟩
  | .local _ .vmem, ⟨15, _⟩ => ⟨S1x7x64x1024, .bf16⟩
  | .local _ .vmem, ⟨16, _⟩ => ⟨S1x7x64x1024, .bf16⟩
  | .local _ .vmem, ⟨17, _⟩ => ⟨S1x7x64x1024, .bf16⟩
  | .local _ .vmem, ⟨18, _⟩ => ⟨S1x7x64x192, .f32⟩
  | .local _ .vmem, ⟨19, _⟩ => ⟨S1x7x64x192, .f32⟩
  | .local _ .vmem, ⟨20, _⟩ => ⟨S7x64x192, .bf16⟩
  | .local _ .vmem, ⟨21, _⟩ => ⟨S7x64x192, .f32⟩
  | .local _ .smem, ⟨0, _⟩ => ⟨S24, .i32⟩
  | .local _ .smem, ⟨1, _⟩ => ⟨S7x24, .f32⟩
  | .local _ .smem, ⟨2, _⟩ => ⟨S7x24, .f32⟩
  | .local _ .smem, ⟨3, _⟩ => ⟨S24x7, .f32⟩
  | _, _ => ⟨S192x7x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_arg9 : Ref sig .tc := ⟨.smem, 0, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc0_stg0_0 : Ref sig .tc := ⟨.smem, 1, rfl⟩
abbrev cc0_stg1_0 : Ref sig .tc := ⟨.smem, 2, rfl⟩
abbrev cc0_stg2_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![24, 16], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let c0 : Index := 0#32
  let arg0 : BitVec 32 := BitVec.ofNat 32 (i 0).val
  let v25 : Index := Scalar.indexCast arg0
  ![0, v25.toNat]
def k0_off3 (i : grid0.Coords) : Fin 2 → Nat :=
  let arg0 : BitVec 32 := BitVec.ofNat 32 (i 0).val
  let v28 : Index := Scalar.indexCast arg0
  let c0_9 : Index := 0#32
  ![v28.toNat, 0]
def k0_off4 (i : grid0.Coords) : Fin 2 → Nat :=
  let c1 : Index := 1#32
  let arg0 : BitVec 32 := BitVec.ofNat 32 (i 0).val
  let v253 : Index := Scalar.indexCast arg0
  ![1, v253.toNat]
def k0_off5 (i : grid0.Coords) : Fin 2 → Nat :=
  let arg0 : BitVec 32 := BitVec.ofNat 32 (i 0).val
  let v256 : Index := Scalar.indexCast arg0
  let c1_169 : Index := 1#32
  ![v256.toNat, 1]
def k0_off6 (i : grid0.Coords) : Fin 2 → Nat :=
  let c2 : Index := 2#32
  let arg0 : BitVec 32 := BitVec.ofNat 32 (i 0).val
  let v481 : Index := Scalar.indexCast arg0
  ![2, v481.toNat]
def k0_off7 (i : grid0.Coords) : Fin 2 → Nat :=
  let arg0 : BitVec 32 := BitVec.ofNat 32 (i 0).val
  let v484 : Index := Scalar.indexCast arg0
  let c2_335 : Index := 2#32
  ![v484.toNat, 2]
def k0_off8 (i : grid0.Coords) : Fin 2 → Nat :=
  let c3 : Index := 3#32
  let arg0 : BitVec 32 := BitVec.ofNat 32 (i 0).val
  let v709 : Index := Scalar.indexCast arg0
  ![3, v709.toNat]
def k0_off9 (i : grid0.Coords) : Fin 2 → Nat :=
  let arg0 : BitVec 32 := BitVec.ofNat 32 (i 0).val
  let v712 : Index := Scalar.indexCast arg0
  let c3_501 : Index := 3#32
  ![v712.toNat, 3]
def k0_off10 (i : grid0.Coords) : Fin 2 → Nat :=
  let c4 : Index := 4#32
  let arg0 : BitVec 32 := BitVec.ofNat 32 (i 0).val
  let v937 : Index := Scalar.indexCast arg0
  ![4, v937.toNat]
def k0_off11 (i : grid0.Coords) : Fin 2 → Nat :=
  let arg0 : BitVec 32 := BitVec.ofNat 32 (i 0).val
  let v940 : Index := Scalar.indexCast arg0
  let c4_667 : Index := 4#32
  ![v940.toNat, 4]
def k0_off12 (i : grid0.Coords) : Fin 2 → Nat :=
  let c5 : Index := 5#32
  let arg0 : BitVec 32 := BitVec.ofNat 32 (i 0).val
  let v1165 : Index := Scalar.indexCast arg0
  ![5, v1165.toNat]
def k0_off13 (i : grid0.Coords) : Fin 2 → Nat :=
  let arg0 : BitVec 32 := BitVec.ofNat 32 (i 0).val
  let v1168 : Index := Scalar.indexCast arg0
  let c5_833 : Index := 5#32
  ![v1168.toNat, 5]
def k0_off14 (i : grid0.Coords) : Fin 2 → Nat :=
  let c6 : Index := 6#32
  let arg0 : BitVec 32 := BitVec.ofNat 32 (i 0).val
  let v1393 : Index := Scalar.indexCast arg0
  ![6, v1393.toNat]
def k0_off15 (i : grid0.Coords) : Fin 2 → Nat :=
  let arg0 : BitVec 32 := BitVec.ofNat 32 (i 0).val
  let v1396 : Index := Scalar.indexCast arg0
  let c6_999 : Index := 6#32
  ![v1396.toNat, 6]
def k0_cond3 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let v11 : BitVec 1 := Scalar.cmpi .sge v2 v1
  let v12 : BitVec 32 := Scalar.extui v11
  let c0_i32_4 : BitVec 32 := 0#32
  let v13 : BitVec 1 := Scalar.cmpi .ne v12 c0_i32_4
  v13

def k0_cond4 (i : grid0.Coords) (v1 : BitVec 32) : BitVec 1 :=
  let arg1 : BitVec 32 := BitVec.ofNat 32 (i 1).val
  let c1024_i32 : BitVec 32 := 1024#32
  let v2 : BitVec 32 := Scalar.muli arg1 c1024_i32
  let v14 : BitVec 1 := Scalar.cmpi .slt v2 v1
  let v15 : BitVec 32 := Scalar.extui v14
  let c0_i32_5 : BitVec 32 := 0#32
  let v16 : BitVec 1 := Scalar.cmpi .ne v15 c0_i32_5
  v16

def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let v9 : BitVec 32 := Scalar.extui v8
  let c0_i32_3 : BitVec 32 := 0#32
  let v10 : BitVec 1 := Scalar.cmpi .ne v9 c0_i32_3
  v10

def k0_cond6 (i : grid0.Coords) : BitVec 1 :=
  let arg0 : BitVec 32 := BitVec.ofNat 32 (i 0).val
  let c23_i32 : BitVec 32 := 23#32
  let v20 : BitVec 1 := Scalar.cmpi .eq arg0 c23_i32
  let arg1 : BitVec 32 := BitVec.ofNat 32 (i 1).val
  let c15_i32_7 : BitVec 32 := 15#32
  let v21 : BitVec 1 := Scalar.cmpi .eq arg1 c15_i32_7
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, c0_i32_5.toNat, c0_i32_6.toNat, v20.toNat]

def cc0_transform_6 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1024_i32 c0_i32_1
  let v10 : BitVec 32 := Scalar.extui v9
  let c0_i32_2 : BitVec 32 := 0#32
  let v11 : BitVec 1 := Scalar.cmpi .slt c1024_i32 c0_i32_2
  let v12 : BitVec 32 := Scalar.extui v11
  let v13 : BitVec 32 := Scalar.subi v10 v12
  let v14 : BitVec 1 := Scalar.cmpi .ne v8 v13
  let v15 : BitVec 32 := Scalar.remsi v2 c1024_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let v20 : BitVec 32 := Scalar.minsi arg1 v19
  let c0_i32_5 : BitVec 32 := 0#32
  let c0_i32_6 : BitVec 32 := 0#32
  let c0_i32_7 : BitVec 32 := 0#32
  ![arg0.toNat, c0_i32_5.toNat, c0_i32_6.toNat, v20.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S7x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S7x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S24x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S7x192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S7x64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x7x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x7x64x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x7x192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x7x192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x7x192x64 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x7x64x192 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x7x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x7x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x7x64x192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S7x64x192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S192x7x64 : Shape := ⟨3, ![192, 7, 64]⟩
abbrev S24x16384x7x64 : Shape := ⟨4, ![24, 16384, 7, 64]⟩
abbrev S24x7 : Shape := ⟨2, ![24, 7]⟩
abbrev S24x7x192 : Shape := ⟨3, ![24, 7, 192]⟩
abbrev S24x192x7x64 : Shape := ⟨4, ![24, 192, 7, 64]⟩
abbrev S24 : Shape := ⟨1, ![24]⟩
abbrev S24x1x1x1 : Shape := ⟨4, ![24, 1, 1, 1]⟩
abbrev S24x7x1x1 : Shape := ⟨4, ![24, 7, 1, 1]⟩
abbrev S_ : Shape := ⟨0, ![]⟩
abbrev S7x24x16384x192 : Shape := ⟨4, ![7, 24, 16384, 192]⟩
abbrev S24x7x192x16384 : Shape := ⟨4, ![24, 7, 192, 16384]⟩
abbrev S24x7x192x1 : Shape := ⟨4, ![24, 7, 192, 1]⟩
abbrev S24x7x64x16384 : Shape := ⟨4, ![24, 7, 64, 16384]⟩
abbrev S7x64x24x16384 : Shape := ⟨4, ![7, 64, 24, 16384]⟩
abbrev S24x7x64x192 : Shape := ⟨4, ![24, 7, 64, 192]⟩
abbrev S7x64x192 : Shape := ⟨3, ![7, 64, 192]⟩

abbrev nBuf : Space → Nat
  | .hbm => 64
  | .vmem => 6
  | .smem => 0
  | _ => 0

abbrev bufTy : (tb : Table) → Fin (tcTables nBuf tb) → BufTy
  | .hbm, ⟨0, _⟩ => ⟨S192x7x64, .bf16⟩
  | .hbm, ⟨1, _⟩ => ⟨S24x16384x7x64, .fp8e4m3⟩
  | .hbm, ⟨2, _⟩ => ⟨S24x7, .f32⟩
  | .hbm, ⟨3, _⟩ => ⟨S24x16384x7x64, .fp8e4m3⟩
  | .hbm, ⟨4, _⟩ => ⟨S24x7, .f32⟩
  | .hbm, ⟨5, _⟩ => ⟨S24x7x192, .f32⟩
  | .hbm, ⟨6, _⟩ => ⟨S24x192x7x64, .fp8e5m2⟩
  | .hbm, ⟨7, _⟩ => ⟨S24x7, .f32⟩
  | .hbm, ⟨8, _⟩ => ⟨S24x7x192, .f32⟩
  | .hbm, ⟨9, _⟩ => ⟨S24, .i32⟩
  | .hbm, ⟨10, _⟩ => ⟨S24x16384x7x64, .bf16⟩
  | .hbm, ⟨11, _⟩ => ⟨S24x16384x7x64, .bf16⟩
  | .hbm, ⟨12, _⟩ => ⟨S24x192x7x64, .bf16⟩
  | .hbm, ⟨13, _⟩ => ⟨S24x1x1x1, .i32⟩
  | .hbm, ⟨14, _⟩ => ⟨S24x7x1x1, .f32⟩
  | .hbm, ⟨15, _⟩ => ⟨S24x7x1x1, .f32⟩
  | .hbm, ⟨16, _⟩ => ⟨S24x7, .f32⟩
  | .hbm, ⟨17, _⟩ => ⟨S24x7x1x1, .f32⟩
  | .hbm, ⟨18, _⟩ => ⟨S_, .f32⟩
  | .hbm, ⟨19, _⟩ => ⟨S24x7x1x1, .f32⟩
  | .hbm, ⟨20, _⟩ => ⟨S24x7x1x1, .f32⟩
  | .hbm, ⟨21, _⟩ => ⟨S7x24x16384x192, .f32⟩
  | .hbm, ⟨22, _⟩ => ⟨S24x7x192x16384, .f32⟩
  | .hbm, ⟨23, _⟩ => ⟨S24x7x192x16384, .f32⟩
  | .hbm, ⟨24, _⟩ => ⟨S24x7x192x16384, .f32⟩
  | .hbm, ⟨25, _⟩ => ⟨S24x7x192x16384, .i32⟩
  | .hbm, ⟨26, _⟩ => ⟨S24x7x192x16384, .i32⟩
  | .hbm, ⟨27, _⟩ => ⟨S24x7x192x16384, .i1⟩
  | .hbm, ⟨28, _⟩ => ⟨S24x7x192x1, .f32⟩
  | .hbm, ⟨29, _⟩ => ⟨S24x7x192x16384, .f32⟩
  | .hbm, ⟨30, _⟩ => ⟨S24x7x192x16384, .f32⟩
  | .hbm, ⟨31, _⟩ => ⟨S24x7x192x16384, .f32⟩
  | .hbm, ⟨32, _⟩ => ⟨S_, .f32⟩
  | .hbm, ⟨33, _⟩ => ⟨S_, .f32⟩
  | .hbm, ⟨34, _⟩ => ⟨S24x7x192x16384, .f32⟩
  | .hbm, ⟨35, _⟩ => ⟨S24x7x192x16384, .f32⟩
  | .hbm, ⟨36, _⟩ => ⟨S24x7x192x16384, .f32⟩
  | .hbm, ⟨37, _⟩ => ⟨S24x7x192x16384, .f32⟩
  | .hbm, ⟨38, _⟩ => ⟨S24x7x192x16384, .f32⟩
  | .hbm, ⟨39, _⟩ => ⟨S24x7x192x1, .f32⟩
  | .hbm, ⟨40, _⟩ => ⟨S24x7x192x16384, .f32⟩
  | .hbm, ⟨41, _⟩ => ⟨S24x7x192x16384, .f32⟩
  | .hbm, ⟨42, _⟩ => ⟨S24x7x192x16384, .f32⟩
  | .hbm, ⟨43, _⟩ => ⟨S24x7x192x16384, .bf16⟩
  | .hbm, ⟨44, _⟩ => ⟨S24x7x192x16384, .bf16⟩
  | .hbm, ⟨45, _⟩ => ⟨S24x7x64x16384, .f32⟩
  | .hbm, ⟨46, _⟩ => ⟨S24x7x64x16384, .f32⟩
  | .hbm, ⟨47, _⟩ => ⟨S24x7x64x16384, .f32⟩
  | .hbm, ⟨48, _⟩ => ⟨S24x7x64x16384, .bf16⟩
  | .hbm, ⟨49, _⟩ => ⟨S7x64x24x16384, .f32⟩
  | .hbm, ⟨50, _⟩ => ⟨S24x7x64x16384, .f32⟩
  | .hbm, ⟨51, _⟩ => ⟨S_, .f32⟩
  | .hbm, ⟨52, _⟩ => ⟨S24x7x64x16384, .f32⟩
  | .hbm, ⟨53, _⟩ => ⟨S24x7x64x16384, .f32⟩
  | .hbm, ⟨54, _⟩ => ⟨S24x7x64x16384, .bf16⟩
  | .hbm, ⟨55, _⟩ => ⟨S_, .f32⟩
  | .hbm, ⟨56, _⟩ => ⟨S24x7x1x1, .f32⟩
  | .hbm, ⟨57, _⟩ => ⟨S24x7x1x1, .f32⟩
  | .hbm, ⟨58, _⟩ => ⟨S24x7x64x192, .f32⟩
  | .hbm, ⟨59, _⟩ => ⟨S24x7x64x192, .f32⟩
  | .hbm, ⟨60, _⟩ => ⟨S24x7x64x192, .f32⟩
  | .hbm, ⟨61, _⟩ => ⟨S_, .f32⟩
  | .hbm, ⟨62, _⟩ => ⟨S7x64x192, .f32⟩
  | .hbm, ⟨63, _⟩ => ⟨S7x64x192, .bf16⟩
  | .local _ .vmem, ⟨0, _⟩ => ⟨S24x16384x7x64, .fp8e4m3⟩
  | .local _ .vmem, ⟨1, _⟩ => ⟨S24x16384x7x64, .fp8e4m3⟩
  | .local _ .vmem, ⟨2, _⟩ => ⟨S24x192x7x64, .fp8e5m2⟩
  | .local _ .vmem, ⟨3, _⟩ => ⟨S24x16384x7x64, .bf16⟩
  | .local _ .vmem, ⟨4, _⟩ => ⟨S24x16384x7x64, .bf16⟩
  | .local _ .vmem, ⟨5, _⟩ => ⟨S24x192x7x64, .bf16⟩
  | _, _ => ⟨S192x7x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x16384x7x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x16384x7x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x192x7x64 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x16384x7x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x16384x7x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x192x7x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/- The word arithmetic of the tile index: the floor quotient of a length less one by the tile's 1024 positions, as it prints. -/
module

public import Idealize.ShloMosaic.Lib.Routing.Words
public import Idealize.ShloMosaic.PureOps

@[expose] public section

namespace Cert.Own

open Idealize.ShloMosaic

/-- The floor quotient by 1024, as the index map computes it. -/
def floorTile (x : BitVec 32) : BitVec 32 :=
  Scalar.select (Scalar.andi (Scalar.cmpi .ne (Scalar.subi (Scalar.extui (Scalar.cmpi .sgt x 0#32)) (Scalar.extui (Scalar.cmpi .slt x 0#32))) (Scalar.subi (Scalar.extui (Scalar.cmpi .sgt 1024#32 0#32)) (Scalar.extui (Scalar.cmpi .slt 1024#32 0#32)))) (Scalar.cmpi .ne (Scalar.remsi x 1024#32) 0#32)) (Scalar.subi (Scalar.divsi x 1024#32) 1#32) (Scalar.divsi x 1024#32)

/-- Of a word that is not negative it is the quotient. -/
theorem floorTile_of_nonneg (a : Nat) (ha : a < 2 ^ 31) : floorTile (BitVec.ofNat 32 a) = BitVec.ofNat 32 (a / 1024) := by
  have hd : Scalar.divsi (BitVec.ofNat 32 a) 1024#32 = BitVec.ofNat 32 (a / 1024) := Routing.divsi_word _ ha (by decide) (by decide)
  by_cases h0 : a = 0
  · subst h0; decide
  · have hs : (BitVec.ofNat 32 a).slt 0#32 = false := by
      rw [BitVec.slt_eq_decide, BitVec.toInt_eq_toNat_of_lt (by rw [BitVec.toNat_ofNat]; omega), decide_eq_false_iff_not]
      have : (0#32).toInt = 0 := by decide
      omega
    have hg : (0#32).slt (BitVec.ofNat 32 a) = true := by
      rw [BitVec.slt_eq_decide, BitVec.toInt_eq_toNat_of_lt (x := BitVec.ofNat 32 a) (by rw [BitVec.toNat_ofNat]; omega)]
      rw [BitVec.toNat_ofNat, Nat.mod_eq_of_lt (by omega)]
      simp; omega
    have e : Scalar.cmpi .ne (Scalar.subi (Scalar.extui (Scalar.cmpi .sgt (BitVec.ofNat 32 a) 0#32)) (Scalar.extui (Scalar.cmpi .slt (BitVec.ofNat 32 a) 0#32))) (Scalar.subi (Scalar.extui (Scalar.cmpi .sgt 1024#32 0#32)) (Scalar.extui (Scalar.cmpi .slt 1024#32 0#32))) = 0#1 := by
      simp only [Scalar.cmpi, IntOp.cmpi, hs, hg]
      decide
    unfold floorTile
    rw [e, hd]
    have ea : ∀ b : BitVec 1, Scalar.andi 0#1 b = 0#1 := by decide
    rw [ea]
    rfl

/-- The least of a tile's number and a word, of words that are not negative. -/
theorem minsi_word (a b : Nat) (ha : a < 2 ^ 31) (hb : b < 2 ^ 31) : (Scalar.minsi (BitVec.ofNat 32 a) (BitVec.ofNat 32 b)).toNat = min a b := by
  have hs : (BitVec.ofNat 32 a).slt (BitVec.ofNat 32 b) = decide (a < b) := by
    rw [BitVec.slt_eq_decide, BitVec.toInt_eq_toNat_of_lt (x := BitVec.ofNat 32 a) (by rw [BitVec.toNat_ofNat]; omega), BitVec.toInt_eq_toNat_of_lt (x := BitVec.ofNat 32 b) (by rw [BitVec.toNat_ofNat]; omega)]
    rw [BitVec.toNat_ofNat, Nat.mod_eq_of_lt (by omega), BitVec.toNat_ofNat, Nat.mod_eq_of_lt (by omega)]
    simp
  simp only [Scalar.minsi, IntOp.minsi, hs]
  by_cases h : a < b
  · rw [if_pos (decide_eq_true h), BitVec.toNat_ofNat]; omega
  · rw [if_neg (by simpa using h), BitVec.toNat_ofNat]; omega

/-- A word that is at least one, read signed, is its number, and that is positive and below `2 ^ 31`. -/
theorem pos_of_sge (x : BitVec 32) (h : IntOp.cmpi .sge x 1#32 = 1#1) : 0 < x.toNat ∧ x.toNat < 2 ^ 31 := by
  have h' : (1#32).sle x = true := by
    simp only [IntOp.cmpi] at h
    cases hh : (1#32).sle x
    · rw [hh] at h; exact absurd h (by decide)
    · rfl
  rw [BitVec.sle_eq_decide, decide_eq_true_eq] at h'
  have h1 : (1#32).toInt = 1 := by decide
  rw [h1] at h'
  have hx := BitVec.isLt x
  rw [BitVec.toInt_eq_toNat_cond] at h'
  split at h' <;> omega

/-- The tile index of the key and value blocks. -/
theorem tile_toNat (x : BitVec 32) (hx : 0 < x.toNat ∧ x.toNat < 2 ^ 31) (t : Nat) (ht : t < 2 ^ 31) :
    (Scalar.minsi (BitVec.ofNat 32 t) (floorTile (Scalar.subi x 1#32))).toNat = min t ((x.toNat - 1) / 1024) := by
  have e : Scalar.subi x 1#32 = BitVec.ofNat 32 (x.toNat - 1) := by
    apply BitVec.eq_of_toNat_eq
    show (x - 1#32).toNat = _
    rw [BitVec.toNat_sub, BitVec.toNat_ofNat, BitVec.toNat_ofNat]
    omega
  rw [e, floorTile_of_nonneg _ (by omega), minsi_word _ _ ht (by omega)]

end Cert.Own
-- ==== Proof.Pre.lean ====
/- The precondition on the lengths, element by element. -/
module

public import proofs.«01_k».proof.Pre_lengths
public import proofs.«01_k».proof.Proof.Gen.Pre_lengths
public import proofs.«01_k».proof.Proof.Words
public import Idealize.ShloMosaic.Lib.ValueIdx

@[expose] public section

namespace Cert.Own

open Idealize.ShloMosaic Idealize.ShloMosaic.ValueIdx Cert.Pre_lengths

/-- Lengths that the precondition admits are positive, and not negative when they are read signed. -/
theorem lens_of_lengths {F : FTy → Type} [FloatOps F] (a0 : FVec F S192x7x64 .bf16) (a1 : FVec F S24x16384x7x64 .fp8e4m3) (a2 : FVec F S24x7 .f32) (a3 : FVec F S24x16384x7x64 .fp8e4m3) (a4 : FVec F S24x7 .f32) (a5 : FVec F S24x7x192 .f32) (a6 : FVec F S24x192x7x64 .fp8e5m2) (a7 : FVec F S24x7 .f32) (a8 : FVec F S24x7x192 .f32) (a9 : IVec S24 32)
    (h : fn a0 a1 a2 a3 a4 a5 a6 a7 a8 a9 = fun _ => 1#1) (b : Fin 24) : 0 < (a9 (ix1 b)).toNat ∧ (a9 (ix1 b)).toNat < 2 ^ 31 :=
  pos_of_sge _ (congrFun h (ix1 b))

end Cert.Own
-- ==== Proof.PreScaled.lean ====
/- The precondition on the lengths and the scales of the keys, element by element. -/
module

public import proofs.«01_k».proof.Pre_scaled
public import proofs.«01_k».proof.Proof.Gen.Pre_scaled
public import proofs.«01_k».proof.Proof.Words
public import Idealize.ShloMosaic.Lib.ReduceAll
public import Idealize.ShloMosaic.Lib.IdealHost
public import Idealize.ShloMosaic.Lib.ValueIdx

@[expose] public section

namespace Cert.Own

open Idealize.ShloMosaic Idealize.ShloMosaic.ValueIdx Cert.Pre_scaled

theorem ofBits_inf : Ideal.ofBits .f32 0x7F800000#32 = ⊤ := by simp [Ideal.ofBits, Ideal.ieee]

instance : Subsingleton S_.Idx := ⟨fun x y => funext fun a => a.elim0⟩

section
variable (a0 : FVec Ideal S192x7x64 .bf16) (a1 : FVec Ideal S24x16384x7x64 .fp8e4m3) (a2 : FVec Ideal S24x7 .f32) (a3 : FVec Ideal S24x16384x7x64 .fp8e4m3) (a4 : FVec Ideal S24x7 .f32) (a5 : FVec Ideal S24x7x192 .f32) (a6 : FVec Ideal S24x192x7x64 .fp8e5m2) (a7 : FVec Ideal S24x7 .f32) (a8 : FVec Ideal S24x7x192 .f32) (a9 : IVec S24 32)
  (h : fn a0 a1 a2 a3 a4 a5 a6 a7 a8 a9 = fun _ => 1#1)
include h

/-- Lengths that the precondition admits are positive, and not negative when they are read signed. -/
theorem lens_of_scaled (b : Fin 24) : 0 < (a9 (ix1 b)).toNat ∧ (a9 (ix1 b)).toNat < 2 ^ 31 :=
  pos_of_sge _ (Host.reduce_andi_all _ _ _ _ ix0 (IntOp.andi_eq_one.1 (congrFun h ix0)).1 (ix1 b))

/-- Scales that the precondition admits are not negative, and finite. -/
theorem scales_of_scaled (b : Fin 24) (j : Fin 7) : 0 ≤ a2 (ix2 b j) ∧ a2 (ix2 b j) ≠ ⊤ := by
  have e := IntOp.andi_eq_one.1 (Host.reduce_andi_all _ _ _ _ ix0 (IntOp.andi_eq_one.1 (congrFun h ix0)).2 (ix2 b j))
  have e1 : Ideal.cmp .oge (a2 (ix2 b j)) (Ideal.ofBits .f32 0x00000000#32) = 1#1 := e.1
  have e2 : Ideal.cmp .olt (a2 (ix2 b j)) (Ideal.ofBits .f32 0x7F800000#32) = 1#1 := e.2
  rw [Ideal.ofBits_zero_f32] at e1
  rw [ofBits_inf] at e2
  constructor
  · by_contra hc
    simp [Ideal.cmp, hc] at e1
  · intro hc
    rw [hc] at e2
    simp [Ideal.cmp] at e2
end

end Cert.Own
-- ==== Proof.Kernel.Base.lean ====
/- The frame of the main call, shared part: what @main leaves before the pipelined region, the prefetched length table,
   the windows' blocks, the branch conditions of the body in closed form, and the staging memrefs. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))

/-! ## The prefetched table of lengths -/

/-- The table's contents when the region is entered. -/
def tbl : pre0.Contents (Elt F) := fun j => V m (0 : Dev nD) (pre0.ref j)
/-- There is one device: on every device the table holds those contents. -/
theorem V_pre (c : Dev nD) (j : Fin 1) : V m c (pre0.ref j) = tbl m j := by
  obtain rfl : c = 0 := Subsingleton.elim _ _; rfl
/-- The region's side condition of the table: the key and value blocks it selects lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S24 .i32 := Memref.whole main_arg9
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word the body loads from the table at a grid point: the length of the point's sequence. -/
abbrev tword (c : Dev nD) (xt0 : TbBuf0 (F := F) c tbM0_0) (i : grid0.Coords) : BitVec 32 :=
  View.readAt (Elt F) tbM0_0.view (Rect.unit (s := S24) (k0_off1 i) S1.size (k0_off1_inb i)).toLoadRect xt0 (Shape.Idx.first (numel1_S1.symm ▸ Nat.one_pos))

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The branch conditions on the grid point -/

theorem coords_b (t : Fin grid0.N) : (grid0.coords t 0).val = t.val / 16 := by
  have ht : t.val < 384 := Nat.lt_of_lt_of_eq t.isLt N_0
  have e : (grid0.coords t 0).val = t.val / 16 % 24 := Pipeline.Grid.coords_val t 0 (by decide) rfl
  omega
theorem coords_t (t : Fin grid0.N) : (grid0.coords t 1).val = t.val % 16 := by
  have e : (grid0.coords t 1).val = t.val / 1 % 16 := Pipeline.Grid.coords_val t 1 (by decide) rfl
  omega

abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first point. -/
theorem hcond0_1 (t : Fin grid0.N) : cond0_1 (grid0.coords t) ↔ t.val = 0 := by
  have ht : t.val < 384 := Nat.lt_of_lt_of_eq t.isLt N_0
  have e0 := coords_b t
  have e1 := coords_t t
  simp only [cond0_1, e0, e1]
  word_cmp
abbrev cond0_2 (i : grid0.Coords) : Prop := k0_cond2 i = 1#1
/-- The first tile of a sequence. -/
theorem hcond0_2 (t : Fin grid0.N) : cond0_2 (grid0.coords t) ↔ t.val % 16 = 0 := by
  have ht : t.val < 384 := Nat.lt_of_lt_of_eq t.isLt N_0
  have e0 := coords_b t
  have e1 := coords_t t
  simp only [cond0_2, k0_cond2, e0, e1]
  word_cmp
abbrev cond0_5 (i : grid0.Coords) : Prop := (Scalar.cmpi .ne (Scalar.extui (Scalar.cmpi .eq (BitVec.ofNat 32 (i 1).val) 15#32)) 0#32) = 1#1
/-- The last tile of a sequence. -/
theorem hcond0_5 (t : Fin grid0.N) : cond0_5 (grid0.coords t) ↔ t.val % 16 = 15 := by
  have ht : t.val < 384 := Nat.lt_of_lt_of_eq t.isLt N_0
  have e0 := coords_b t
  have e1 := coords_t t
  simp only [cond0_5, e0, e1]
  word_cmp
abbrev cond0_6 (i : grid0.Coords) : Prop := k0_cond6 i = 1#1
/-- The last point. -/
theorem hcond0_6 (t : Fin grid0.N) : cond0_6 (grid0.coords t) ↔ t.val = 383 := by
  have ht : t.val < 384 := Nat.lt_of_lt_of_eq t.isLt N_0
  have e0 := coords_b t
  have e1 := coords_t t
  simp only [cond0_6, k0_cond6, e0, e1]
  word_cmp

/-! ## The staging memrefs -/

abbrev ms0_0 (hO : Ok m) (t : Fin (cfgM m hO).N) : Memref sig .tc .smem S7x24 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S7x24 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S24x7 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S7x192x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S7x64x192 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x7x64x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x7x64x1024 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x7x192x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x7x192x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x7x192x64 .fp8e5m2 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x7x64x192 .fp8e5m2 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x7x64x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x7x64x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x7x64x192 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S7x64x192 .bf16 := spec0_14.stage ((cfgM m hO).slots t 14)
abbrev hs0_14 (hO : Ok m) (t : Fin (cfgM m hO).N) : (ms0_14 m hO t).IsWhole := hstage0_14 (((cfgM m hO).slots t 14).cast nbuf0_14)
/-- The accumulator scratch. -/
abbrev scM0_0 : Memref sig .tc .vmem S7x64x192 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_main (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.Kernel.Own

end
-- ==== Proof.Kernel.Block.lean ====
/- One head and one block of 256 positions of the body: the program of a block and of a head with the head and the block
   as parameters, the values they compute, and the body of the kernel as the seven heads in a row. -/
module

public import proofs.«01_k».proof.Proof.Kernel.Base

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of a block -/

/-- The masked softmax weights of a block: `exp (cs * (q k) - lse)` at the positions before `n`, zero elsewhere. -/
def pBlk (cs : F .f32) (n st : BitVec 32) (q : FVec F S192x64 .bf16) (k : FVec F S64x256 .bf16) (l : FVec F S192x256 .f32) : FVec F S192x256 .f32 :=
  select (broadcastTo S192x256 (shapeCast S1x256 (cmpi .slt (addi (broadcast S1x256 st) (iota .tc S1x256 32 [1] iota_S1x256_d1_w32)) (broadcast S1x256 n)) shapeCasts_S1x256_S1x256) broadcasts_S1x256_S192x256)
    (exp (subf (mulf (broadcast S192x256 cs) (matmul dot_S192x64_S64x256_S192x256_1_0_0_1_n_n none q k (constant S192x256 .f32 0x00000000#32))) l))
    (broadcast S192x256 (Scalar.ofBits .f32 0x00000000#32))

/-- The gradient of a block's scores, rounded: `p * (cdp * (do v) - delta)`. -/
def dsBlk (cdp : F .f32) (p : FVec F S192x256 .f32) (d : FVec F S192x64 .fp8e5m2) (v : FVec F S64x256 .fp8e4m3) (de : FVec F S192x256 .f32) : FVec F S192x256 .bf16 :=
  truncf .bf16 (mulf p (subf (mulf (broadcast S192x256 cdp) (matmul dot_S192x64_S64x256_S192x256_1_0_0_1_n_n none d v (constant S192x256 .f32 0x00000000#32))) de)) bitsLt_bf16_f32

/-- The gradient of a block's values. -/
def dvBlk (dsc : F .f32) (doT : FVec F S64x192 .bf16) (p : FVec F S192x256 .f32) : FVec F S64x256 .bf16 :=
  truncf .bf16 (mulf (broadcast S64x256 dsc) (matmul dot_S64x192_S192x256_S64x256_1_0_0_1_n_n none doT (truncf .bf16 p bitsLt_bf16_f32) (constant S64x256 .f32 0x00000000#32))) bitsLt_bf16_f32

/-- The gradient of a block's keys. -/
def dkBlk (qt : FVec F S64x192 .bf16) (ds : FVec F S192x256 .bf16) : FVec F S64x256 .bf16 :=
  truncf .bf16 (mulf (broadcast S64x256 (Scalar.ofBits .f32 0x3E000000#32)) (matmul dot_S64x192_S192x256_S64x256_1_0_0_1_n_n none qt ds (constant S64x256 .f32 0x00000000#32))) bitsLt_bf16_f32

/-- A block's part of the gradient of the queries. -/
def dqBlk (k : FVec F S64x256 .bf16) (ds : FVec F S192x256 .bf16) : FVec F S64x192 .f32 :=
  matmul dot_S64x256_S192x256_S64x192_1_1_0_0_n_n none k ds (constant S64x192 .f32 0x00000000#32)

/-- One half of a row twice: the log-sum-exp and the delta are kept 128 lanes wide. -/
def twice (x : Vec F S1x1x192x128 .f32) : FVec F S192x256 .f32 :=
  concatenate S192x256 1 [⟨S192x128, shapeCast S192x128 x shapeCasts_S1x1x192x128_S192x128⟩, ⟨S192x128, shapeCast S192x128 x shapeCasts_S1x1x192x128_S192x128⟩] concatenates_S192x128_S192x128_S192x256_d1

/-! ## The places a block and a head read and write -/

theorem inbKv (h j : Nat) (hh : h < 7) (hj : j < 4) : ∀ a, (![0, h, 0, 256 * j] : Fin 4 → Nat) a + S1x1x64x256.size a ≤ S1x7x64x1024.size a := by
  intro a; fin_cases a
  · show 0 + 1 ≤ 1
    omega
  · show h + 1 ≤ 7
    omega
  · show 0 + 64 ≤ 64
    omega
  · show 256 * j + 256 ≤ 1024
    omega

abbrev rectKv (h j : Nat) (hh : h < 7) (hj : j < 4) : Rect S1x7x64x1024 := Rect.unit (s := S1x7x64x1024) ![0, h, 0, 256 * j] S1x1x64x256.size (inbKv h j hh hj)

theorem inbRow (h : Nat) (hh : h < 7) : ∀ a, (![0, h, 0, 0] : Fin 4 → Nat) a + S1x1x192x128.size a ≤ S1x7x192x128.size a := by
  intro a; fin_cases a
  · show 0 + 1 ≤ 1
    omega
  · show h + 1 ≤ 7
    omega
  · show 0 + 192 ≤ 192
    omega
  · show 0 + 128 ≤ 128
    omega

abbrev rectRow (h : Nat) (hh : h < 7) : Rect S1x7x192x128 := Rect.unit (s := S1x7x192x128) ![0, h, 0, 0] S1x1x192x128.size (inbRow h hh)

theorem inbDo (h : Nat) (hh : h < 7) : ∀ a, (![0, h, 0, 0] : Fin 4 → Nat) a + S1x1x192x64.size a ≤ S1x7x192x64.size a := by
  intro a; fin_cases a
  · show 0 + 1 ≤ 1
    omega
  · show h + 1 ≤ 7
    omega
  · show 0 + 192 ≤ 192
    omega
  · show 0 + 64 ≤ 64
    omega

abbrev rectDo (h : Nat) (hh : h < 7) : Rect S1x7x192x64 := Rect.unit (s := S1x7x192x64) ![0, h, 0, 0] S1x1x192x64.size (inbDo h hh)

theorem inbDoT (h : Nat) (hh : h < 7) : ∀ a, (![0, h, 0, 0] : Fin 4 → Nat) a + S1x1x64x192.size a ≤ S1x7x64x192.size a := by
  intro a; fin_cases a
  · show 0 + 1 ≤ 1
    omega
  · show h + 1 ≤ 7
    omega
  · show 0 + 64 ≤ 64
    omega
  · show 0 + 192 ≤ 192
    omega

abbrev rectDoT (h : Nat) (hh : h < 7) : Rect S1x7x64x192 := Rect.unit (s := S1x7x64x192) ![0, h, 0, 0] S1x1x64x192.size (inbDoT h hh)

theorem inbQ (h : Nat) (hh : h < 7) : ∀ a, (![h, 0, 0] : Fin 3 → Nat) a + S1x192x64.size a ≤ S7x192x64.size a := by
  intro a; fin_cases a
  · show h + 1 ≤ 7
    omega
  · show 0 + 192 ≤ 192
    omega
  · show 0 + 64 ≤ 64
    omega

abbrev rectQ (h : Nat) (hh : h < 7) : Rect S7x192x64 := Rect.unit (s := S7x192x64) ![h, 0, 0] S1x192x64.size (inbQ h hh)

theorem inbQt (h : Nat) (hh : h < 7) : ∀ a, (![h, 0, 0] : Fin 3 → Nat) a + S1x64x192.size a ≤ S7x64x192.size a := by
  intro a; fin_cases a
  · show h + 1 ≤ 7
    omega
  · show 0 + 64 ≤ 64
    omega
  · show 0 + 192 ≤ 192
    omega

abbrev rectQt (h : Nat) (hh : h < 7) : Rect S7x64x192 := Rect.unit (s := S7x64x192) ![h, 0, 0] S1x64x192.size (inbQt h hh)

theorem inbKs (i : grid0.Coords) (h : Nat) (hh : h < 7) : ∀ a, (![h, (Scalar.indexCast (BitVec.ofNat 32 (i 0).val) : Index).toNat] : Fin 2 → Nat) a + S1x1.size a ≤ S7x24.size a := by
  have h0 := k0_off2_inb i 1
  intro a; fin_cases a
  · show h + 1 ≤ 7
    omega
  · show (Scalar.indexCast (BitVec.ofNat 32 (i 0).val) : Index).toNat + 1 ≤ 24
    exact h0
abbrev rectKs (i : grid0.Coords) (h : Nat) (hh : h < 7) : Rect S7x24 := Rect.unit (s := S7x24) ![h, (Scalar.indexCast (BitVec.ofNat 32 (i 0).val) : Index).toNat] S1x1.size (inbKs i h hh)

theorem inbDs (i : grid0.Coords) (h : Nat) (hh : h < 7) : ∀ a, (![(Scalar.indexCast (BitVec.ofNat 32 (i 0).val) : Index).toNat, h] : Fin 2 → Nat) a + S1x1.size a ≤ S24x7.size a := by
  have h0 := k0_off2_inb i 1
  intro a; fin_cases a
  · show (Scalar.indexCast (BitVec.ofNat 32 (i 0).val) : Index).toNat + 1 ≤ 24
    exact h0
  · show h + 1 ≤ 7
    omega
abbrev rectDs (i : grid0.Coords) (h : Nat) (hh : h < 7) : Rect S24x7 := Rect.unit (s := S24x7) ![(Scalar.indexCast (BitVec.ofNat 32 (i 0).val) : Index).toNat, h] S1x1.size (inbDs i h hh)

theorem packedKv (h j : Nat) (hh : h < 7) (hj : j < 4) : (rectKv h j hh hj).PackedRows (EltTy.packing .bf16) :=
  Or.inr ⟨by decide, rfl, Or.inl ⟨by show (_ : Nat) ∣ 0; exact Nat.dvd_zero _, by show (_ : Nat) ∣ 64; decide⟩⟩

/-! ## The programs -/

section Prog
variable (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole)

/-- A block: reads its keys and values, stores the gradients of both, and returns the query gradient so far. -/
def blockP (n st : BitVec 32) (cs dsc cdp : F .f32) (q : FVec F S192x64 .bf16) (qt doT : FVec F S64x192 .bf16) (h j : Nat) (hh : h < 7) (hj : j < 4) (acc : FVec F S64x192 .f32) :
    Prog (TpuEff nD τ sig (Elt F) Λ₀ .tc) (FVec F S64x192 .f32) := do
  let k0 : Vec F S1x1x64x256 .fp8e4m3 ← Prog.lift (.load arg8 (rectKv h j hh hj).toLoadRect (View.loadsAt_vmem h_S1x1x64x256))
  let v0 : Vec F S1x1x64x256 .fp8e4m3 ← Prog.lift (.load arg9 (rectKv h j hh hj).toLoadRect (View.loadsAt_vmem h_S1x1x64x256))
  let l0 : Vec F S1x1x192x128 .f32 ← Prog.lift (.load arg10 (rectRow h hh).toLoadRect (View.loadsAt_vmem h_S1x1x192x128))
  let d0 : Vec F S1x1x192x128 .f32 ← Prog.lift (.load arg11 (rectRow h hh).toLoadRect (View.loadsAt_vmem h_S1x1x192x128))
  let do0 : Vec F S1x1x192x64 .fp8e5m2 ← Prog.lift (.load arg12 (rectDo h hh).toLoadRect (View.loadsAt_vmem h_S1x1x192x64))
  let kb : FVec F S64x256 .bf16 := extf .bf16 (shapeCast S64x256 k0 shapeCasts_S1x1x64x256_S64x256) bitsLt_fp8e4m3_bf16
  let p : FVec F S192x256 .f32 := pBlk cs n (Scalar.addi st (BitVec.ofNat 32 (256 * j))) q kb (twice l0)
  let ds : FVec F S192x256 .bf16 := dsBlk cdp p (shapeCast S192x64 do0 shapeCasts_S1x1x192x64_S192x64) (shapeCast S64x256 v0 shapeCasts_S1x1x64x256_S64x256) (twice d0)
  let _x : Vec F S1x1x64x256 .bf16 ← Prog.lift (.load arg15 (rectKv h j hh hj).toLoadRect (View.loadsAt_vmem h_S1x1x64x256))
  Prog.lift (.store arg15 (rectKv h j hh hj) (shapeCast S1x1x64x256 (dvBlk dsc doT p) shapeCasts_S64x256_S1x1x64x256) Finset.univ (View.stores_vmem h_S1x1x64x256 (harg15.storeExact_slice rfl _ (packedKv h j hh hj)) (fun _ => rfl)) (.inl rfl))
  let _y : Vec F S1x1x64x256 .bf16 ← Prog.lift (.load arg14 (rectKv h j hh hj).toLoadRect (View.loadsAt_vmem h_S1x1x64x256))
  Prog.lift (.store arg14 (rectKv h j hh hj) (shapeCast S1x1x64x256 (dkBlk qt ds) shapeCasts_S64x256_S1x1x64x256) Finset.univ (View.stores_vmem h_S1x1x64x256 (harg14.storeExact_slice rfl _ (packedKv h j hh hj)) (fun _ => rfl)) (.inl rfl))
  pure (addf acc (dqBlk kb ds))

/-- A head's scales, queries and output gradient. -/
def loadsP (i : grid0.Coords) (h : Nat) (hh : h < 7) :
    Prog (TpuEff nD τ sig (Elt F) Λ₀ .tc) (F .f32 × F .f32 × F .f32 × FVec F S192x64 .bf16 × FVec F S64x192 .bf16 × FVec F S64x192 .bf16) := do
  let ks : Elt F .f32 ← smemLoad arg3 (rectKs i h hh) numel1_S1x1 rfl
  let dsc : Elt F .f32 ← smemLoad arg5 (rectDs i h hh) numel1_S1x1 rfl
  let vs : Elt F .f32 ← smemLoad arg4 (rectKs i h hh) numel1_S1x1 rfl
  let q0 : Vec F S1x192x64 .bf16 ← Prog.lift (.load arg6 (rectQ h hh).toLoadRect (View.loadsAt_vmem h_S1x192x64))
  let qt0 : Vec F S1x64x192 .bf16 ← Prog.lift (.load arg7 (rectQt h hh).toLoadRect (View.loadsAt_vmem h_S1x64x192))
  let do0 : Vec F S1x1x64x192 .fp8e5m2 ← Prog.lift (.load arg13 (rectDoT h hh).toLoadRect (View.loadsAt_vmem h_S1x1x64x192))
  pure (Scalar.mulf (Scalar.ofBits .f32 0x3E000000#32) ks, dsc, Scalar.mulf dsc vs, shapeCast S192x64 q0 shapeCasts_S1x192x64_S192x64, shapeCast S64x192 qt0 shapeCasts_S1x64x192_S64x192,
    extf .bf16 (shapeCast S64x192 do0 shapeCasts_S1x1x64x192_S64x192) bitsLt_fp8e5m2_bf16)

/-- A head's part of the query gradient, scaled and added to its place. -/
def addP (cs : F .f32) (h : Nat) (hh : h < 7) (a : FVec F S64x192 .f32) : Prog (TpuEff nD τ sig (Elt F) Λ₀ .tc) PUnit := do
  let x : Vec F S1x1x64x192 .f32 ← Prog.lift (.load arg16 (rectDoT h hh).toLoadRect (View.loadsAt_vmem h_S1x1x64x192))
  let _y : Vec F S1x1x64x192 .f32 ← Prog.lift (.load arg16 (rectDoT h hh).toLoadRect (View.loadsAt_vmem h_S1x1x64x192))
  Prog.lift (.store arg16 (rectDoT h hh) (shapeCast S1x1x64x192 (addf (shapeCast S64x192 x shapeCasts_S1x1x64x192_S64x192) (mulf a (broadcast S64x192 cs))) shapeCasts_S64x192_S1x1x64x192) Finset.univ (View.stores_vmem_bits_univ h_S1x1x64x192 rfl) (.inl rfl))
  pure ⟨⟩

/-- A head: its scales, its queries and its output gradient, its four blocks, and its part of the query gradient. -/
def headP (i : grid0.Coords) (n st : BitVec 32) (h : Nat) (hh : h < 7) : Prog (TpuEff nD τ sig (Elt F) Λ₀ .tc) PUnit :=
  loadsP arg3 arg4 arg5 arg6 arg7 arg13 i h hh >>= fun t =>
  blockP arg8 arg9 arg10 arg11 arg12 arg14 harg14 arg15 harg15 n st t.1 t.2.1 t.2.2.1 t.2.2.2.1 t.2.2.2.2.1 t.2.2.2.2.2 h 0 hh (by decide) (broadcast S64x192 (Scalar.ofBits .f32 0x00000000#32)) >>= fun a0 =>
  blockP arg8 arg9 arg10 arg11 arg12 arg14 harg14 arg15 harg15 n st t.1 t.2.1 t.2.2.1 t.2.2.2.1 t.2.2.2.2.1 t.2.2.2.2.2 h 1 hh (by decide) a0 >>= fun a1 =>
  blockP arg8 arg9 arg10 arg11 arg12 arg14 harg14 arg15 harg15 n st t.1 t.2.1 t.2.2.1 t.2.2.2.1 t.2.2.2.2.1 t.2.2.2.2.2 h 2 hh (by decide) a1 >>= fun a2 =>
  blockP arg8 arg9 arg10 arg11 arg12 arg14 harg14 arg15 harg15 n st t.1 t.2.1 t.2.2.1 t.2.2.2.1 t.2.2.2.2.1 t.2.2.2.2.2 h 3 hh (by decide) a2 >>= fun a3 =>
  addP arg16 t.1 h hh a3

/-- The active section: the seven heads. -/
def activeP (i : grid0.Coords) (n st : BitVec 32) : Prog (TpuEff nD τ sig (Elt F) Λ₀ .tc) PUnit :=
  headP arg3 arg4 arg5 arg6 arg7 arg8 arg9 arg10 arg11 arg12 arg13 arg14 harg14 arg15 harg15 arg16 i n st 0 (by decide) >>= fun _ =>
  headP arg3 arg4 arg5 arg6 arg7 arg8 arg9 arg10 arg11 arg12 arg13 arg14 harg14 arg15 harg15 arg16 i n st 1 (by decide) >>= fun _ =>
  headP arg3 arg4 arg5 arg6 arg7 arg8 arg9 arg10 arg11 arg12 arg13 arg14 harg14 arg15 harg15 arg16 i n st 2 (by decide) >>= fun _ =>
  headP arg3 arg4 arg5 arg6 arg7 arg8 arg9 arg10 arg11 arg12 arg13 arg14 harg14 arg15 harg15 arg16 i n st 3 (by decide) >>= fun _ =>
  headP arg3 arg4 arg5 arg6 arg7 arg8 arg9 arg10 arg11 arg12 arg13 arg14 harg14 arg15 harg15 arg16 i n st 4 (by decide) >>= fun _ =>
  headP arg3 arg4 arg5 arg6 arg7 arg8 arg9 arg10 arg11 arg12 arg13 arg14 harg14 arg15 harg15 arg16 i n st 5 (by decide) >>= fun _ =>
  headP arg3 arg4 arg5 arg6 arg7 arg8 arg9 arg10 arg11 arg12 arg13 arg14 harg14 arg15 harg15 arg16 i n st 6 (by decide)

end Prog

end Cert.Kernel.Own

end
-- ==== Proof.Kernel.Body.lean ====
/- The body of the kernel in sections, its active section the seven heads in a row, and that this is the printed body. -/
module

public import proofs.«01_k».proof.Proof.Kernel.Block

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the sum over the sequences starts at zero. -/
def sec1P (i : grid0.Coords) (arg18 : Memref sig .tc .vmem S7x64x192 .f32) (harg18 : arg18.IsWhole) : Prog (TpuEff nD τ sig (Elt F) Λ₀ .tc) PUnit :=
  if k0_h1 : cond0_1 i then do
    let v26 : Vec F S7x64x192 .f32 ← Prog.lift (.load arg18 (Rect.unit (s := S7x64x192) ![0, 0, 0] S7x64x192.size inb_S7x64x192_S7x64x192_0_0_0).toLoadRect (View.loadsAt_vmem h_S7x64x192))
    Prog.lift (.store arg18 (Rect.unit (s := S7x64x192) ![0, 0, 0] S7x64x192.size inb_S7x64x192_S7x64x192_0_0_0) (k0_pay1 (F := F)) Finset.univ (View.stores_vmem_bits_univ h_S7x64x192 rfl) (.inl rfl))
    pure ⟨⟩
  else pure ⟨⟩

/-- At the first tile of a sequence its query gradient starts at zero. -/
def sec2P (i : grid0.Coords) (arg16 : Memref sig .tc .vmem S1x7x64x192 .f32) (harg16 : arg16.IsWhole) : Prog (TpuEff nD τ sig (Elt F) Λ₀ .tc) PUnit :=
  if k0_h2 : cond0_2 i then do
    let v26 : Vec F S1x7x64x192 .f32 ← Prog.lift (.load arg16 (Rect.unit (s := S1x7x64x192) ![0, 0, 0, 0] S1x7x64x192.size inb_S1x7x64x192_S1x7x64x192_0_0_0_0).toLoadRect (View.loadsAt_vmem h_S1x7x64x192))
    Prog.lift (.store arg16 (Rect.unit (s := S1x7x64x192) ![0, 0, 0, 0] S1x7x64x192.size inb_S1x7x64x192_S1x7x64x192_0_0_0_0) (k0_pay2 (F := F)) Finset.univ (View.stores_vmem_bits_univ h_S1x7x64x192 rfl) (.inl rfl))
    pure ⟨⟩
  else pure ⟨⟩

/-- Past the valid positions the key and value gradients are zero. -/
def sec3P (i : grid0.Coords) (n : BitVec 32) (arg14 : Memref sig .tc .vmem S1x7x64x1024 .bf16) (harg14 : arg14.IsWhole) (arg15 : Memref sig .tc .vmem S1x7x64x1024 .bf16) (harg15 : arg15.IsWhole) : Prog (TpuEff nD τ sig (Elt F) Λ₀ .tc) PUnit :=
  if k0_h3 : k0_cond3 i n = 1#1 then do
    let v26 : Vec F S1x7x64x1024 .bf16 ← Prog.lift (.load arg14 (Rect.unit (s := S1x7x64x1024) ![0, 0, 0, 0] S1x7x64x1024.size inb_S1x7x64x1024_S1x7x64x1024_0_0_0_0).toLoadRect (View.loadsAt_vmem h_S1x7x64x1024))
    Prog.lift (.store arg14 (Rect.unit (s := S1x7x64x1024) ![0, 0, 0, 0] S1x7x64x1024.size inb_S1x7x64x1024_S1x7x64x1024_0_0_0_0) (k0_pay3 (F := F)) Finset.univ (View.stores_vmem h_S1x7x64x1024 (harg14.storeExact_slice rfl _ packedbf16_S1x7x64x1024_S1x7x64x1024_0_0_0_0) (fun _ => rfl)) (.inl rfl))
    let v28 : Vec F S1x7x64x1024 .bf16 ← Prog.lift (.load arg15 (Rect.unit (s := S1x7x64x1024) ![0, 0, 0, 0] S1x7x64x1024.size inb_S1x7x64x1024_S1x7x64x1024_0_0_0_0).toLoadRect (View.loadsAt_vmem h_S1x7x64x1024))
    Prog.lift (.store arg15 (Rect.unit (s := S1x7x64x1024) ![0, 0, 0, 0] S1x7x64x1024.size inb_S1x7x64x1024_S1x7x64x1024_0_0_0_0) (k0_pay4 (F := F)) Finset.univ (View.stores_vmem h_S1x7x64x1024 (harg15.storeExact_slice rfl _ packedbf16_S1x7x64x1024_S1x7x64x1024_0_0_0_0) (fun _ => rfl)) (.inl rfl))
    pure ⟨⟩
  else pure ⟨⟩

/-- At the last tile of a sequence its query gradient is added to the sum over the sequences. -/
def sec5P (i : grid0.Coords) (arg16 : Memref sig .tc .vmem S1x7x64x192 .f32) (harg16 : arg16.IsWhole) (arg18 : Memref sig .tc .vmem S7x64x192 .f32) (harg18 : arg18.IsWhole) : Prog (TpuEff nD τ sig (Elt F) Λ₀ .tc) PUnit :=
  if k0_h5 : cond0_5 i then do
    let v25 : Vec F S7x64x192 .f32 ← Prog.lift (.load arg18 (Rect.unit (s := S7x64x192) ![0, 0, 0] S7x64x192.size inb_S7x64x192_S7x64x192_0_0_0).toLoadRect (View.loadsAt_vmem h_S7x64x192))
    let v26 : Vec F S1x7x64x192 .f32 ← Prog.lift (.load arg16 (Rect.unit (s := S1x7x64x192) ![0, 0, 0, 0] S1x7x64x192.size inb_S1x7x64x192_S1x7x64x192_0_0_0_0).toLoadRect (View.loadsAt_vmem h_S1x7x64x192))
    let v29 : Vec F S7x64x192 .f32 ← Prog.lift (.load arg18 (Rect.unit (s := S7x64x192) ![0, 0, 0] S7x64x192.size inb_S7x64x192_S7x64x192_0_0_0).toLoadRect (View.loadsAt_vmem h_S7x64x192))
    Prog.lift (.store arg18 (Rect.unit (s := S7x64x192) ![0, 0, 0] S7x64x192.size inb_S7x64x192_S7x64x192_0_0_0) (k0_pay6 v25 v26) Finset.univ (View.stores_vmem_bits_univ h_S7x64x192 rfl) (.inl rfl))
    pure ⟨⟩
  else pure ⟨⟩

/-- At the last point the sum is rounded and stored. -/
def sec6P (i : grid0.Coords) (arg17 : Memref sig .tc .vmem S7x64x192 .bf16) (harg17 : arg17.IsWhole) (arg18 : Memref sig .tc .vmem S7x64x192 .f32) (harg18 : arg18.IsWhole) : Prog (TpuEff nD τ sig (Elt F) Λ₀ .tc) PUnit :=
  if k0_h6 : cond0_6 i then do
    let v25 : Vec F S7x64x192 .f32 ← Prog.lift (.load arg18 (Rect.unit (s := S7x64x192) ![0, 0, 0] S7x64x192.size inb_S7x64x192_S7x64x192_0_0_0).toLoadRect (View.loadsAt_vmem h_S7x64x192))
    let v27 : Vec F S7x64x192 .bf16 ← Prog.lift (.load arg17 (Rect.unit (s := S7x64x192) ![0, 0, 0] S7x64x192.size inb_S7x64x192_S7x64x192_0_0_0).toLoadRect (View.loadsAt_vmem h_S7x64x192))
    Prog.lift (.store arg17 (Rect.unit (s := S7x64x192) ![0, 0, 0] S7x64x192.size inb_S7x64x192_S7x64x192_0_0_0) (k0_pay7 v25) Finset.univ (View.stores_vmem h_S7x64x192 (harg17.storeExact_slice rfl _ packedbf16_S7x64x192_S7x64x192_0_0_0) (fun _ => rfl)) (.inl rfl))
    pure ⟨⟩
  else pure ⟨⟩

/-- At the valid positions the seven heads run. -/
def sec4P (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (i : grid0.Coords) (n : BitVec 32) : Prog (TpuEff nD τ sig (Elt F) Λ₀ .tc) PUnit :=
  if k0_h4 : k0_cond4 i n = 1#1 then do
    activeP arg3 arg4 arg5 arg6 arg7 arg8 arg9 arg10 arg11 arg12 arg13 arg14 harg14 arg15 harg15 arg16 i n (Scalar.muli (BitVec.ofNat 32 (i 1).val) 1024#32)
    pure ⟨⟩
  else pure ⟨⟩

/-- The body, its sections in a row. -/
def bodyP (i : grid0.Coords) (arg2 : Memref sig .tc .smem S24 .i32) (harg2 : arg2.IsWhole) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (arg17 : Memref sig .tc .vmem S7x64x192 .bf16) (harg17 : arg17.IsWhole) (arg18 : Memref sig .tc .vmem S7x64x192 .f32) (harg18 : arg18.IsWhole) : Prog (TpuEff nD τ sig (Elt F) Λ₀ .tc) PUnit :=
  smemLoad arg2 (Rect.unit (s := S24) (k0_off1 i) S1.size (k0_off1_inb i)) numel1_S1 rfl >>= fun n =>
  sec1P i arg18 harg18 >>= fun _ =>
  sec2P i arg16 harg16 >>= fun _ =>
  sec3P i n arg14 harg14 arg15 harg15 >>= fun _ =>
  sec4P arg3 harg3 arg4 harg4 arg5 harg5 arg6 harg6 arg7 harg7 arg8 harg8 arg9 harg9 arg10 harg10 arg11 harg11 arg12 harg12 arg13 harg13 arg14 harg14 arg15 harg15 arg16 harg16 i n >>= fun _ =>
  sec5P i arg16 harg16 arg18 harg18 >>= fun _ =>
  sec6P i arg17 harg17 arg18 harg18

/-- What follows a branch follows in each of its arms. -/
theorem bind_branch {E : Type → Type} {β : Type} {c : Prop} [Decidable c] (A : c → Prog E PUnit) (k : PUnit → Prog E β) :
    ((if h : c then A h else pure ⟨⟩) >>= k) = if h : c then A h >>= k else k ⟨⟩ := by
  split <;> rfl

/-- The printed body is that one. -/
theorem cc0_main_eq_bodyP : cc0_main (F := F) = bodyP (F := F) := by
  funext i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  unfold bodyP sec1P sec2P sec3P sec4P sec5P sec6P
  simp only [bind_branch]
  chain_rfl

end Cert.Kernel.Own

end
-- ==== Proof.Kernel.Vals.lean ====
/- What a block and a head of the body read, store and return, as functions of the contents of the buffers. -/
module

public import proofs.«01_k».proof.Proof.Kernel.Body
public import Idealize.ShloMosaic.Lib.VecWindow

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- The input blocks of a point, as the body finds them. -/
structure Ins (F : FTy → Type) [FloatOps F] where
  x0 : Vec F S7x24 .f32
  x1 : Vec F S7x24 .f32
  x2 : Vec F S24x7 .f32
  x3 : Vec F S7x192x64 .bf16
  x4 : Vec F S7x64x192 .bf16
  x5 : Vec F S1x7x64x1024 .fp8e4m3
  x6 : Vec F S1x7x64x1024 .fp8e4m3
  x7 : Vec F S1x7x192x128 .f32
  x8 : Vec F S1x7x192x128 .f32
  x9 : Vec F S1x7x192x64 .fp8e5m2
  x10 : Vec F S1x7x64x192 .fp8e5m2

/-! ## The values of a head and of its blocks, from the input blocks -/

section Vals
variable (X : Ins F) (i : grid0.Coords) (n st : BitVec 32) (h j : Nat) (hh : h < 7) (hj : j < 4)

def ksOf : Elt F .f32 := window X.x0 _ S1x1.size (inbKs i h hh) (Shape.Idx.first (numel1_S1x1.symm ▸ Nat.one_pos))
def vsOf : Elt F .f32 := window X.x1 _ S1x1.size (inbKs i h hh) (Shape.Idx.first (numel1_S1x1.symm ▸ Nat.one_pos))
def dscOf : Elt F .f32 := window X.x2 _ S1x1.size (inbDs i h hh) (Shape.Idx.first (numel1_S1x1.symm ▸ Nat.one_pos))
/-- The scale of the scores of head `h`. -/
def csOf : F .f32 := Scalar.mulf (Scalar.ofBits .f32 0x3E000000#32) (ksOf X i h hh)
/-- The scale of the products of output gradient and values. -/
def cdpOf : F .f32 := Scalar.mulf (dscOf X i h hh) (vsOf X i h hh)
def qOf : FVec F S192x64 .bf16 := shapeCast S192x64 (window X.x3 _ S1x192x64.size (inbQ h hh)) shapeCasts_S1x192x64_S192x64
def qtOf : FVec F S64x192 .bf16 := shapeCast S64x192 (window X.x4 _ S1x64x192.size (inbQt h hh)) shapeCasts_S1x64x192_S64x192
def doTOf : FVec F S64x192 .bf16 := extf .bf16 (shapeCast S64x192 (window X.x10 _ S1x1x64x192.size (inbDoT h hh)) shapeCasts_S1x1x64x192_S64x192) bitsLt_fp8e5m2_bf16
def kbOf : FVec F S64x256 .bf16 := extf .bf16 (shapeCast S64x256 (window X.x5 _ S1x1x64x256.size (inbKv h j hh hj)) shapeCasts_S1x1x64x256_S64x256) bitsLt_fp8e4m3_bf16
def vbOf : FVec F S64x256 .fp8e4m3 := shapeCast S64x256 (window X.x6 _ S1x1x64x256.size (inbKv h j hh hj)) shapeCasts_S1x1x64x256_S64x256
def doOf : FVec F S192x64 .fp8e5m2 := shapeCast S192x64 (window X.x9 _ S1x1x192x64.size (inbDo h hh)) shapeCasts_S1x1x192x64_S192x64
def lseOf : FVec F S192x256 .f32 := twice (window X.x7 _ S1x1x192x128.size (inbRow h hh))
def deltaOf : FVec F S192x256 .f32 := twice (window X.x8 _ S1x1x192x128.size (inbRow h hh))
/-- The masked weights of block `j` of head `h`. -/
def pOf : FVec F S192x256 .f32 := pBlk (csOf X i h hh) n (Scalar.addi st (BitVec.ofNat 32 (256 * j))) (qOf X h hh) (kbOf X h j hh hj) (lseOf X h hh)
/-- The score gradient of block `j` of head `h`. -/
def dsOf : FVec F S192x256 .bf16 := dsBlk (cdpOf X i h hh) (pOf X i n st h j hh hj) (doOf X h hh) (vbOf X h j hh hj) (deltaOf X h hh)
/-- The value gradient of block `j` of head `h`. -/
def dvOf : FVec F S64x256 .bf16 := dvBlk (dscOf X i h hh) (doTOf X h hh) (pOf X i n st h j hh hj)
/-- The key gradient of block `j` of head `h`. -/
def dkOf : FVec F S64x256 .bf16 := dkBlk (qtOf X h hh) (dsOf X i n st h j hh hj)
/-- Block `j`'s part of the query gradient of head `h`. -/
def dqOf : FVec F S64x192 .f32 := dqBlk (kbOf X h j hh hj) (dsOf X i n st h j hh hj)
/-- The query gradient of head `h` over the four blocks of the tile. -/
def dq4Of : FVec F S64x192 .f32 :=
  addf (addf (addf (addf (broadcast S64x192 (Scalar.ofBits .f32 0x00000000#32)) (dqOf X i n st h 0 hh (by decide))) (dqOf X i n st h 1 hh (by decide))) (dqOf X i n st h 2 hh (by decide))) (dqOf X i n st h 3 hh (by decide))

/-- A block's store over what the buffer held. -/
def putKv (d : Vec F S1x7x64x1024 .bf16) (w : FVec F S64x256 .bf16) : Vec F S1x7x64x1024 .bf16 :=
  put d ![0, h, 0, 256 * j] S1x1x64x256.size (shapeCast S1x1x64x256 w shapeCasts_S64x256_S1x1x64x256)
/-- A head's store of its query gradient over what the buffer held: its part added. -/
def putDq (o : Vec F S1x7x64x192 .f32) : Vec F S1x7x64x192 .f32 :=
  put o ![0, h, 0, 0] S1x1x64x192.size (shapeCast S1x1x64x192 (addf (shapeCast S64x192 (window o _ S1x1x64x192.size (inbDoT h hh)) shapeCasts_S1x1x64x192_S64x192) (mulf (dq4Of X i n st h hh) (broadcast S64x192 (csOf X i h hh)))) shapeCasts_S64x192_S1x1x64x192)
end Vals

/-- The four blocks of head `h`, put. -/
def headKv (g : (j : Nat) → j < 4 → FVec F S64x256 .bf16) (h : Nat) (d : Vec F S1x7x64x1024 .bf16) : Vec F S1x7x64x1024 .bf16 :=
  putKv h 3 (putKv h 2 (putKv h 1 (putKv h 0 d (g 0 (by decide))) (g 1 (by decide))) (g 2 (by decide))) (g 3 (by decide))

end Cert.Kernel.Own

end
-- ==== Proof.Kernel.RunBlock.lean ====
/- A block of the body, run. -/
module

public import proofs.«01_k».proof.Proof.Kernel.Vals

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A block, run: the two gradients are put into their buffers, and the query gradient so far grows by the block's part. -/
theorem block_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h j : Nat) (hh : h < 7) (hj : j < 4) (acc : FVec F S64x192 .f32) (d14 d15 : Vec F S1x7x64x1024 .bf16) (K : FVec F S64x192 .f32 → sProp 𝕄)
    (E : Set ℕ) :
        iprop(owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg14 fullShare d14 ∗ owns (c : Thread nD τ) arg15 fullShare d15
            ∗ (iprop(owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg14 fullShare (putKv h j d14 (dkOf X i n st h j hh hj)) ∗ owns (c : Thread nD τ) arg15 fullShare (putKv h j d15 (dvOf X i n st h j hh hj))) -∗ K (addf acc (dqOf X i n st h j hh hj))))
          ⊢ wp frame (wpE (defs₀ (F := F)) Variants.none c none) E (blockP arg8 arg9 arg10 arg11 arg12 arg14 harg14 arg15 harg15 n st (csOf X i h hh) (dscOf X i h hh) (cdpOf X i h hh) (qOf X h hh) (qtOf X h hh) (doTOf X h hh) h j hh hj acc) K := by
  obtain ⟨x0, x1, x2, x3, x4, x5, x6, x7, x8, x9, x10⟩ := X
  unfold blockP owns
  iintro ⟨⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, Hk⟩
  subst hf5; subst hf6; subst hf7; subst hf8; subst hf9; subst hf11; subst hf12
  sl_exec
  sl_step
  rw [show addf acc (dqBlk (block_run.sl.kb c arg8 h j hh hj f5) (block_run.sl.ds c arg8 arg9 arg10 arg11 arg12 i n st h j hh hj x0 x1 x2 x3 x4 x10 f5 f6 f7 f8 f9))
      = addf acc (dqOf ⟨x0, x1, x2, x3, x4, arg8.view.read (Elt F) f5, arg9.view.read (Elt F) f6, arg10.view.read (Elt F) f7, arg11.view.read (Elt F) f8, arg12.view.read (Elt F) f9, x10⟩ i n st h j hh hj) from rfl]
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact View.read_writes_cons_put _ _ _ _ [] rfl
  · iexists _; isplitr; swap; · iexact H12
    ipureintro; exact View.read_writes_cons_put _ _ _ _ [] rfl

end Cert.Kernel.Own

end
-- ==== Proof.Kernel.RunLoads.lean ====
/- The loads of a head, run. -/
module

public import proofs.«01_k».proof.Proof.Kernel.Vals

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head's loads, run. -/
theorem loads_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (h : Nat) (hh : h < 7) (E : Set ℕ)
    (K : F .f32 × F .f32 × F .f32 × FVec F S192x64 .bf16 × FVec F S64x192 .bf16 × FVec F S64x192 .bf16 → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg13 fullShare X.x10
            ∗ (∀ r, ⌜r = (csOf X i h hh, dscOf X i h hh, cdpOf X i h hh, qOf X h hh, qtOf X h hh, doTOf X h hh)⌝ -∗ iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg13 fullShare X.x10) -∗ K r))
          ⊢ wp frame (wpE (defs₀ (F := F)) Variants.none c none) E (loadsP arg3 arg4 arg5 arg6 arg7 arg13 i h hh) K := by
  obtain ⟨x0, x1, x2, x3, x4, x5, x6, x7, x8, x9, x10⟩ := X
  unfold loadsP owns
  iintro ⟨⟨%f0, %hf0, H0⟩, ⟨%f1, %hf1, H1⟩, ⟨%f2, %hf2, H2⟩, ⟨%f3, %hf3, H3⟩, ⟨%f4, %hf4, H4⟩, ⟨%f10, %hf10, H10⟩, Hk⟩
  subst hf0; subst hf1; subst hf2; subst hf3; subst hf4; subst hf10
  sl_exec
  sl_step
  iapply Hk
  · ipureintro; rfl
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H10
  ipureintro; rfl

end Cert.Kernel.Own

end
-- ==== Proof.Kernel.RunAdd.lean ====
/- The last store of a head, run. -/
module

public import proofs.«01_k».proof.Proof.Kernel.Vals

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head's part of the query gradient, put. -/
theorem add_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h : Nat) (hh : h < 7) (o : Vec F S1x7x64x192 .f32) (E : Set ℕ) (K : PUnit → sProp 𝕄) :
        iprop(owns (c : Thread nD τ) arg16 fullShare o
            ∗ (owns (c : Thread nD τ) arg16 fullShare (putDq X i n st h hh o) -∗ K ⟨⟩))
          ⊢ wp frame (wpE (defs₀ (F := F)) Variants.none c none) E (addP arg16 (csOf X i h hh) h hh (dq4Of X i n st h hh)) K := by
  unfold addP owns
  iintro ⟨⟨%f, %hf, H⟩, Hk⟩
  subst hf
  sl_exec
  sl_step
  iapply Hk
  iexists _; isplitr; swap; · iexact H
  ipureintro; exact View.read_writes_cons_put _ _ _ _ [] rfl

end Cert.Kernel.Own

end
-- ==== Proof.Kernel.RunHead.lean ====
/- A head of the body, run. -/
module

public import proofs.«01_k».proof.Proof.Kernel.RunBlock
public import proofs.«01_k».proof.Proof.Kernel.RunLoads
public import proofs.«01_k».proof.Proof.Kernel.RunAdd

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head, run. -/
theorem head_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h : Nat) (hh : h < 7) (d14 d15 : Vec F S1x7x64x1024 .bf16) (o : Vec F S1x7x64x192 .f32) (E : Set ℕ) (K : PUnit → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o
            ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (headKv (fun j hj => dkOf X i n st h j hh hj) h d14) ∗ owns (c : Thread nD τ) arg15 fullShare (headKv (fun j hj => dvOf X i n st h j hh hj) h d15) ∗ owns (c : Thread nD τ) arg16 fullShare (putDq X i n st h hh o)) -∗ K ⟨⟩))
          ⊢ wp frame (wpE (defs₀ (F := F)) Variants.none c none) E (headP arg3 arg4 arg5 arg6 arg7 arg8 arg9 arg10 arg11 arg12 arg13 arg14 harg14 arg15 harg15 arg16 i n st h hh) K := by
  unfold headP
  simp only [wp_bind]
  iintro ⟨H0, H1, H2, H3, H4, H5, H6, H7, H8, H9, H10, HK, HV, HO, Hk⟩
  iapply (loads_run c arg3 harg3 arg4 harg4 arg5 harg5 arg6 harg6 arg7 harg7 arg8 harg8 arg9 harg9 arg10 harg10 arg11 harg11 arg12 harg12 arg13 harg13 arg14 harg14 arg15 harg15 arg16 harg16 X i h hh E _)
  iframe H0 H1 H2 H3 H4 H10
  iintro %r %hr ⟨H0, H1, H2, H3, H4, H10⟩
  subst hr
  dsimp only
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 0 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 1 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 2 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 3 hh _ _ _ _ _ E)
  iframe H5 H6 H7 H8 H9 HK HV
  iintro ⟨H5, H6, H7, H8, H9, HK, HV⟩
  iapply (add_run c arg3 harg3 arg4 harg4 arg5 harg5 arg6 harg6 arg7 harg7 arg8 harg8 arg9 harg9 arg10 harg10 arg11 harg11 arg12 harg12 arg13 harg13 arg14 harg14 arg15 harg15 arg16 harg16 X i n st h hh o E K)
  iframe HO
  iintro HO
  iapply Hk
  iframe H0 H1 H2 H3 H4 H5 H6 H7 H8 H9 H10 HK HV HO

end Cert.Kernel.Own

end
-- ==== Proof.Kernel.RunActive.lean ====
/- The active section of the body, run. -/
module

public import proofs.«01_k».proof.Proof.Kernel.RunHead

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- The blocks of the seven heads, put. -/
def actKv (g : (h j : Nat) → h < 7 → j < 4 → FVec F S64x256 .bf16) (d : Vec F S1x7x64x1024 .bf16) : Vec F S1x7x64x1024 .bf16 :=
  (headKv (fun j hj => g 6 j (by decide) hj) 6 (headKv (fun j hj => g 5 j (by decide) hj) 5 (headKv (fun j hj => g 4 j (by decide) hj) 4 (headKv (fun j hj => g 3 j (by decide) hj) 3 (headKv (fun j hj => g 2 j (by decide) hj) 2 (headKv (fun j hj => g 1 j (by decide) hj) 1 (headKv (fun j hj => g 0 j (by decide) hj) 0 d)))))))
/-- The seven heads' parts of the query gradient, put. -/
def actDq (X : Ins F) (i : grid0.Coords) (n st : BitVec 32) (o : Vec F S1x7x64x192 .f32) : Vec F S1x7x64x192 .f32 :=
  (putDq X i n st 6 (by decide) (putDq X i n st 5 (by decide) (putDq X i n st 4 (by decide) (putDq X i n st 3 (by decide) (putDq X i n st 2 (by decide) (putDq X i n st 1 (by decide) (putDq X i n st 0 (by decide) o)))))))

set_option maxHeartbeats 4000000 in
/-- The active section, run. -/
theorem active_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (d14 d15 : Vec F S1x7x64x1024 .bf16) (o : Vec F S1x7x64x192 .f32) (E : Set ℕ) (K : PUnit → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o
            ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (actKv (fun h j hh hj => dkOf X i n st h j hh hj) d14) ∗ owns (c : Thread nD τ) arg15 fullShare (actKv (fun h j hh hj => dvOf X i n st h j hh hj) d15) ∗ owns (c : Thread nD τ) arg16 fullShare (actDq X i n st o)) -∗ K ⟨⟩))
          ⊢ wp frame (wpE (defs₀ (F := F)) Variants.none c none) E (activeP arg3 arg4 arg5 arg6 arg7 arg8 arg9 arg10 arg11 arg12 arg13 arg14 harg14 arg15 harg15 arg16 i n st) K := by
  unfold activeP
  simp only [wp_bind]
  iintro ⟨H0, H1, H2, H3, H4, H5, H6, H7, H8, H9, H10, HK, HV, HO, Hk⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 0 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 1 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 2 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 3 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 4 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 5 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 6 _ _ _ _ E _)
  iframe H0 H1 H2 H3 H4 H5 H6 H7 H8 H9 H10 HK HV HO
  iintro ⟨H0, H1, H2, H3, H4, H5, H6, H7, H8, H9, H10, HK, HV, HO⟩
  unfold actKv actDq
  iapply Hk
  iframe H0 H1 H2 H3 H4 H5 H6 H7 H8 H9 H10 HK HV HO

end Cert.Kernel.Own

end
-- ==== Proof.Kernel.RunSec.lean ====
/- The sections of the body, run. -/
module

public import proofs.«01_k».proof.Proof.Kernel.RunActive

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-! ## What the sections leave -/

section Vals
variable (X : Ins F) (i : grid0.Coords) (n : BitVec 32)
/-- The sum over the sequences after the first section. -/
def acc1 (a : Vec F S7x64x192 .f32) : Vec F S7x64x192 .f32 := if cond0_1 i then k0_pay1 else a
/-- The sequence's query gradient after the second section. -/
def dqs1 (o : Vec F S1x7x64x192 .f32) : Vec F S1x7x64x192 .f32 := if cond0_2 i then k0_pay2 else o
/-- The key gradient after the third section. -/
def dk1 (d : Vec F S1x7x64x1024 .bf16) : Vec F S1x7x64x1024 .bf16 := if k0_cond3 i n = 1#1 then k0_pay3 else d
/-- The value gradient after the third section. -/
def dv1 (d : Vec F S1x7x64x1024 .bf16) : Vec F S1x7x64x1024 .bf16 := if k0_cond3 i n = 1#1 then k0_pay4 else d
/-- The tile's first position. -/
abbrev stOf : BitVec 32 := Scalar.muli (BitVec.ofNat 32 (i 1).val) 1024#32
/-- The key gradient after the active section. -/
def dk2 (d : Vec F S1x7x64x1024 .bf16) : Vec F S1x7x64x1024 .bf16 := if k0_cond4 i n = 1#1 then actKv (fun h j hh hj => dkOf X i n (stOf i) h j hh hj) d else d
/-- The value gradient after the active section. -/
def dv2 (d : Vec F S1x7x64x1024 .bf16) : Vec F S1x7x64x1024 .bf16 := if k0_cond4 i n = 1#1 then actKv (fun h j hh hj => dvOf X i n (stOf i) h j hh hj) d else d
/-- The sequence's query gradient after the active section. -/
def dqs2 (o : Vec F S1x7x64x192 .f32) : Vec F S1x7x64x192 .f32 := if k0_cond4 i n = 1#1 then actDq X i n (stOf i) o else o
/-- The sum over the sequences after the fifth section. -/
def acc2 (a : Vec F S7x64x192 .f32) (o : Vec F S1x7x64x192 .f32) : Vec F S7x64x192 .f32 := if cond0_5 i then k0_pay6 a o else a
/-- The query gradient after the last section. -/
def dq2 (q : Vec F S7x64x192 .bf16) (a : Vec F S7x64x192 .f32) : Vec F S7x64x192 .bf16 := if cond0_6 i then k0_pay7 a else q
end Vals

set_option maxHeartbeats 1000000 in
theorem sec1_run (c : Dev nD) (i : grid0.Coords) (arg18 : Memref sig .tc .vmem S7x64x192 .f32) (harg18 : arg18.IsWhole) (a : Vec F S7x64x192 .f32) (E : Set ℕ) (K : PUnit → sProp 𝕄) :
    iprop(owns (c : Thread nD τ) arg18 fullShare a ∗ (iprop(owns (c : Thread nD τ) arg18 fullShare (acc1 i a)) -∗ K ⟨⟩)) ⊢ wp frame (wpE (defs₀ (F := F)) Variants.none c none) E (sec1P i arg18 harg18) K := by
  unfold sec1P acc1
  split
  · rename_i hc
    unfold owns
    iintro ⟨⟨%f15, %hf15, H15⟩, Hk⟩
    subst hf15
    sl_exec
    sl_step
    iapply Hk
    iexists _; isplitr; swap; · iexact H15
    ipureintro
    exact View.read_writes_full _ _ _ _ _
  · iintro ⟨H15, Hk⟩
    sl_step
    iapply Hk
    iframe H15

set_option maxHeartbeats 1000000 in
theorem sec2_run (c : Dev nD) (i : grid0.Coords) (arg16 : Memref sig .tc .vmem S1x7x64x192 .f32) (harg16 : arg16.IsWhole) (o : Vec F S1x7x64x192 .f32) (E : Set ℕ) (K : PUnit → sProp 𝕄) :
    iprop(owns (c : Thread nD τ) arg16 fullShare o ∗ (iprop(owns (c : Thread nD τ) arg16 fullShare (dqs1 i o)) -∗ K ⟨⟩)) ⊢ wp frame (wpE (defs₀ (F := F)) Variants.none c none) E (sec2P i arg16 harg16) K := by
  unfold sec2P dqs1
  split
  · rename_i hc
    unfold owns
    iintro ⟨⟨%f13, %hf13, H13⟩, Hk⟩
    subst hf13
    sl_exec
    sl_step
    iapply Hk
    iexists _; isplitr; swap; · iexact H13
    ipureintro
    exact View.read_writes_full _ _ _ _ _
  · iintro ⟨H13, Hk⟩
    sl_step
    iapply Hk
    iframe H13

set_option maxHeartbeats 1000000 in
theorem sec3_run (c : Dev nD) (i : grid0.Coords) (n : BitVec 32) (arg14 : Memref sig .tc .vmem S1x7x64x1024 .bf16) (harg14 : arg14.IsWhole) (arg15 : Memref sig .tc .vmem S1x7x64x1024 .bf16) (harg15 : arg15.IsWhole) (d14 : Vec F S1x7x64x1024 .bf16) (d15 : Vec F S1x7x64x1024 .bf16) (E : Set ℕ) (K : PUnit → sProp 𝕄) :
    iprop(owns (c : Thread nD τ) arg14 fullShare d14 ∗ owns (c : Thread nD τ) arg15 fullShare d15 ∗ (iprop(owns (c : Thread nD τ) arg14 fullShare (dk1 i n d14) ∗ owns (c : Thread nD τ) arg15 fullShare (dv1 i n d15)) -∗ K ⟨⟩)) ⊢ wp frame (wpE (defs₀ (F := F)) Variants.none c none) E (sec3P i n arg14 harg14 arg15 harg15) K := by
  unfold sec3P dk1 dv1
  split
  · rename_i hc
    unfold owns
    iintro ⟨⟨%f11, %hf11, H11⟩, ⟨%f12, %hf12, H12⟩, Hk⟩
    subst hf11; subst hf12
    sl_exec
    sl_step
    iapply Hk
    isplitl [H11]
    · iexists _; isplitr; swap; · iexact H11
      ipureintro
      exact View.read_writes_full _ _ _ _ _
    iexists _; isplitr; swap; · iexact H12
    ipureintro
    exact View.read_writes_full _ _ _ _ _
  · iintro ⟨H11, H12, Hk⟩
    sl_step
    iapply Hk
    iframe H11 H12

set_option maxHeartbeats 1000000 in
theorem sec5_run (c : Dev nD) (i : grid0.Coords) (arg16 : Memref sig .tc .vmem S1x7x64x192 .f32) (harg16 : arg16.IsWhole) (arg18 : Memref sig .tc .vmem S7x64x192 .f32) (harg18 : arg18.IsWhole) (o : Vec F S1x7x64x192 .f32) (a : Vec F S7x64x192 .f32) (E : Set ℕ) (K : PUnit → sProp 𝕄) :
    iprop(owns (c : Thread nD τ) arg16 fullShare o ∗ owns (c : Thread nD τ) arg18 fullShare a ∗ (iprop(owns (c : Thread nD τ) arg16 fullShare o ∗ owns (c : Thread nD τ) arg18 fullShare (acc2 i a o)) -∗ K ⟨⟩)) ⊢ wp frame (wpE (defs₀ (F := F)) Variants.none c none) E (sec5P i arg16 harg16 arg18 harg18) K := by
  unfold sec5P acc2
  split
  · rename_i hc
    unfold owns
    iintro ⟨⟨%f13, %hf13, H13⟩, ⟨%f15, %hf15, H15⟩, Hk⟩
    subst hf13; subst hf15
    sl_exec
    sl_step
    iapply Hk
    isplitl [H13]
    · iexists _; isplitr; swap; · iexact H13
      ipureintro
      rfl
    iexists _; isplitr; swap; · iexact H15
    ipureintro
    rw [View.read_writes_full, View.readAt_full, View.readAt_full]
  · iintro ⟨H13, H15, Hk⟩
    sl_step
    iapply Hk
    iframe H13 H15

set_option maxHeartbeats 1000000 in
theorem sec6_run (c : Dev nD) (i : grid0.Coords) (arg17 : Memref sig .tc .vmem S7x64x192 .bf16) (harg17 : arg17.IsWhole) (arg18 : Memref sig .tc .vmem S7x64x192 .f32) (harg18 : arg18.IsWhole) (q : Vec F S7x64x192 .bf16) (a : Vec F S7x64x192 .f32) (E : Set ℕ) (K : PUnit → sProp 𝕄) :
    iprop(owns (c : Thread nD τ) arg17 fullShare q ∗ owns (c : Thread nD τ) arg18 fullShare a ∗ (iprop(owns (c : Thread nD τ) arg17 fullShare (dq2 i q a) ∗ owns (c : Thread nD τ) arg18 fullShare a) -∗ K ⟨⟩)) ⊢ wp frame (wpE (defs₀ (F := F)) Variants.none c none) E (sec6P i arg17 harg17 arg18 harg18) K := by
  unfold sec6P dq2
  split
  · rename_i hc
    unfold owns
    iintro ⟨⟨%f14, %hf14, H14⟩, ⟨%f15, %hf15, H15⟩, Hk⟩
    subst hf14; subst hf15
    sl_exec
    sl_step
    iapply Hk
    isplitl [H14]
    · iexists _; isplitr; swap; · iexact H14
      ipureintro
      rw [View.read_writes_full, View.readAt_full]
    iexists _; isplitr; swap; · iexact H15
    ipureintro
    rfl
  · iintro ⟨H14, H15, Hk⟩
    sl_step
    iapply Hk
    iframe H14 H15

set_option maxHeartbeats 1000000 in
theorem sec4_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n : BitVec 32) (d14 d15 : Vec F S1x7x64x1024 .bf16) (o : Vec F S1x7x64x192 .f32) (E : Set ℕ) (K : PUnit → sProp 𝕄) :
    iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (dk2 X i n d14) ∗ owns (c : Thread nD τ) arg15 fullShare (dv2 X i n d15) ∗ owns (c : Thread nD τ) arg16 fullShare (dqs2 X i n o)) -∗ K ⟨⟩))
      ⊢ wp frame (wpE (defs₀ (F := F)) Variants.none c none) E (sec4P arg3 harg3 arg4 harg4 arg5 harg5 arg6 harg6 arg7 harg7 arg8 harg8 arg9 harg9 arg10 harg10 arg11 harg11 arg12 harg12 arg13 harg13 arg14 harg14 arg15 harg15 arg16 harg16 i n) K := by
  unfold sec4P dk2 dv2 dqs2
  split
  · rename_i hc
    rw [wp_bind]
    iintro ⟨H0, H1, H2, H3, H4, H5, H6, H7, H8, H9, H10, HK, HV, HO, Hk⟩
    iapply (active_run c arg3 harg3 arg4 harg4 arg5 harg5 arg6 harg6 arg7 harg7 arg8 harg8 arg9 harg9 arg10 harg10 arg11 harg11 arg12 harg12 arg13 harg13 arg14 harg14 arg15 harg15 arg16 harg16 X i n _ d14 d15 o E _)
    iframe H0 H1 H2 H3 H4 H5 H6 H7 H8 H9 H10 HK HV HO
    iintro ⟨H0, H1, H2, H3, H4, H5, H6, H7, H8, H9, H10, HK, HV, HO⟩
    sl_step
    iapply Hk
    iframe H0 H1 H2 H3 H4 H5 H6 H7 H8 H9 H10 HK HV HO
  · iintro ⟨H0, H1, H2, H3, H4, H5, H6, H7, H8, H9, H10, HK, HV, HO, Hk⟩
    sl_step
    iapply Hk
    iframe H0 H1 H2 H3 H4 H5 H6 H7 H8 H9 H10 HK HV HO

end Cert.Kernel.Own

end
-- ==== Proof.Kernel.RunBody.lean ====
/- The body, run: what it leaves in every buffer, from what it finds. -/
module

public import proofs.«01_k».proof.Proof.Kernel.RunSec

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

theorem table_run (c : Dev nD) (i : grid0.Coords) (xt0 : TbBuf0 (F := F) c tbM0_0) (E : Set ℕ) (K : BitVec 32 → sProp 𝕄) :
    iprop(tbPt0 c tbM0_0 xt0 ∗ (tbPt0 c tbM0_0 xt0 -∗ K (tword c xt0 i)))
      ⊢ wp frame (wpE (defs₀ (F := F)) Variants.none c none) E (smemLoad tbM0_0 (Rect.unit (s := S24) (k0_off1 i) S1.size (k0_off1_inb i)) numel1_S1 rfl) K := by
  iintro ⟨HT, Hk⟩
  sl_exec
  sl_step
  iapply Hk
  iexact HT

section Vals
variable (X : Ins F) (i : grid0.Coords) (n : BitVec 32)
/-- The key gradient the body leaves. -/
def dkOut (d : Vec F S1x7x64x1024 .bf16) : Vec F S1x7x64x1024 .bf16 := dk2 X i n (dk1 i n d)
/-- The value gradient the body leaves. -/
def dvOut (d : Vec F S1x7x64x1024 .bf16) : Vec F S1x7x64x1024 .bf16 := dv2 X i n (dv1 i n d)
/-- The sequence's query gradient the body leaves. -/
def dqsOut (o : Vec F S1x7x64x192 .f32) : Vec F S1x7x64x192 .f32 := dqs2 X i n (dqs1 i o)
/-- The sum over the sequences the body leaves. -/
def accOut (a : Vec F S7x64x192 .f32) (o : Vec F S1x7x64x192 .f32) : Vec F S7x64x192 .f32 := acc2 i (acc1 i a) (dqsOut X i n o)
/-- The query gradient the body leaves. -/
def dqOut (q : Vec F S7x64x192 .bf16) (a : Vec F S7x64x192 .f32) (o : Vec F S1x7x64x192 .f32) : Vec F S7x64x192 .bf16 := dq2 i q (accOut X i n a o)
end Vals

set_option maxHeartbeats 1000000 in
/-- The body, run. -/
theorem body_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (arg17 : Memref sig .tc .vmem S7x64x192 .bf16) (harg17 : arg17.IsWhole) (arg18 : Memref sig .tc .vmem S7x64x192 .f32) (harg18 : arg18.IsWhole) (X : Ins F) (i : grid0.Coords) (xt0 : TbBuf0 (F := F) c tbM0_0) (d14 d15 : Vec F S1x7x64x1024 .bf16) (o : Vec F S1x7x64x192 .f32) (q : Vec F S7x64x192 .bf16) (a : Vec F S7x64x192 .f32) (E : Set ℕ) (K : PUnit → sProp 𝕄) :
    iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o ∗ owns (c : Thread nD τ) arg17 fullShare q ∗ owns (c : Thread nD τ) arg18 fullShare a ∗ tbPt0 c tbM0_0 xt0 ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (dkOut X i (tword c xt0 i) d14) ∗ owns (c : Thread nD τ) arg15 fullShare (dvOut X i (tword c xt0 i) d15) ∗ owns (c : Thread nD τ) arg16 fullShare (dqsOut X i (tword c xt0 i) o) ∗ owns (c : Thread nD τ) arg17 fullShare (dqOut X i (tword c xt0 i) q a o) ∗ owns (c : Thread nD τ) arg18 fullShare (accOut X i (tword c xt0 i) a o) ∗ tbPt0 c tbM0_0 xt0) -∗ K ⟨⟩))
      ⊢ wp frame (wpE (defs₀ (F := F)) Variants.none c none) E (cc0_main i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_main_eq_bodyP]
  unfold bodyP
  simp only [wp_bind]
  iintro ⟨H0, H1, H2, H3, H4, H5, H6, H7, H8, H9, H10, HK, HV, HO, HQ, HS, HT, Hk⟩
  iapply (table_run c i xt0 E _)
  iframe HT
  iintro HT
  iapply (sec1_run c i arg18 harg18 a E _)
  iframe HS
  iintro HS
  iapply (sec2_run c i arg16 harg16 o E _)
  iframe HO
  iintro HO
  iapply (sec3_run c i _ arg14 harg14 arg15 harg15 d14 d15 E _)
  iframe HK HV
  iintro ⟨HK, HV⟩
  iapply (sec4_run c arg3 harg3 arg4 harg4 arg5 harg5 arg6 harg6 arg7 harg7 arg8 harg8 arg9 harg9 arg10 harg10 arg11 harg11 arg12 harg12 arg13 harg13 arg14 harg14 arg15 harg15 arg16 harg16 X i _ _ _ _ E _)
  iframe H0 H1 H2 H3 H4 H5 H6 H7 H8 H9 H10 HK HV HO
  iintro ⟨H0, H1, H2, H3, H4, H5, H6, H7, H8, H9, H10, HK, HV, HO⟩
  iapply (sec5_run c i arg16 harg16 arg18 harg18 _ _ E _)
  iframe HO HS
  iintro ⟨HO, HS⟩
  iapply (sec6_run c i arg17 harg17 arg18 harg18 q _ E _)
  iframe HQ HS
  iintro ⟨HQ, HS⟩
  unfold dkOut dvOut dqOut accOut dqsOut
  iapply Hk
  iframe H0 H1 H2 H3 H4 H5 H6 H7 H8 H9 H10 HK HV HO HQ HS HT

end Cert.Kernel.Own

end
-- ==== Proof.Kernel.ActVals.lean ====
/- What the stores of a head and of the active section leave, index by index. -/
module

public import proofs.«01_k».proof.Proof.Kernel.RunBody

public import Idealize.ShloMosaic.Lib.ValueIdxCore
public import Idealize.ShloMosaic.Lib.Pipeline.Value

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

open Idealize.ShloMosaic.ValueIdx

/-- The place in its block of 256 positions of an element of a tile. -/
def kvIdx (y : S1x7x64x1024.Idx) : S64x256.Idx := ix2 (⟨(y 2).val, (y 2).isLt⟩ : Fin 64) (⟨(y 3).val % 256, Nat.mod_lt _ (by decide)⟩ : Fin 256)
/-- The place in its head of an element of a query gradient. -/
def dqIdx (y : S1x7x64x192.Idx) : S64x192.Idx := ix2 (⟨(y 2).val, (y 2).isLt⟩ : Fin 64) (⟨(y 3).val, (y 3).isLt⟩ : Fin 192)

theorem putKv_apply (h j : Nat) (d : Vec F S1x7x64x1024 .bf16) (w : FVec F S64x256 .bf16) (y : S1x7x64x1024.Idx) :
    putKv h j d w y = if (y 1).val = h ∧ (y 3).val / 256 = j then w (kvIdx y) else d y := by
  unfold putKv put
  by_cases hc : (y 1).val = h ∧ (y 3).val / 256 = j
  · obtain ⟨h1, h3⟩ := hc
    have h0 : (y 0).val < 1 := (y 0).isLt
    have h2 : (y 2).val < 64 := (y 2).isLt
    have hb : ∀ a, (![0, h, 0, 256 * j] : Fin 4 → Nat) a ≤ (y a).val ∧ (y a).val < (![0, h, 0, 256 * j] : Fin 4 → Nat) a + S1x1x64x256.size a := by
      intro a; fin_cases a
      · show 0 ≤ (y 0).val ∧ (y 0).val < 0 + 1
        omega
      · show h ≤ (y 1).val ∧ (y 1).val < h + 1
        omega
      · show 0 ≤ (y 2).val ∧ (y 2).val < 0 + 64
        omega
      · show 256 * j ≤ (y 3).val ∧ (y 3).val < 256 * j + 256
        omega
    rw [dif_pos hb, if_pos ⟨h1, h3⟩]
    refine shapeCast_apply _ _ _ (kvIdx y) ((Shape.rowMajor_val_two _).trans (Eq.trans ?_ (Shape.rowMajor_val_four _).symm))
    show (y 2).val * 256 + (y 3).val % 256 = ((((y 0).val - 0) * 1 + ((y 1).val - h)) * 64 + ((y 2).val - 0)) * 256 + ((y 3).val - 256 * j)
    have := Nat.div_add_mod (y 3).val 256
    rw [h3] at this
    have e0 : (y 0).val = 0 := by omega
    rw [e0, h1]
    omega
  · rw [if_neg hc, dif_neg]
    intro hb
    have b1 : h ≤ (y 1).val ∧ (y 1).val < h + 1 := hb 1
    have b3 : 256 * j ≤ (y 3).val ∧ (y 3).val < 256 * j + 256 := hb 3
    exact hc ⟨by omega, by omega⟩

/-- The stores of the active section into a tile: the tile holds block by block what the section computes, whatever it held. -/
theorem actKv_apply (g : (h j : Nat) → h < 7 → j < 4 → FVec F S64x256 .bf16) (d : Vec F S1x7x64x1024 .bf16) (y : S1x7x64x1024.Idx) :
    actKv g d y = g (y 1).val ((y 3).val / 256) (y 1).isLt (Nat.div_lt_of_lt_mul (y 3).isLt) (kvIdx y) := by
  have key : ∀ (A B : Nat) (hA : A < 7) (hB : B < 4), (y 1).val = A → (y 3).val / 256 = B → actKv g d y = g A B hA hB (kvIdx y) := by
    intro A B hA hB eA eB
    unfold actKv headKv
    simp only [putKv_apply, eA, eB]
    clear eA eB
    interval_cases A <;> interval_cases B <;> simp
  exact key _ _ _ _ rfl rfl

theorem actKv_indep (g : (h j : Nat) → h < 7 → j < 4 → FVec F S64x256 .bf16) (d d' : Vec F S1x7x64x1024 .bf16) : actKv g d = actKv g d' := by
  funext y; rw [actKv_apply, actKv_apply]

theorem putDq_apply (X : Ins F) (i : grid0.Coords) (n st : BitVec 32) (h : Nat) (hh : h < 7) (o : Vec F S1x7x64x192 .f32) (y : S1x7x64x192.Idx) :
    putDq X i n st h hh o y = if (y 1).val = h then addf (fun _ => o y) (mulf (dq4Of X i n st h hh) (broadcast S64x192 (csOf X i h hh))) (dqIdx y) else o y := by
  unfold putDq put
  have h0 : (y 0).val < 1 := (y 0).isLt
  have h2 : (y 2).val < 64 := (y 2).isLt
  have h3 : (y 3).val < 192 := (y 3).isLt
  by_cases hc : (y 1).val = h
  · have hb : ∀ a, (![0, h, 0, 0] : Fin 4 → Nat) a ≤ (y a).val ∧ (y a).val < (![0, h, 0, 0] : Fin 4 → Nat) a + S1x1x64x192.size a := by
      intro a; fin_cases a
      · show 0 ≤ (y 0).val ∧ (y 0).val < 0 + 1
        omega
      · show h ≤ (y 1).val ∧ (y 1).val < h + 1
        omega
      · show 0 ≤ (y 2).val ∧ (y 2).val < 0 + 64
        omega
      · show 0 ≤ (y 3).val ∧ (y 3).val < 0 + 192
        omega
    rw [dif_pos hb, if_pos hc]
    refine (shapeCast_apply _ _ _ (dqIdx y) ((Shape.rowMajor_val_two _).trans (Eq.trans ?_ (Shape.rowMajor_val_four _).symm))).trans ?_
    · show (y 2).val * 192 + (y 3).val = ((((y 0).val - 0) * 1 + ((y 1).val - h)) * 64 + ((y 2).val - 0)) * 192 + ((y 3).val - 0)
      rw [hc]; omega
    · refine congrArg (fun z => addf (fun _ : S64x192.Idx => z) (mulf (dq4Of X i n st h hh) (broadcast S64x192 (csOf X i h hh))) (dqIdx y)) ?_
      refine (shapeCast_apply _ _ _ (Rect.unitLocal (s := S1x7x64x192) (off := (![0, h, 0, 0] : Fin 4 → Nat)) (size := S1x1x64x192.size) y hb) ((Shape.rowMajor_val_four _).trans (Eq.trans ?_ (Shape.rowMajor_val_two _).symm))).trans ?_
      · show ((((y 0).val - 0) * 1 + ((y 1).val - h)) * 64 + ((y 2).val - 0)) * 192 + ((y 3).val - 0) = (y 2).val * 192 + (y 3).val
        rw [hc]; omega
      · unfold window
        congr 1
        funext a
        apply Fin.ext
        show (![0, h, 0, 0] : Fin 4 → Nat) a + 1 * ((y a).val - (![0, h, 0, 0] : Fin 4 → Nat) a) = (y a).val
        have := (hb a).1
        omega
  · rw [if_neg hc, dif_neg]
    intro hb
    have b1 : h ≤ (y 1).val ∧ (y 1).val < h + 1 := hb 1
    exact hc (by omega)

/-- The stores of the active section into the query gradient: each head's part added to what it held. -/
theorem actDq_apply (X : Ins F) (i : grid0.Coords) (n st : BitVec 32) (o : Vec F S1x7x64x192 .f32) (y : S1x7x64x192.Idx) :
    actDq X i n st o y = addf (fun _ => o y) (mulf (dq4Of X i n st (y 1).val (y 1).isLt) (broadcast S64x192 (csOf X i (y 1).val (y 1).isLt))) (dqIdx y) := by
  have key : ∀ (A : Nat) (hA : A < 7), (y 1).val = A → actDq X i n st o y = addf (fun _ => o y) (mulf (dq4Of X i n st A hA) (broadcast S64x192 (csOf X i A hA))) (dqIdx y) := by
    intro A hA eA
    unfold actDq
    simp only [putDq_apply, eA]
    clear eA
    interval_cases A <;> simp
  exact key _ _ rfl

end Cert.Kernel.Own

end
-- ==== Proof.Kernel.Traj.lean ====
/- What the body leaves at every point of the grid: the recursion of the two accumulators over the points, and which
   windows the body leaves alone. -/
module

public import proofs.«01_k».proof.Proof.Kernel.ActVals

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open VecWindow (window put)

/-! ## One of the two sections on the length runs -/

theorem c3_or_c4 (i : grid0.Coords) (n : BitVec 32) : k0_cond3 i n = 1#1 ∨ k0_cond4 i n = 1#1 := by
  unfold k0_cond3 k0_cond4
  dsimp only
  rcases Bool.eq_false_or_eq_true ((Scalar.muli (BitVec.ofNat 32 (i 1).val) 1024#32).slt n) with h | h
  · right
    simp [Scalar.cmpi, Scalar.extui, IntOp.cmpi, h]
  · left
    simp [Scalar.cmpi, Scalar.extui, IntOp.cmpi, BitVec.sle_eq_not_slt, h]

theorem dkOut_indep (X : Ins F) (i : grid0.Coords) (n : BitVec 32) (d d' : Vec F S1x7x64x1024 .bf16) : dkOut X i n d = dkOut X i n d' := by
  unfold dkOut dk2 dk1
  rcases c3_or_c4 i n with h | h
  · simp only [if_pos h]
  · simp only [if_pos h]; exact actKv_indep _ _ _

theorem dvOut_indep (X : Ins F) (i : grid0.Coords) (n : BitVec 32) (d d' : Vec F S1x7x64x1024 .bf16) : dvOut X i n d = dvOut X i n d' := by
  unfold dvOut dv2 dv1
  rcases c3_or_c4 i n with h | h
  · simp only [if_pos h]
  · simp only [if_pos h]; exact actKv_indep _ _ _

theorem dqsOut_first (X : Ins F) (i : grid0.Coords) (n : BitVec 32) (o o' : Vec F S1x7x64x192 .f32) (h : cond0_2 i) : dqsOut X i n o = dqsOut X i n o' := by
  unfold dqsOut dqs1; simp only [if_pos h]

theorem dqsOut_idle (X : Ins F) (i : grid0.Coords) (n : BitVec 32) (o : Vec F S1x7x64x192 .f32) (h : ¬cond0_2 i) (h4 : ¬k0_cond4 i n = 1#1) : dqsOut X i n o = o := by
  unfold dqsOut dqs2 dqs1; simp only [if_neg h, if_neg h4]

/-! ## The blocks and the length of a point, and the two accumulators over the points -/

/-- The input blocks of point `t`. -/
def insAt (hO : Ok m) (c : Dev nD) (t : Fin (cfgM m hO).N) : Ins F :=
  ⟨iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t⟩
/-- The length of the sequence of point `t`. -/
def nAt (c : Dev nD) (t : Fin grid0.N) : BitVec 32 := tword c (tbl m 0) (grid0.coords t)

/-- The sequence's query gradient after point `n`. -/
def dqsT (hO : Ok m) (c : Dev nD) : (n : ℕ) → n < (cfgM m hO).N → Vec F S1x7x64x192 .f32
  | 0, h => dqsOut (insAt m hO c ⟨0, h⟩) (grid0.coords ⟨0, h⟩) (nAt m c ⟨0, h⟩) k0_pay2
  | n + 1, h => dqsOut (insAt m hO c ⟨n + 1, h⟩) (grid0.coords ⟨n + 1, h⟩) (nAt m c ⟨n + 1, h⟩) (dqsT hO c n (Nat.lt_of_succ_lt h))

/-- The sum over the sequences after point `n`. -/
def accT (hO : Ok m) (c : Dev nD) : (n : ℕ) → n < (cfgM m hO).N → Vec F S7x64x192 .f32
  | 0, h => acc2 (grid0.coords ⟨0, h⟩) (acc1 (grid0.coords ⟨0, h⟩) k0_pay1) (dqsT m hO c 0 h)
  | n + 1, h => acc2 (grid0.coords ⟨n + 1, h⟩) (acc1 (grid0.coords ⟨n + 1, h⟩) (accT hO c n (Nat.lt_of_succ_lt h))) (dqsT m hO c (n + 1) h)

/-- The body turns the query gradient of the point before into the point's, and at a sequence's first tile anything. -/
theorem dqs_step (hO : Ok m) (c : Dev nD) (t : Fin (cfgM m hO).N) (o : Vec F S1x7x64x192 .f32)
    (ho : t.val % 16 ≠ 0 → o = dqsT m hO c (t.val - 1) (by omega)) :
    dqsOut (insAt m hO c t) (grid0.coords t) (nAt m c t) o = dqsT m hO c t.val t.isLt := by
  by_cases h : t.val % 16 = 0
  · obtain ⟨n, hn⟩ := t
    cases n with
    | zero => exact dqsOut_first _ _ _ _ _ ((hcond0_2 _).mpr h)
    | succ n => exact dqsOut_first _ _ _ _ _ ((hcond0_2 _).mpr h)
  · rw [ho h]
    obtain ⟨n, hn⟩ := t
    cases n with
    | zero => exact absurd (Nat.zero_mod _) h
    | succ n => rfl

theorem acc_step (hO : Ok m) (c : Dev nD) (t : Fin (cfgM m hO).N) (a : Vec F S7x64x192 .f32)
    (ha : t.val ≠ 0 → a = accT m hO c (t.val - 1) (by omega)) :
    acc2 (grid0.coords t) (acc1 (grid0.coords t) a) (dqsT m hO c t.val t.isLt) = accT m hO c t.val t.isLt := by
  by_cases h : t.val = 0
  · obtain ⟨n, hn⟩ := t
    cases n with
    | zero =>
      unfold accT acc1
      rw [if_pos ((hcond0_1 ⟨0, hn⟩).mpr rfl), if_pos ((hcond0_1 ⟨0, hn⟩).mpr rfl)]
    | succ n => exact absurd h (Nat.succ_ne_zero n)
  · rw [ha h]
    obtain ⟨n, hn⟩ := t
    cases n with
    | zero => exact absurd rfl h
    | succ n => rfl

/-! ## When the windows are written back, and when the body leaves them alone -/

theorem atD_eq (c : Dev nD) (i : grid0.Coords) : (tbl m).atD 0 (k0_off1 i) = tword c (tbl m 0) i := by
  unfold Pipeline.Prefetch.Contents.atD
  split
  · refine congrArg (tbl m 0) (funext fun a => Fin.ext ?_)
    fin_cases a
    rfl
  · rename_i h
    exact (h fun a => by
      obtain rfl : a = (0 : Fin 1) := Subsingleton.elim (α := Fin 1) _ _
      exact k0_off1_inb i 0).elim

theorem flush11 (hO : Ok m) (t : Fin (cfgM m hO).N) : ((cfgM m hO).win 11).flush t = true :=
  ((fun t => Pipeline.Window.flushOf_reads cc0_transform_11 reads0_11 hreads0_11 1 (by decide) (by decide) (Pipeline.Window.sep_of_coord cc0_transform_11 1 3 (fun _ => rfl) (by decide)) (P := 1) (m := 0) (by decide) rfl t : ∀ t : Fin grid0.N, Pipeline.Window.flushOf grid0 true cc0_transform_11 t = true ↔ t.val % 1 = 0) t).mpr (Nat.mod_one _)
theorem flush12 (hO : Ok m) (t : Fin (cfgM m hO).N) : ((cfgM m hO).win 12).flush t = true :=
  ((fun t => Pipeline.Window.flushOf_reads cc0_transform_12 reads0_12 hreads0_12 1 (by decide) (by decide) (Pipeline.Window.sep_of_coord cc0_transform_12 1 3 (fun _ => rfl) (by decide)) (P := 1) (m := 0) (by decide) rfl t : ∀ t : Fin grid0.N, Pipeline.Window.flushOf grid0 true cc0_transform_12 t = true ↔ t.val % 1 = 0) t).mpr (Nat.mod_one _)
theorem flush13 (hO : Ok m) (t : Fin (cfgM m hO).N) : ((cfgM m hO).win 13).flush t = true ↔ t.val % 16 = 15 :=
  (fun t => Pipeline.Window.flushOf_reads cc0_transform_13 reads0_13 hreads0_13 0 (by decide) (by decide) (Pipeline.Window.sep_of_coord cc0_transform_13 0 0 (fun _ => rfl) (by decide)) (P := 16) (m := 15) (by decide) rfl t : ∀ t : Fin grid0.N, Pipeline.Window.flushOf grid0 true cc0_transform_13 t = true ↔ t.val % 16 = 15) t
theorem flush14 (hO : Ok m) (t : Fin (cfgM m hO).N) : ((cfgM m hO).win 14).flush t = true ↔ t.val = 383 :=
  ((fun t => Pipeline.Window.flushOf_const cc0_transform_14 (fun _ _ => rfl) (n := 384) (by decide) rfl t : ∀ t : Fin grid0.N, Pipeline.Window.flushOf grid0 true cc0_transform_14 t = true ↔ t.val % 384 = 383) t).trans
    (by have ht : t.val < 384 := Nat.lt_of_lt_of_eq t.isLt N_0
        omega)

theorem idle11 (hO : Ok m) (t : Fin (cfgM m hO).N) : (cfgM m hO).idle 11 ((cfgM m hO).grid.coords t) = false := by
  show (!(k0_cond3 (grid0.coords t) ((tbl m).atD 0 (k0_off1 (grid0.coords t))) == 1#1) && !(k0_cond4 (grid0.coords t) ((tbl m).atD 0 (k0_off1 (grid0.coords t))) == 1#1)) = false
  rcases c3_or_c4 (grid0.coords t) ((tbl m).atD 0 (k0_off1 (grid0.coords t))) with h | h <;> simp [h]
theorem idle13 (hO : Ok m) (c : Dev nD) (t : Fin (cfgM m hO).N) (h : (cfgM m hO).idle 13 ((cfgM m hO).grid.coords t) = true) :
    ¬cond0_2 (grid0.coords t) ∧ ¬k0_cond4 (grid0.coords t) (nAt m c t) = 1#1 := by
  replace h : (!(k0_cond2 (grid0.coords t) == 1#1) && !(k0_cond4 (grid0.coords t) ((tbl m).atD 0 (k0_off1 (grid0.coords t))) == 1#1)) = true := h
  rw [atD_eq m c] at h
  simpa [cond0_2, nAt] using h
theorem idle14 (hO : Ok m) (t : Fin (cfgM m hO).N) (h : (cfgM m hO).idle 14 ((cfgM m hO).grid.coords t) = true) : ¬cond0_6 (grid0.coords t) := by
  replace h : (!(k0_cond6 (grid0.coords t) == 1#1)) = true := h
  simpa [cond0_6] using h
theorem idle14' (hO : Ok m) (t : Fin (cfgM m hO).N) (h : (cfgM m hO).idle 14 ((cfgM m hO).grid.coords t) = false) : cond0_6 (grid0.coords t) := by
  replace h : (!(k0_cond6 (grid0.coords t) == 1#1)) = false := h
  simpa [cond0_6] using h

/-- Past a sequence's first tile the buffer of its query gradient holds what the point before left. -/
theorem fresh13 (hO : Ok m) (c : Dev nD) : ∀ n : ℕ, n < (cfgM m hO).N → n % 16 ≠ 0 → (cfgM m hO).fresh 13 n = false
  | 0, _, h => absurd (Nat.zero_mod _) h
  | n + 1, hn, h => by
    have hn' : n < (cfgM m hO).N := Nat.lt_of_succ_lt hn
    rw [Pipeline.Cfg.fresh_succ _ _ n hn']
    have hf : ((cfgM m hO).win 13).flush ⟨n, hn'⟩ = false := by
      rw [Bool.eq_false_iff]; intro hh
      have := (flush13 m hO ⟨n, hn'⟩).mp hh
      have e : n % 16 = 15 := this
      omega
    rw [hf, Bool.false_or]
    by_cases h0 : n % 16 = 0
    · have hi : (cfgM m hO).idle 13 ((cfgM m hO).grid.coords ⟨n, hn'⟩) = false := by
        rw [Bool.eq_false_iff]; intro hh
        exact (idle13 m hO c ⟨n, hn'⟩ hh).1 ((hcond0_2 _).mpr h0)
      rw [hi, Bool.false_and]
    · rw [fresh13 hO c n hn' h0, Bool.and_false]

end Cert.Kernel.Own

end
-- ==== Proof.Kernel.Frame.lean ====
/- The frame of the main call: the proof data of the pipeline, the body at every point, the run. -/
module

public import proofs.«01_k».proof.Proof.Kernel.Traj

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open VecWindow (window put)

/-! ## The proof data -/

/-- The invariant before position `n`: the sum over the sequences at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accT m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (accT m hO c n hn)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (accT m hO c (n - 1) (by omega))) ∗ (∃ r, prngReg c r)) ∗ Pipeline.ΦT pre0 (tbl m) c) := by
  cases n with
  | zero => exact absurd rfl hz
  | succ n => rfl

/-- The proof data of the pipeline on core `c`: each input's buffer at its block, each output's at what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => dkOut (insAt m hO c t) (grid0.coords t) (nAt m c t) k0_pay3
    | ⟨12, _⟩ => dvOut (insAt m hO c t) (grid0.coords t) (nAt m c t) k0_pay4
    | ⟨13, _⟩ => dqsT m hO c t.val t.isLt
    | ⟨14, _⟩ => k0_pay7 (accT m hO c t.val t.isLt)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = dkOut (insAt m hO c t) (grid0.coords t) (nAt m c t) k0_pay3 := by dsimp only [dats]; try rfl
theorem after0_12 (hO : Ok m) (c : Dev nD) (t : Fin (cfgM m hO).N) : (dats m hO 0 c).after 12 t = dvOut (insAt m hO c t) (grid0.coords t) (nAt m c t) k0_pay4 := by dsimp only [dats]; try rfl
theorem after0_13 (hO : Ok m) (c : Dev nD) (t : Fin (cfgM m hO).N) : (dats m hO 0 c).after 13 t = dqsT m hO c t.val t.isLt := by dsimp only [dats]; try rfl
theorem after0_14 (hO : Ok m) (c : Dev nD) (t : Fin (cfgM m hO).N) : (dats m hO 0 c).after 14 t = k0_pay7 (accT m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-- Past a sequence's first tile the body finds its query gradient as the point before left it. -/
theorem before0_13 (hO : Ok m) (c : Dev nD) (t : Fin (cfgM m hO).N) (ht : t.val % 16 ≠ 0) (d) : (dats m hO 0 c).before 13 t d = dqsT m hO c (t.val - 1) (by omega) := by
  refine (Pipeline.Dat.before_out_traj (dats m hO 0 c) 13 rfl (fun _ _ => rfl) ?_ t.val t rfl d).trans ?_
  · intro s hs hi hfr
    rw [after0_13, after0_13, ← dqs_step m hO c s (dqsT m hO c (s.val - 1) (by omega)) (fun _ => rfl)]
    exact dqsOut_idle _ _ _ _ (idle13 m hO c s hi).1 (idle13 m hO c s hi).2
  · rw [fresh13 m hO c t.val t.isLt ht]
    exact after0_13 m hO c _

/-! ## The body at a point -/

/-- What the body must hand back of a window's buffer, from contents that are what it found where the window is idle and
    not written back, and otherwise what the proof data says. -/
theorem leaves_of (hO : Ok m) (c : Dev nD) (w : Fin (cfgM m hO).W) (t : Fin (cfgM m hO).N) (X)
    (h1 : (cfgM m hO).idle w ((cfgM m hO).grid.coords t) = true → ((cfgM m hO).win w).flush t = false → ∃ d, X = (dats m hO 0 c).before w t d)
    (h2 : (cfgM m hO).idle w ((cfgM m hO).grid.coords t) = false ∨ ((cfgM m hO).win w).flush t = true → X = (dats m hO 0 c).after w t) :
    owns (c : Thread nD τ) (((cfgM m hO).win w).stage ((cfgM m hO).slots t w)) fullShare X ⊢ ((dats m hO 0 c).leavesExact w t : sProp 𝕄) := by
  unfold Dat.leavesExact
  cases hi : (cfgM m hO).idle w ((cfgM m hO).grid.coords t) with
  | false => rw [h2 (.inl hi)]
  | true =>
    cases hf : ((cfgM m hO).win w).flush t with
    | false =>
      obtain ⟨d, hd⟩ := h1 hi hf
      rw [hd]
      iintro H
      iexists d
      iexact H
    | true => rw [h2 (.inr hf)]

theorem leavesIn (hO : Ok m) (c : Dev nD) (w : Fin (cfgM m hO).W) (t : Fin (cfgM m hO).N) (hi : (cfgM m hO).idle w ((cfgM m hO).grid.coords t) = false) :
    ((dats m hO 0 c).leavesExact w t : sProp 𝕄) = owns (c : Thread nD τ) (((cfgM m hO).win w).stage ((cfgM m hO).slots t w)) fullShare ((dats m hO 0 c).after w t) := by
  unfold Dat.leavesExact; rw [hi]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t)

theorem leaves13 (hO : Ok m) (c : Dev nD) (t : Fin (cfgM m hO).N) (d) :
    owns (c : Thread nD τ) (ms0_13 m hO t) fullShare (dqsOut (insAt m hO c t) (grid0.coords t) (nAt m c t) ((dats m hO 0 c).before 13 t d)) ⊢ ((dats m hO 0 c).leavesExact 13 t : sProp 𝕄) :=
  leaves_of m hO c 13 t _ (fun hi _ => ⟨d, dqsOut_idle _ _ _ _ (idle13 m hO c t hi).1 (idle13 m hO c t hi).2⟩)
    (fun _ => (dqs_step m hO c t _ (fun ht => before0_13 m hO c t ht d)).trans (after0_13 m hO c t).symm)

theorem leaves14 (hO : Ok m) (c : Dev nD) (t : Fin (cfgM m hO).N) (d) :
    owns (c : Thread nD τ) (ms0_14 m hO t) fullShare (dq2 (grid0.coords t) ((dats m hO 0 c).before 14 t d) (accT m hO c t.val t.isLt)) ⊢ ((dats m hO 0 c).leavesExact 14 t : sProp 𝕄) :=
  leaves_of m hO c 14 t _ (fun hi _ => ⟨d, if_neg (idle14 m hO t hi)⟩)
    (fun h => ((if_pos (h.elim (idle14' m hO t) fun hf => (hcond0_6 t).mpr ((flush14 m hO t).mp hf))).trans (after0_14 m hO c t).symm))

theorem leaves11 (hO : Ok m) (c : Dev nD) (t : Fin (cfgM m hO).N) (d) :
    owns (c : Thread nD τ) (ms0_11 m hO t) fullShare (dkOut (insAt m hO c t) (grid0.coords t) (nAt m c t) d) ⊢ ((dats m hO 0 c).leavesExact 11 t : sProp 𝕄) :=
  leaves_of m hO c 11 t _ (fun hi => absurd hi (by rw [idle11]; exact Bool.false_ne_true)) (fun _ => (dkOut_indep _ _ _ _ _).trans (after0_11 m hO c t).symm)
theorem leaves12 (hO : Ok m) (c : Dev nD) (t : Fin (cfgM m hO).N) (d) :
    owns (c : Thread nD τ) (ms0_12 m hO t) fullShare (dvOut (insAt m hO c t) (grid0.coords t) (nAt m c t) d) ⊢ ((dats m hO 0 c).leavesExact 12 t : sProp 𝕄) :=
  leaves_of m hO c 12 t _ (fun hi => absurd hi (by rw [show (cfgM m hO).idle 12 = (cfgM m hO).idle 11 from rfl, idle11]; exact Bool.false_ne_true)) (fun _ => (dvOut_indep _ _ _ _ _).trans (after0_12 m hO c t).symm)

set_option maxHeartbeats 8000000 in
/-- The body at a point, with the sum over the sequences as the point finds it. -/
theorem sound_at (hO : Ok m) (c : Dev nD) (t : Fin (cfgM m hO).N) (a : Vec F S7x64x192 .f32) (ha : t.val ≠ 0 → a = accT m hO c (t.val - 1) (by omega)) :
    iprop((iprop(iprop(owns (c : Thread nD τ) scM0_0 fullShare a) ∗ (∃ r, prngReg c r)) ∗ tbPt0 c tbM0_0 (tbl m 0)) ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))
      ⊢ wp frame (wpE (defs₀ (F := F)) Variants.none c none) Set.univ (bodyAt0 (adm m hO) t) (fun _ => bodyPost m hO c t) := by
  unfold bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [leavesIn m hO c 0 t rfl, after0_0]
  rw [leavesIn m hO c 1 t rfl, after0_1]
  rw [leavesIn m hO c 2 t rfl, after0_2]
  rw [leavesIn m hO c 3 t rfl, after0_3]
  rw [leavesIn m hO c 4 t rfl, after0_4]
  rw [leavesIn m hO c 5 t rfl, after0_5]
  rw [leavesIn m hO c 6 t rfl, after0_6]
  rw [leavesIn m hO c 7 t rfl, after0_7]
  rw [leavesIn m hO c 8 t rfl, after0_8]
  rw [leavesIn m hO c 9 t rfl, after0_9]
  rw [leavesIn m hO c 10 t rfl, after0_10]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (insAt m hO c t) (grid0.coords t) (tbl m 0) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [HT]; · iexact HT
  rw [show tword c (tbl m 0) (grid0.coords t) = nAt m c t from rfl]
  unfold dqOut accOut
  rw [dqs_step m hO c t ((dats m hO 0 c).before 13 t d13) (fun ht => before0_13 m hO c t ht d13), acc_step m hO c t a ha]
  rw [← dqs_step m hO c t ((dats m hO 0 c).before 13 t d13) (fun ht => before0_13 m hO c t ht d13)]
  iintro ⟨H0, H1, H2, H3, H4, H5, H6, H7, H8, H9, H10, H11, H12, H13, H14, HS, HT⟩
  isplitl [HS Hg HT]
  · isplitl [HS Hg]
    · isplitl [HS]
      · iexact HS
      · iexact Hg
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves11 m hO c t _); iexact H11
  isplitl [H12]; · iapply (leaves12 m hO c t _); iexact H12
  isplitl [H13]; · iapply (leaves13 m hO c t _); iexact H13
  iapply (leaves14 m hO c t _); iexact H14

set_option maxHeartbeats 8000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  by_cases hz : t.val = 0
  · rw [PhiS_castSucc m hO c t, PhiS_zero m hO c _ _ hz, PhiT0_eq, PhiA0_eq]
    iintro ⟨⟨⟨⟨%a, HS⟩, Hg⟩, HT⟩, Hr⟩
    iapply (sound_at m hO c t a (fun h => absurd hz h))
    isplitl [HS Hg HT]
    · isplitl [HS Hg]
      · isplitl [HS]
        · iexact HS
        · iexact Hg
      · iexact HT
    iexact Hr
  · rw [PhiS_castSucc m hO c t, PhiS_pos m hO c _ _ hz, PhiT0_eq]
    exact sound_at m hO c t _ (fun _ => rfl)

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _
theorem hout (hO : Ok m) (c : Dev nD) : (dats m hO 0 c).Φ (Fin.last (cfgM m hO).N) ⊢ Pipeline.ΦA spec0 c := by
  have hN : (Fin.last (cfgM m hO).N).val ≠ 0 := by rw [Fin.val_last]; have : (cfgM m hO).N = 384 := N_0; omega
  rw [show (dats m hO 0 c).Φ (Fin.last (cfgM m hO).N) = PhiS m hO c (Fin.last (cfgM m hO).N).val (Nat.le_of_lt_succ (Fin.last (cfgM m hO).N).isLt) from rfl, PhiS_pos m hO c _ _ hN, PhiA0_eq]
  iintro ⟨⟨HS0, Hg⟩, -⟩
  isplitl [HS0]
  · iexists _; iexact HS0
  iexact Hg

/-! ## The run and the frame -/

set_option backward.isDefEq.respectTransparency.types false in
/-- Every execution of @main ends with every array of the pipeline at what the proof data says, every other buffer as the region found it, and every
    semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem args_of (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 2).trans (((dats m hO 0 c).arrAt_in 2 rfl _).trans ((A_eq m hO c 2).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩

/-- The frame of the main call, for lengths that the region admits. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_of m hO r h.1 c, h.2⟩) (run_main_quiescent m ρ hO)

end Cert.Kernel.Own

end
-- ==== Proof.Kernel.Lengths.lean ====
/- The lengths that the region admits: every sequence has a position. What the index maps of the key and value blocks are then. -/
module

public import proofs.«01_k».proof.Proof.Kernel.Traj
public import proofs.«01_k».proof.Proof.Words
public import Idealize.ShloMosaic.Lib.ValueIdx

@[expose] public section

noncomputable section

namespace Cert.Kernel.Own

open Cert.Kernel Cert.Kernel.Gen
open Idealize.ShloMosaic Idealize.ShloMosaic.TcCoe

variable {F : FTy → Type} [FloatOps F]
variable (m : (ℓ : Loc nD τ sig) → Buf (Elt F) ℓ)

/-- The length of a sequence. -/
def len (b : Fin 24) : BitVec 32 := m (((0 : Dev nD).tc : Thread nD τ).loc main_arg9) (Idealize.ShloMosaic.ValueIdx.ix1 b)

/-- The sequence of a point. -/
def seqOf (i : grid0.Coords) : Fin 24 := ⟨(i 0).val, (i 0).isLt⟩

/-- Every sequence has a position, and the lengths are not negative. -/
def Lens : Prop := ∀ b : Fin 24, 0 < (len m b).toNat ∧ (len m b).toNat < 2 ^ 31

/-- The word of the table at a sequence is its length. -/
theorem table_at (i : grid0.Coords) : (tbl m).at 0 (Rect.unit (s := S24) (k0_off1 i) S1.size (k0_off1_inb i)) numel1_S1 = len m (seqOf i) := by
  unfold len
  rw [← V_main_arg9 m 0]
  refine congrArg (V m 0 main_arg9) (funext fun a => Fin.ext ?_)
  fin_cases a
  show (BitVec.ofNat 32 (i 0).val).toNat + 0 * 1 = (i 0).val
  have : (i 0).val < 24 := (i 0).isLt
  rw [BitVec.toNat_ofNat]; omega

/-- The length the body reads is the sequence's. -/
theorem nAt_eq (c : Dev nD) (t : Fin grid0.N) : nAt m c t = len m (seqOf (grid0.coords t)) := table_at m _

/-- The index map of the key blocks: the tile, or the sequence's last tile if that is before it. -/
theorem transform5 (hL : Lens m) (i : grid0.Coords) : cc0_transform_5 k0_off1_inb numel1_S1 (tbl m) i = ![(i 0).val, 0, 0, min (i 1).val (((len m (seqOf i)).toNat - 1) / 1024)] := by
  have h0 : (i 0).val < 24 := (i 0).isLt
  have h1 : (i 1).val < 16 := (i 1).isLt
  have e : cc0_transform_5 k0_off1_inb numel1_S1 (tbl m) i = ![(BitVec.ofNat 32 (i 0).val).toNat, 0, 0, (Scalar.minsi (BitVec.ofNat 32 (i 1).val) (Cert.Own.floorTile (Scalar.subi (len m (seqOf i)) 1#32))).toNat] := by
    rw [← table_at m i]; rfl
  rw [e, Cert.Own.tile_toNat _ (hL _) _ (by omega), BitVec.toNat_ofNat, Nat.mod_eq_of_lt (by omega)]

/-- The index map of the value blocks: the same. -/
theorem transform6 (hL : Lens m) (i : grid0.Coords) : cc0_transform_6 k0_off1_inb numel1_S1 (tbl m) i = ![(i 0).val, 0, 0, min (i 1).val (((len m (seqOf i)).toNat - 1) / 1024)] :=
  transform5 m hL i

theorem inb_kv (x t : Nat) (hx : x < 24) (ht : t < 16) (a : Fin 4) : ((![x, 0, 0, t] : Fin 4 → Nat) a + 1) * S1x7x64x1024.size a ≤ S24x7x64x16384.size a := by
  fin_cases a <;> simp [S1x7x64x1024, S24x7x64x16384] <;> omega

/-- Of such lengths the region's side condition holds. -/
theorem ok_of_lens (hL : Lens m) : Ok m :=
  ⟨fun i => ⟨by
      rw [transform5 m hL i]
      exact inb_kv _ _ (i 0).isLt (Nat.lt_of_le_of_lt (Nat.min_le_left _ _) (i 1).isLt), .inr (Affine.block_words_dvd (of_decide_eq_true rfl) (by decide))⟩,
   fun i => ⟨by
      rw [transform6 m hL i]
      exact inb_kv _ _ (i 0).isLt (Nat.lt_of_le_of_lt (Nat.min_le_left _ _) (i 1).isLt), .inr (Affine.block_words_dvd (of_decide_eq_true rfl) (by decide))⟩⟩

end Cert.Kernel.Own

end
-- ==== Proof.KernelIdeal.Base.lean ====
/- The frame of the main call, shared part: what @main leaves before the pipelined region, the prefetched length table,
   the windows' blocks, the branch conditions of the body in closed form, and the staging memrefs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    repeat' apply And.intro
    all_goals exact StableHlo.devRef_ne_of_ne (by decide)))

/-! ## The prefetched table of lengths -/

/-- The table's contents when the region is entered. -/
def tbl : pre0.Contents (Elt F) := fun j => V m (0 : Dev nD) (pre0.ref j)
/-- There is one device: on every device the table holds those contents. -/
theorem V_pre (c : Dev nD) (j : Fin 1) : V m c (pre0.ref j) = tbl m j := by
  obtain rfl : c = 0 := Subsingleton.elim _ _; rfl
/-- The region's side condition of the table: the key and value blocks it selects lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S24 .i32 := Memref.whole main_arg9
abbrev htbM0_0 : tbM0_0.IsWhole := Memref.isWhole_whole _
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word the body loads from the table at a grid point: the length of the point's sequence. -/
abbrev tword (c : Dev nD) (xt0 : TbBuf0 (F := F) c tbM0_0) (i : grid0.Coords) : BitVec 32 :=
  View.readAt (Elt F) tbM0_0.view (Rect.unit (s := S24) (k0_off1 i) S1.size (k0_off1_inb i)).toLoadRect xt0 (Shape.Idx.first (numel1_S1.symm ▸ Nat.one_pos))

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The branch conditions on the grid point -/

theorem coords_b (t : Fin grid0.N) : (grid0.coords t 0).val = t.val / 16 := by
  have ht : t.val < 384 := Nat.lt_of_lt_of_eq t.isLt N_0
  have e : (grid0.coords t 0).val = t.val / 16 % 24 := Pipeline.Grid.coords_val t 0 (by decide) rfl
  omega
theorem coords_t (t : Fin grid0.N) : (grid0.coords t 1).val = t.val % 16 := by
  have e : (grid0.coords t 1).val = t.val / 1 % 16 := Pipeline.Grid.coords_val t 1 (by decide) rfl
  omega

abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first point. -/
theorem hcond0_1 (t : Fin grid0.N) : cond0_1 (grid0.coords t) ↔ t.val = 0 := by
  have ht : t.val < 384 := Nat.lt_of_lt_of_eq t.isLt N_0
  have e0 := coords_b t
  have e1 := coords_t t
  simp only [cond0_1, e0, e1]
  word_cmp
abbrev cond0_2 (i : grid0.Coords) : Prop := k0_cond2 i = 1#1
/-- The first tile of a sequence. -/
theorem hcond0_2 (t : Fin grid0.N) : cond0_2 (grid0.coords t) ↔ t.val % 16 = 0 := by
  have ht : t.val < 384 := Nat.lt_of_lt_of_eq t.isLt N_0
  have e0 := coords_b t
  have e1 := coords_t t
  simp only [cond0_2, k0_cond2, e0, e1]
  word_cmp
abbrev cond0_5 (i : grid0.Coords) : Prop := (Scalar.cmpi .ne (Scalar.extui (Scalar.cmpi .eq (BitVec.ofNat 32 (i 1).val) 15#32)) 0#32) = 1#1
/-- The last tile of a sequence. -/
theorem hcond0_5 (t : Fin grid0.N) : cond0_5 (grid0.coords t) ↔ t.val % 16 = 15 := by
  have ht : t.val < 384 := Nat.lt_of_lt_of_eq t.isLt N_0
  have e0 := coords_b t
  have e1 := coords_t t
  simp only [cond0_5, e0, e1]
  word_cmp
abbrev cond0_6 (i : grid0.Coords) : Prop := k0_cond6 i = 1#1
/-- The last point. -/
theorem hcond0_6 (t : Fin grid0.N) : cond0_6 (grid0.coords t) ↔ t.val = 383 := by
  have ht : t.val < 384 := Nat.lt_of_lt_of_eq t.isLt N_0
  have e0 := coords_b t
  have e1 := coords_t t
  simp only [cond0_6, k0_cond6, e0, e1]
  word_cmp

/-! ## The staging memrefs -/

abbrev ms0_0 (hO : Ok m) (t : Fin (cfgM m hO).N) : Memref sig .tc .smem S7x24 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S7x24 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S24x7 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S7x192x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S7x64x192 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x7x64x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x7x64x1024 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x7x192x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x7x192x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x7x192x64 .fp8e5m2 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x7x64x192 .fp8e5m2 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x7x64x1024 .bf16 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x7x64x1024 .bf16 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x7x64x192 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S7x64x192 .bf16 := spec0_14.stage ((cfgM m hO).slots t 14)
abbrev hs0_14 (hO : Ok m) (t : Fin (cfgM m hO).N) : (ms0_14 m hO t).IsWhole := hstage0_14 (((cfgM m hO).slots t 14).cast nbuf0_14)
/-- The accumulator scratch. -/
abbrev scM0_0 : Memref sig .tc .vmem S7x64x192 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body at point `t`, on what the pipeline calls it with. -/
abbrev bodyAt0 (a : (pcfg0 (F := F)).Adm) (t : Fin (cfg0 a).N) : Prog (TpuEff nD τ sig (Elt F) Λ₀ .tc) PUnit :=
  cc0_main (grid0.coords t) (Memref.whole main_arg9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

end Cert.KernelIdeal.Own

end
-- ==== Proof.KernelIdeal.Block.lean ====
/- One head and one block of 256 positions of the body: the program of a block and of a head with the head and the block
   as parameters, the values they compute, and the body of the kernel as the seven heads in a row. -/
module

public import proofs.«01_k».proof.Proof.KernelIdeal.Base

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of a block -/

/-- The masked softmax weights of a block: `exp (cs * (q k) - lse)` at the positions before `n`, zero elsewhere. -/
def pBlk (cs : F .f32) (n st : BitVec 32) (q : FVec F S192x64 .bf16) (k : FVec F S64x256 .bf16) (l : FVec F S192x256 .f32) : FVec F S192x256 .f32 :=
  select (broadcastTo S192x256 (shapeCast S1x256 (cmpi .slt (addi (broadcast S1x256 st) (iota .tc S1x256 32 [1] iota_S1x256_d1_w32)) (broadcast S1x256 n)) shapeCasts_S1x256_S1x256) broadcasts_S1x256_S192x256)
    (exp (subf (mulf (broadcast S192x256 cs) (matmul dot_S192x64_S64x256_S192x256_1_0_0_1_n_n none q k (constant S192x256 .f32 0x00000000#32))) l))
    (broadcast S192x256 (Scalar.ofBits .f32 0x00000000#32))

/-- The gradient of a block's scores, rounded: `p * (cdp * (do v) - delta)`. -/
def dsBlk (cdp : F .f32) (p : FVec F S192x256 .f32) (d : FVec F S192x64 .fp8e5m2) (v : FVec F S64x256 .fp8e4m3) (de : FVec F S192x256 .f32) : FVec F S192x256 .bf16 :=
  truncf .bf16 (mulf p (subf (mulf (broadcast S192x256 cdp) (matmul dot_S192x64_S64x256_S192x256_1_0_0_1_n_n none d v (constant S192x256 .f32 0x00000000#32))) de)) bitsLt_bf16_f32

/-- The gradient of a block's values. -/
def dvBlk (dsc : F .f32) (doT : FVec F S64x192 .bf16) (p : FVec F S192x256 .f32) : FVec F S64x256 .bf16 :=
  truncf .bf16 (mulf (broadcast S64x256 dsc) (matmul dot_S64x192_S192x256_S64x256_1_0_0_1_n_n none doT (truncf .bf16 p bitsLt_bf16_f32) (constant S64x256 .f32 0x00000000#32))) bitsLt_bf16_f32

/-- The gradient of a block's keys. -/
def dkBlk (qt : FVec F S64x192 .bf16) (ds : FVec F S192x256 .bf16) : FVec F S64x256 .bf16 :=
  truncf .bf16 (mulf (broadcast S64x256 (Scalar.ofBits .f32 0x3E000000#32)) (matmul dot_S64x192_S192x256_S64x256_1_0_0_1_n_n none qt ds (constant S64x256 .f32 0x00000000#32))) bitsLt_bf16_f32

/-- A block's part of the gradient of the queries. -/
def dqBlk (k : FVec F S64x256 .bf16) (ds : FVec F S192x256 .bf16) : FVec F S64x192 .f32 :=
  matmul dot_S64x256_S192x256_S64x192_1_1_0_0_n_n none k ds (constant S64x192 .f32 0x00000000#32)

/-- One half of a row twice: the log-sum-exp and the delta are kept 128 lanes wide. -/
def twice (x : Vec F S1x1x192x128 .f32) : FVec F S192x256 .f32 :=
  concatenate S192x256 1 [⟨S192x128, shapeCast S192x128 x shapeCasts_S1x1x192x128_S192x128⟩, ⟨S192x128, shapeCast S192x128 x shapeCasts_S1x1x192x128_S192x128⟩] concatenates_S192x128_S192x128_S192x256_d1

/-! ## The places a block and a head read and write -/

theorem inbKv (h j : Nat) (hh : h < 7) (hj : j < 4) : ∀ a, (![0, h, 0, 256 * j] : Fin 4 → Nat) a + S1x1x64x256.size a ≤ S1x7x64x1024.size a := by
  intro a; fin_cases a
  · show 0 + 1 ≤ 1
    omega
  · show h + 1 ≤ 7
    omega
  · show 0 + 64 ≤ 64
    omega
  · show 256 * j + 256 ≤ 1024
    omega

abbrev rectKv (h j : Nat) (hh : h < 7) (hj : j < 4) : Rect S1x7x64x1024 := Rect.unit (s := S1x7x64x1024) ![0, h, 0, 256 * j] S1x1x64x256.size (inbKv h j hh hj)

theorem inbRow (h : Nat) (hh : h < 7) : ∀ a, (![0, h, 0, 0] : Fin 4 → Nat) a + S1x1x192x128.size a ≤ S1x7x192x128.size a := by
  intro a; fin_cases a
  · show 0 + 1 ≤ 1
    omega
  · show h + 1 ≤ 7
    omega
  · show 0 + 192 ≤ 192
    omega
  · show 0 + 128 ≤ 128
    omega

abbrev rectRow (h : Nat) (hh : h < 7) : Rect S1x7x192x128 := Rect.unit (s := S1x7x192x128) ![0, h, 0, 0] S1x1x192x128.size (inbRow h hh)

theorem inbDo (h : Nat) (hh : h < 7) : ∀ a, (![0, h, 0, 0] : Fin 4 → Nat) a + S1x1x192x64.size a ≤ S1x7x192x64.size a := by
  intro a; fin_cases a
  · show 0 + 1 ≤ 1
    omega
  · show h + 1 ≤ 7
    omega
  · show 0 + 192 ≤ 192
    omega
  · show 0 + 64 ≤ 64
    omega

abbrev rectDo (h : Nat) (hh : h < 7) : Rect S1x7x192x64 := Rect.unit (s := S1x7x192x64) ![0, h, 0, 0] S1x1x192x64.size (inbDo h hh)

theorem inbDoT (h : Nat) (hh : h < 7) : ∀ a, (![0, h, 0, 0] : Fin 4 → Nat) a + S1x1x64x192.size a ≤ S1x7x64x192.size a := by
  intro a; fin_cases a
  · show 0 + 1 ≤ 1
    omega
  · show h + 1 ≤ 7
    omega
  · show 0 + 64 ≤ 64
    omega
  · show 0 + 192 ≤ 192
    omega

abbrev rectDoT (h : Nat) (hh : h < 7) : Rect S1x7x64x192 := Rect.unit (s := S1x7x64x192) ![0, h, 0, 0] S1x1x64x192.size (inbDoT h hh)

theorem inbQ (h : Nat) (hh : h < 7) : ∀ a, (![h, 0, 0] : Fin 3 → Nat) a + S1x192x64.size a ≤ S7x192x64.size a := by
  intro a; fin_cases a
  · show h + 1 ≤ 7
    omega
  · show 0 + 192 ≤ 192
    omega
  · show 0 + 64 ≤ 64
    omega

abbrev rectQ (h : Nat) (hh : h < 7) : Rect S7x192x64 := Rect.unit (s := S7x192x64) ![h, 0, 0] S1x192x64.size (inbQ h hh)

theorem inbQt (h : Nat) (hh : h < 7) : ∀ a, (![h, 0, 0] : Fin 3 → Nat) a + S1x64x192.size a ≤ S7x64x192.size a := by
  intro a; fin_cases a
  · show h + 1 ≤ 7
    omega
  · show 0 + 64 ≤ 64
    omega
  · show 0 + 192 ≤ 192
    omega

abbrev rectQt (h : Nat) (hh : h < 7) : Rect S7x64x192 := Rect.unit (s := S7x64x192) ![h, 0, 0] S1x64x192.size (inbQt h hh)

theorem inbKs (i : grid0.Coords) (h : Nat) (hh : h < 7) : ∀ a, (![h, (Scalar.indexCast (BitVec.ofNat 32 (i 0).val) : Index).toNat] : Fin 2 → Nat) a + S1x1.size a ≤ S7x24.size a := by
  have h0 := k0_off2_inb i 1
  intro a; fin_cases a
  · show h + 1 ≤ 7
    omega
  · show (Scalar.indexCast (BitVec.ofNat 32 (i 0).val) : Index).toNat + 1 ≤ 24
    exact h0
abbrev rectKs (i : grid0.Coords) (h : Nat) (hh : h < 7) : Rect S7x24 := Rect.unit (s := S7x24) ![h, (Scalar.indexCast (BitVec.ofNat 32 (i 0).val) : Index).toNat] S1x1.size (inbKs i h hh)

theorem inbDs (i : grid0.Coords) (h : Nat) (hh : h < 7) : ∀ a, (![(Scalar.indexCast (BitVec.ofNat 32 (i 0).val) : Index).toNat, h] : Fin 2 → Nat) a + S1x1.size a ≤ S24x7.size a := by
  have h0 := k0_off2_inb i 1
  intro a; fin_cases a
  · show (Scalar.indexCast (BitVec.ofNat 32 (i 0).val) : Index).toNat + 1 ≤ 24
    exact h0
  · show h + 1 ≤ 7
    omega
abbrev rectDs (i : grid0.Coords) (h : Nat) (hh : h < 7) : Rect S24x7 := Rect.unit (s := S24x7) ![(Scalar.indexCast (BitVec.ofNat 32 (i 0).val) : Index).toNat, h] S1x1.size (inbDs i h hh)

theorem packedKv (h j : Nat) (hh : h < 7) (hj : j < 4) : (rectKv h j hh hj).PackedRows (EltTy.packing .bf16) :=
  Or.inr ⟨by decide, rfl, Or.inl ⟨by show (_ : Nat) ∣ 0; exact Nat.dvd_zero _, by show (_ : Nat) ∣ 64; decide⟩⟩

/-! ## The programs -/

section Prog
variable (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole)

/-- A block: reads its keys and values, stores the gradients of both, and returns the query gradient so far. -/
def blockP (n st : BitVec 32) (cs dsc cdp : F .f32) (q : FVec F S192x64 .bf16) (qt doT : FVec F S64x192 .bf16) (h j : Nat) (hh : h < 7) (hj : j < 4) (acc : FVec F S64x192 .f32) :
    Prog (TpuEff nD τ sig (Elt F) Λ₀ .tc) (FVec F S64x192 .f32) := do
  let k0 : Vec F S1x1x64x256 .fp8e4m3 ← Prog.lift (.load arg8 (rectKv h j hh hj).toLoadRect (View.loadsAt_vmem h_S1x1x64x256))
  let v0 : Vec F S1x1x64x256 .fp8e4m3 ← Prog.lift (.load arg9 (rectKv h j hh hj).toLoadRect (View.loadsAt_vmem h_S1x1x64x256))
  let l0 : Vec F S1x1x192x128 .f32 ← Prog.lift (.load arg10 (rectRow h hh).toLoadRect (View.loadsAt_vmem h_S1x1x192x128))
  let d0 : Vec F S1x1x192x128 .f32 ← Prog.lift (.load arg11 (rectRow h hh).toLoadRect (View.loadsAt_vmem h_S1x1x192x128))
  let do0 : Vec F S1x1x192x64 .fp8e5m2 ← Prog.lift (.load arg12 (rectDo h hh).toLoadRect (View.loadsAt_vmem h_S1x1x192x64))
  let kb : FVec F S64x256 .bf16 := extf .bf16 (shapeCast S64x256 k0 shapeCasts_S1x1x64x256_S64x256) bitsLt_fp8e4m3_bf16
  let p : FVec F S192x256 .f32 := pBlk cs n (Scalar.addi st (BitVec.ofNat 32 (256 * j))) q kb (twice l0)
  let ds : FVec F S192x256 .bf16 := dsBlk cdp p (shapeCast S192x64 do0 shapeCasts_S1x1x192x64_S192x64) (shapeCast S64x256 v0 shapeCasts_S1x1x64x256_S64x256) (twice d0)
  let _x : Vec F S1x1x64x256 .bf16 ← Prog.lift (.load arg15 (rectKv h j hh hj).toLoadRect (View.loadsAt_vmem h_S1x1x64x256))
  Prog.lift (.store arg15 (rectKv h j hh hj) (shapeCast S1x1x64x256 (dvBlk dsc doT p) shapeCasts_S64x256_S1x1x64x256) Finset.univ (View.stores_vmem h_S1x1x64x256 (harg15.storeExact_slice rfl _ (packedKv h j hh hj)) (fun _ => rfl)) (.inl rfl))
  let _y : Vec F S1x1x64x256 .bf16 ← Prog.lift (.load arg14 (rectKv h j hh hj).toLoadRect (View.loadsAt_vmem h_S1x1x64x256))
  Prog.lift (.store arg14 (rectKv h j hh hj) (shapeCast S1x1x64x256 (dkBlk qt ds) shapeCasts_S64x256_S1x1x64x256) Finset.univ (View.stores_vmem h_S1x1x64x256 (harg14.storeExact_slice rfl _ (packedKv h j hh hj)) (fun _ => rfl)) (.inl rfl))
  pure (addf acc (dqBlk kb ds))

/-- A head's scales, queries and output gradient. -/
def loadsP (i : grid0.Coords) (h : Nat) (hh : h < 7) :
    Prog (TpuEff nD τ sig (Elt F) Λ₀ .tc) (F .f32 × F .f32 × F .f32 × FVec F S192x64 .bf16 × FVec F S64x192 .bf16 × FVec F S64x192 .bf16) := do
  let ks : Elt F .f32 ← smemLoad arg3 (rectKs i h hh) numel1_S1x1 rfl
  let dsc : Elt F .f32 ← smemLoad arg5 (rectDs i h hh) numel1_S1x1 rfl
  let vs : Elt F .f32 ← smemLoad arg4 (rectKs i h hh) numel1_S1x1 rfl
  let q0 : Vec F S1x192x64 .bf16 ← Prog.lift (.load arg6 (rectQ h hh).toLoadRect (View.loadsAt_vmem h_S1x192x64))
  let qt0 : Vec F S1x64x192 .bf16 ← Prog.lift (.load arg7 (rectQt h hh).toLoadRect (View.loadsAt_vmem h_S1x64x192))
  let do0 : Vec F S1x1x64x192 .fp8e5m2 ← Prog.lift (.load arg13 (rectDoT h hh).toLoadRect (View.loadsAt_vmem h_S1x1x64x192))
  pure (Scalar.mulf (Scalar.ofBits .f32 0x3E000000#32) ks, dsc, Scalar.mulf dsc vs, shapeCast S192x64 q0 shapeCasts_S1x192x64_S192x64, shapeCast S64x192 qt0 shapeCasts_S1x64x192_S64x192,
    extf .bf16 (shapeCast S64x192 do0 shapeCasts_S1x1x64x192_S64x192) bitsLt_fp8e5m2_bf16)

/-- A head's part of the query gradient, scaled and added to its place. -/
def addP (cs : F .f32) (h : Nat) (hh : h < 7) (a : FVec F S64x192 .f32) : Prog (TpuEff nD τ sig (Elt F) Λ₀ .tc) PUnit := do
  let x : Vec F S1x1x64x192 .f32 ← Prog.lift (.load arg16 (rectDoT h hh).toLoadRect (View.loadsAt_vmem h_S1x1x64x192))
  let _y : Vec F S1x1x64x192 .f32 ← Prog.lift (.load arg16 (rectDoT h hh).toLoadRect (View.loadsAt_vmem h_S1x1x64x192))
  Prog.lift (.store arg16 (rectDoT h hh) (shapeCast S1x1x64x192 (addf (shapeCast S64x192 x shapeCasts_S1x1x64x192_S64x192) (mulf a (broadcast S64x192 cs))) shapeCasts_S64x192_S1x1x64x192) Finset.univ (View.stores_vmem_bits_univ h_S1x1x64x192 rfl) (.inl rfl))
  pure ⟨⟩

/-- A head: its scales, its queries and its output gradient, its four blocks, and its part of the query gradient. -/
def headP (i : grid0.Coords) (n st : BitVec 32) (h : Nat) (hh : h < 7) : Prog (TpuEff nD τ sig (Elt F) Λ₀ .tc) PUnit :=
  loadsP arg3 arg4 arg5 arg6 arg7 arg13 i h hh >>= fun t =>
  blockP arg8 arg9 arg10 arg11 arg12 arg14 harg14 arg15 harg15 n st t.1 t.2.1 t.2.2.1 t.2.2.2.1 t.2.2.2.2.1 t.2.2.2.2.2 h 0 hh (by decide) (broadcast S64x192 (Scalar.ofBits .f32 0x00000000#32)) >>= fun a0 =>
  blockP arg8 arg9 arg10 arg11 arg12 arg14 harg14 arg15 harg15 n st t.1 t.2.1 t.2.2.1 t.2.2.2.1 t.2.2.2.2.1 t.2.2.2.2.2 h 1 hh (by decide) a0 >>= fun a1 =>
  blockP arg8 arg9 arg10 arg11 arg12 arg14 harg14 arg15 harg15 n st t.1 t.2.1 t.2.2.1 t.2.2.2.1 t.2.2.2.2.1 t.2.2.2.2.2 h 2 hh (by decide) a1 >>= fun a2 =>
  blockP arg8 arg9 arg10 arg11 arg12 arg14 harg14 arg15 harg15 n st t.1 t.2.1 t.2.2.1 t.2.2.2.1 t.2.2.2.2.1 t.2.2.2.2.2 h 3 hh (by decide) a2 >>= fun a3 =>
  addP arg16 t.1 h hh a3

/-- The active section: the seven heads. -/
def activeP (i : grid0.Coords) (n st : BitVec 32) : Prog (TpuEff nD τ sig (Elt F) Λ₀ .tc) PUnit :=
  headP arg3 arg4 arg5 arg6 arg7 arg8 arg9 arg10 arg11 arg12 arg13 arg14 harg14 arg15 harg15 arg16 i n st 0 (by decide) >>= fun _ =>
  headP arg3 arg4 arg5 arg6 arg7 arg8 arg9 arg10 arg11 arg12 arg13 arg14 harg14 arg15 harg15 arg16 i n st 1 (by decide) >>= fun _ =>
  headP arg3 arg4 arg5 arg6 arg7 arg8 arg9 arg10 arg11 arg12 arg13 arg14 harg14 arg15 harg15 arg16 i n st 2 (by decide) >>= fun _ =>
  headP arg3 arg4 arg5 arg6 arg7 arg8 arg9 arg10 arg11 arg12 arg13 arg14 harg14 arg15 harg15 arg16 i n st 3 (by decide) >>= fun _ =>
  headP arg3 arg4 arg5 arg6 arg7 arg8 arg9 arg10 arg11 arg12 arg13 arg14 harg14 arg15 harg15 arg16 i n st 4 (by decide) >>= fun _ =>
  headP arg3 arg4 arg5 arg6 arg7 arg8 arg9 arg10 arg11 arg12 arg13 arg14 harg14 arg15 harg15 arg16 i n st 5 (by decide) >>= fun _ =>
  headP arg3 arg4 arg5 arg6 arg7 arg8 arg9 arg10 arg11 arg12 arg13 arg14 harg14 arg15 harg15 arg16 i n st 6 (by decide)

end Prog

end Cert.KernelIdeal.Own

end
-- ==== Proof.KernelIdeal.Body.lean ====
/- The body of the kernel in sections, its active section the seven heads in a row, and that this is the printed body. -/
module

public import proofs.«01_k».proof.Proof.KernelIdeal.Block

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the sum over the sequences starts at zero. -/
def sec1P (i : grid0.Coords) (arg18 : Memref sig .tc .vmem S7x64x192 .f32) (harg18 : arg18.IsWhole) : Prog (TpuEff nD τ sig (Elt F) Λ₀ .tc) PUnit :=
  if k0_h1 : cond0_1 i then do
    let v26 : Vec F S7x64x192 .f32 ← Prog.lift (.load arg18 (Rect.unit (s := S7x64x192) ![0, 0, 0] S7x64x192.size inb_S7x64x192_S7x64x192_0_0_0).toLoadRect (View.loadsAt_vmem h_S7x64x192))
    Prog.lift (.store arg18 (Rect.unit (s := S7x64x192) ![0, 0, 0] S7x64x192.size inb_S7x64x192_S7x64x192_0_0_0) (k0_pay1 (F := F)) Finset.univ (View.stores_vmem_bits_univ h_S7x64x192 rfl) (.inl rfl))
    pure ⟨⟩
  else pure ⟨⟩

/-- At the first tile of a sequence its query gradient starts at zero. -/
def sec2P (i : grid0.Coords) (arg16 : Memref sig .tc .vmem S1x7x64x192 .f32) (harg16 : arg16.IsWhole) : Prog (TpuEff nD τ sig (Elt F) Λ₀ .tc) PUnit :=
  if k0_h2 : cond0_2 i then do
    let v26 : Vec F S1x7x64x192 .f32 ← Prog.lift (.load arg16 (Rect.unit (s := S1x7x64x192) ![0, 0, 0, 0] S1x7x64x192.size inb_S1x7x64x192_S1x7x64x192_0_0_0_0).toLoadRect (View.loadsAt_vmem h_S1x7x64x192))
    Prog.lift (.store arg16 (Rect.unit (s := S1x7x64x192) ![0, 0, 0, 0] S1x7x64x192.size inb_S1x7x64x192_S1x7x64x192_0_0_0_0) (k0_pay2 (F := F)) Finset.univ (View.stores_vmem_bits_univ h_S1x7x64x192 rfl) (.inl rfl))
    pure ⟨⟩
  else pure ⟨⟩

/-- Past the valid positions the key and value gradients are zero. -/
def sec3P (i : grid0.Coords) (n : BitVec 32) (arg14 : Memref sig .tc .vmem S1x7x64x1024 .bf16) (harg14 : arg14.IsWhole) (arg15 : Memref sig .tc .vmem S1x7x64x1024 .bf16) (harg15 : arg15.IsWhole) : Prog (TpuEff nD τ sig (Elt F) Λ₀ .tc) PUnit :=
  if k0_h3 : k0_cond3 i n = 1#1 then do
    let v26 : Vec F S1x7x64x1024 .bf16 ← Prog.lift (.load arg14 (Rect.unit (s := S1x7x64x1024) ![0, 0, 0, 0] S1x7x64x1024.size inb_S1x7x64x1024_S1x7x64x1024_0_0_0_0).toLoadRect (View.loadsAt_vmem h_S1x7x64x1024))
    Prog.lift (.store arg14 (Rect.unit (s := S1x7x64x1024) ![0, 0, 0, 0] S1x7x64x1024.size inb_S1x7x64x1024_S1x7x64x1024_0_0_0_0) (k0_pay3 (F := F)) Finset.univ (View.stores_vmem h_S1x7x64x1024 (harg14.storeExact_slice rfl _ packedbf16_S1x7x64x1024_S1x7x64x1024_0_0_0_0) (fun _ => rfl)) (.inl rfl))
    let v28 : Vec F S1x7x64x1024 .bf16 ← Prog.lift (.load arg15 (Rect.unit (s := S1x7x64x1024) ![0, 0, 0, 0] S1x7x64x1024.size inb_S1x7x64x1024_S1x7x64x1024_0_0_0_0).toLoadRect (View.loadsAt_vmem h_S1x7x64x1024))
    Prog.lift (.store arg15 (Rect.unit (s := S1x7x64x1024) ![0, 0, 0, 0] S1x7x64x1024.size inb_S1x7x64x1024_S1x7x64x1024_0_0_0_0) (k0_pay4 (F := F)) Finset.univ (View.stores_vmem h_S1x7x64x1024 (harg15.storeExact_slice rfl _ packedbf16_S1x7x64x1024_S1x7x64x1024_0_0_0_0) (fun _ => rfl)) (.inl rfl))
    pure ⟨⟩
  else pure ⟨⟩

/-- At the last tile of a sequence its query gradient is added to the sum over the sequences. -/
def sec5P (i : grid0.Coords) (arg16 : Memref sig .tc .vmem S1x7x64x192 .f32) (harg16 : arg16.IsWhole) (arg18 : Memref sig .tc .vmem S7x64x192 .f32) (harg18 : arg18.IsWhole) : Prog (TpuEff nD τ sig (Elt F) Λ₀ .tc) PUnit :=
  if k0_h5 : cond0_5 i then do
    let v25 : Vec F S7x64x192 .f32 ← Prog.lift (.load arg18 (Rect.unit (s := S7x64x192) ![0, 0, 0] S7x64x192.size inb_S7x64x192_S7x64x192_0_0_0).toLoadRect (View.loadsAt_vmem h_S7x64x192))
    let v26 : Vec F S1x7x64x192 .f32 ← Prog.lift (.load arg16 (Rect.unit (s := S1x7x64x192) ![0, 0, 0, 0] S1x7x64x192.size inb_S1x7x64x192_S1x7x64x192_0_0_0_0).toLoadRect (View.loadsAt_vmem h_S1x7x64x192))
    let v29 : Vec F S7x64x192 .f32 ← Prog.lift (.load arg18 (Rect.unit (s := S7x64x192) ![0, 0, 0] S7x64x192.size inb_S7x64x192_S7x64x192_0_0_0).toLoadRect (View.loadsAt_vmem h_S7x64x192))
    Prog.lift (.store arg18 (Rect.unit (s := S7x64x192) ![0, 0, 0] S7x64x192.size inb_S7x64x192_S7x64x192_0_0_0) (k0_pay6 v25 v26) Finset.univ (View.stores_vmem_bits_univ h_S7x64x192 rfl) (.inl rfl))
    pure ⟨⟩
  else pure ⟨⟩

/-- At the last point the sum is rounded and stored. -/
def sec6P (i : grid0.Coords) (arg17 : Memref sig .tc .vmem S7x64x192 .bf16) (harg17 : arg17.IsWhole) (arg18 : Memref sig .tc .vmem S7x64x192 .f32) (harg18 : arg18.IsWhole) : Prog (TpuEff nD τ sig (Elt F) Λ₀ .tc) PUnit :=
  if k0_h6 : cond0_6 i then do
    let v25 : Vec F S7x64x192 .f32 ← Prog.lift (.load arg18 (Rect.unit (s := S7x64x192) ![0, 0, 0] S7x64x192.size inb_S7x64x192_S7x64x192_0_0_0).toLoadRect (View.loadsAt_vmem h_S7x64x192))
    let v27 : Vec F S7x64x192 .bf16 ← Prog.lift (.load arg17 (Rect.unit (s := S7x64x192) ![0, 0, 0] S7x64x192.size inb_S7x64x192_S7x64x192_0_0_0).toLoadRect (View.loadsAt_vmem h_S7x64x192))
    Prog.lift (.store arg17 (Rect.unit (s := S7x64x192) ![0, 0, 0] S7x64x192.size inb_S7x64x192_S7x64x192_0_0_0) (k0_pay7 v25) Finset.univ (View.stores_vmem h_S7x64x192 (harg17.storeExact_slice rfl _ packedbf16_S7x64x192_S7x64x192_0_0_0) (fun _ => rfl)) (.inl rfl))
    pure ⟨⟩
  else pure ⟨⟩

/-- At the valid positions the seven heads run. -/
def sec4P (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (i : grid0.Coords) (n : BitVec 32) : Prog (TpuEff nD τ sig (Elt F) Λ₀ .tc) PUnit :=
  if k0_h4 : k0_cond4 i n = 1#1 then do
    activeP arg3 arg4 arg5 arg6 arg7 arg8 arg9 arg10 arg11 arg12 arg13 arg14 harg14 arg15 harg15 arg16 i n (Scalar.muli (BitVec.ofNat 32 (i 1).val) 1024#32)
    pure ⟨⟩
  else pure ⟨⟩

/-- The body, its sections in a row. -/
def bodyP (i : grid0.Coords) (arg2 : Memref sig .tc .smem S24 .i32) (harg2 : arg2.IsWhole) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (arg17 : Memref sig .tc .vmem S7x64x192 .bf16) (harg17 : arg17.IsWhole) (arg18 : Memref sig .tc .vmem S7x64x192 .f32) (harg18 : arg18.IsWhole) : Prog (TpuEff nD τ sig (Elt F) Λ₀ .tc) PUnit :=
  smemLoad arg2 (Rect.unit (s := S24) (k0_off1 i) S1.size (k0_off1_inb i)) numel1_S1 rfl >>= fun n =>
  sec1P i arg18 harg18 >>= fun _ =>
  sec2P i arg16 harg16 >>= fun _ =>
  sec3P i n arg14 harg14 arg15 harg15 >>= fun _ =>
  sec4P arg3 harg3 arg4 harg4 arg5 harg5 arg6 harg6 arg7 harg7 arg8 harg8 arg9 harg9 arg10 harg10 arg11 harg11 arg12 harg12 arg13 harg13 arg14 harg14 arg15 harg15 arg16 harg16 i n >>= fun _ =>
  sec5P i arg16 harg16 arg18 harg18 >>= fun _ =>
  sec6P i arg17 harg17 arg18 harg18

/-- What follows a branch follows in each of its arms. -/
theorem bind_branch {E : Type → Type} {β : Type} {c : Prop} [Decidable c] (A : c → Prog E PUnit) (k : PUnit → Prog E β) :
    ((if h : c then A h else pure ⟨⟩) >>= k) = if h : c then A h >>= k else k ⟨⟩ := by
  split <;> rfl

/-- The printed body is that one. -/
theorem cc0_main_eq_bodyP : cc0_main (F := F) = bodyP (F := F) := by
  funext i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  unfold bodyP sec1P sec2P sec3P sec4P sec5P sec6P
  simp only [bind_branch]
  chain_rfl

end Cert.KernelIdeal.Own

end
-- ==== Proof.KernelIdeal.Vals.lean ====
/- What a block and a head of the body read, store and return, as functions of the contents of the buffers. -/
module

public import proofs.«01_k».proof.Proof.KernelIdeal.Body
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- The input blocks of a point, as the body finds them. -/
structure Ins (F : FTy → Type) [FloatOps F] where
  x0 : Vec F S7x24 .f32
  x1 : Vec F S7x24 .f32
  x2 : Vec F S24x7 .f32
  x3 : Vec F S7x192x64 .bf16
  x4 : Vec F S7x64x192 .bf16
  x5 : Vec F S1x7x64x1024 .fp8e4m3
  x6 : Vec F S1x7x64x1024 .fp8e4m3
  x7 : Vec F S1x7x192x128 .f32
  x8 : Vec F S1x7x192x128 .f32
  x9 : Vec F S1x7x192x64 .fp8e5m2
  x10 : Vec F S1x7x64x192 .fp8e5m2

/-! ## The values of a head and of its blocks, from the input blocks -/

section Vals
variable (X : Ins F) (i : grid0.Coords) (n st : BitVec 32) (h j : Nat) (hh : h < 7) (hj : j < 4)

def ksOf : Elt F .f32 := window X.x0 _ S1x1.size (inbKs i h hh) (Shape.Idx.first (numel1_S1x1.symm ▸ Nat.one_pos))
def vsOf : Elt F .f32 := window X.x1 _ S1x1.size (inbKs i h hh) (Shape.Idx.first (numel1_S1x1.symm ▸ Nat.one_pos))
def dscOf : Elt F .f32 := window X.x2 _ S1x1.size (inbDs i h hh) (Shape.Idx.first (numel1_S1x1.symm ▸ Nat.one_pos))
/-- The scale of the scores of head `h`. -/
def csOf : F .f32 := Scalar.mulf (Scalar.ofBits .f32 0x3E000000#32) (ksOf X i h hh)
/-- The scale of the products of output gradient and values. -/
def cdpOf : F .f32 := Scalar.mulf (dscOf X i h hh) (vsOf X i h hh)
def qOf : FVec F S192x64 .bf16 := shapeCast S192x64 (window X.x3 _ S1x192x64.size (inbQ h hh)) shapeCasts_S1x192x64_S192x64
def qtOf : FVec F S64x192 .bf16 := shapeCast S64x192 (window X.x4 _ S1x64x192.size (inbQt h hh)) shapeCasts_S1x64x192_S64x192
def doTOf : FVec F S64x192 .bf16 := extf .bf16 (shapeCast S64x192 (window X.x10 _ S1x1x64x192.size (inbDoT h hh)) shapeCasts_S1x1x64x192_S64x192) bitsLt_fp8e5m2_bf16
def kbOf : FVec F S64x256 .bf16 := extf .bf16 (shapeCast S64x256 (window X.x5 _ S1x1x64x256.size (inbKv h j hh hj)) shapeCasts_S1x1x64x256_S64x256) bitsLt_fp8e4m3_bf16
def vbOf : FVec F S64x256 .fp8e4m3 := shapeCast S64x256 (window X.x6 _ S1x1x64x256.size (inbKv h j hh hj)) shapeCasts_S1x1x64x256_S64x256
def doOf : FVec F S192x64 .fp8e5m2 := shapeCast S192x64 (window X.x9 _ S1x1x192x64.size (inbDo h hh)) shapeCasts_S1x1x192x64_S192x64
def lseOf : FVec F S192x256 .f32 := twice (window X.x7 _ S1x1x192x128.size (inbRow h hh))
def deltaOf : FVec F S192x256 .f32 := twice (window X.x8 _ S1x1x192x128.size (inbRow h hh))
/-- The masked weights of block `j` of head `h`. -/
def pOf : FVec F S192x256 .f32 := pBlk (csOf X i h hh) n (Scalar.addi st (BitVec.ofNat 32 (256 * j))) (qOf X h hh) (kbOf X h j hh hj) (lseOf X h hh)
/-- The score gradient of block `j` of head `h`. -/
def dsOf : FVec F S192x256 .bf16 := dsBlk (cdpOf X i h hh) (pOf X i n st h j hh hj) (doOf X h hh) (vbOf X h j hh hj) (deltaOf X h hh)
/-- The value gradient of block `j` of head `h`. -/
def dvOf : FVec F S64x256 .bf16 := dvBlk (dscOf X i h hh) (doTOf X h hh) (pOf X i n st h j hh hj)
/-- The key gradient of block `j` of head `h`. -/
def dkOf : FVec F S64x256 .bf16 := dkBlk (qtOf X h hh) (dsOf X i n st h j hh hj)
/-- Block `j`'s part of the query gradient of head `h`. -/
def dqOf : FVec F S64x192 .f32 := dqBlk (kbOf X h j hh hj) (dsOf X i n st h j hh hj)
/-- The query gradient of head `h` over the four blocks of the tile. -/
def dq4Of : FVec F S64x192 .f32 :=
  addf (addf (addf (addf (broadcast S64x192 (Scalar.ofBits .f32 0x00000000#32)) (dqOf X i n st h 0 hh (by decide))) (dqOf X i n st h 1 hh (by decide))) (dqOf X i n st h 2 hh (by decide))) (dqOf X i n st h 3 hh (by decide))

/-- A block's store over what the buffer held. -/
def putKv (d : Vec F S1x7x64x1024 .bf16) (w : FVec F S64x256 .bf16) : Vec F S1x7x64x1024 .bf16 :=
  put d ![0, h, 0, 256 * j] S1x1x64x256.size (shapeCast S1x1x64x256 w shapeCasts_S64x256_S1x1x64x256)
/-- A head's store of its query gradient over what the buffer held: its part added. -/
def putDq (o : Vec F S1x7x64x192 .f32) : Vec F S1x7x64x192 .f32 :=
  put o ![0, h, 0, 0] S1x1x64x192.size (shapeCast S1x1x64x192 (addf (shapeCast S64x192 (window o _ S1x1x64x192.size (inbDoT h hh)) shapeCasts_S1x1x64x192_S64x192) (mulf (dq4Of X i n st h hh) (broadcast S64x192 (csOf X i h hh)))) shapeCasts_S64x192_S1x1x64x192)
end Vals

/-- The four blocks of head `h`, put. -/
def headKv (g : (j : Nat) → j < 4 → FVec F S64x256 .bf16) (h : Nat) (d : Vec F S1x7x64x1024 .bf16) : Vec F S1x7x64x1024 .bf16 :=
  putKv h 3 (putKv h 2 (putKv h 1 (putKv h 0 d (g 0 (by decide))) (g 1 (by decide))) (g 2 (by decide))) (g 3 (by decide))

end Cert.KernelIdeal.Own

end
-- ==== Proof.KernelIdeal.RunBlock.lean ====
/- A block of the body, run. -/
module

public import proofs.«01_k».proof.Proof.KernelIdeal.Vals

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A block, run: the two gradients are put into their buffers, and the query gradient so far grows by the block's part. -/
theorem block_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h j : Nat) (hh : h < 7) (hj : j < 4) (acc : FVec F S64x192 .f32) (d14 d15 : Vec F S1x7x64x1024 .bf16) (K : FVec F S64x192 .f32 → sProp 𝕄)
    (E : Set ℕ) :
        iprop(owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg14 fullShare d14 ∗ owns (c : Thread nD τ) arg15 fullShare d15
            ∗ (iprop(owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg14 fullShare (putKv h j d14 (dkOf X i n st h j hh hj)) ∗ owns (c : Thread nD τ) arg15 fullShare (putKv h j d15 (dvOf X i n st h j hh hj))) -∗ K (addf acc (dqOf X i n st h j hh hj))))
          ⊢ wp frame (wpE (defs₀ (F := F)) Variants.none c none) E (blockP arg8 arg9 arg10 arg11 arg12 arg14 harg14 arg15 harg15 n st (csOf X i h hh) (dscOf X i h hh) (cdpOf X i h hh) (qOf X h hh) (qtOf X h hh) (doTOf X h hh) h j hh hj acc) K := by
  obtain ⟨x0, x1, x2, x3, x4, x5, x6, x7, x8, x9, x10⟩ := X
  unfold blockP owns
  iintro ⟨⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, Hk⟩
  subst hf5; subst hf6; subst hf7; subst hf8; subst hf9; subst hf11; subst hf12
  sl_exec
  sl_step
  rw [show addf acc (dqBlk (block_run.sl.kb c arg8 h j hh hj f5) (block_run.sl.ds c arg8 arg9 arg10 arg11 arg12 i n st h j hh hj x0 x1 x2 x3 x4 x10 f5 f6 f7 f8 f9))
      = addf acc (dqOf ⟨x0, x1, x2, x3, x4, arg8.view.read (Elt F) f5, arg9.view.read (Elt F) f6, arg10.view.read (Elt F) f7, arg11.view.read (Elt F) f8, arg12.view.read (Elt F) f9, x10⟩ i n st h j hh hj) from rfl]
  iapply Hk
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H11]
  · iexists _; isplitr; swap; · iexact H11
    ipureintro; exact View.read_writes_cons_put _ _ _ _ [] rfl
  · iexists _; isplitr; swap; · iexact H12
    ipureintro; exact View.read_writes_cons_put _ _ _ _ [] rfl

end Cert.KernelIdeal.Own

end
-- ==== Proof.KernelIdeal.RunLoads.lean ====
/- The loads of a head, run. -/
module

public import proofs.«01_k».proof.Proof.KernelIdeal.Vals

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head's loads, run. -/
theorem loads_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (h : Nat) (hh : h < 7) (E : Set ℕ)
    (K : F .f32 × F .f32 × F .f32 × FVec F S192x64 .bf16 × FVec F S64x192 .bf16 × FVec F S64x192 .bf16 → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg13 fullShare X.x10
            ∗ (∀ r, ⌜r = (csOf X i h hh, dscOf X i h hh, cdpOf X i h hh, qOf X h hh, qtOf X h hh, doTOf X h hh)⌝ -∗ iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg13 fullShare X.x10) -∗ K r))
          ⊢ wp frame (wpE (defs₀ (F := F)) Variants.none c none) E (loadsP arg3 arg4 arg5 arg6 arg7 arg13 i h hh) K := by
  obtain ⟨x0, x1, x2, x3, x4, x5, x6, x7, x8, x9, x10⟩ := X
  unfold loadsP owns
  iintro ⟨⟨%f0, %hf0, H0⟩, ⟨%f1, %hf1, H1⟩, ⟨%f2, %hf2, H2⟩, ⟨%f3, %hf3, H3⟩, ⟨%f4, %hf4, H4⟩, ⟨%f10, %hf10, H10⟩, Hk⟩
  subst hf0; subst hf1; subst hf2; subst hf3; subst hf4; subst hf10
  sl_exec
  sl_step
  iapply Hk
  · ipureintro; rfl
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H10
  ipureintro; rfl

end Cert.KernelIdeal.Own

end
-- ==== Proof.KernelIdeal.RunAdd.lean ====
/- The last store of a head, run. -/
module

public import proofs.«01_k».proof.Proof.KernelIdeal.Vals

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head's part of the query gradient, put. -/
theorem add_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h : Nat) (hh : h < 7) (o : Vec F S1x7x64x192 .f32) (E : Set ℕ) (K : PUnit → sProp 𝕄) :
        iprop(owns (c : Thread nD τ) arg16 fullShare o
            ∗ (owns (c : Thread nD τ) arg16 fullShare (putDq X i n st h hh o) -∗ K ⟨⟩))
          ⊢ wp frame (wpE (defs₀ (F := F)) Variants.none c none) E (addP arg16 (csOf X i h hh) h hh (dq4Of X i n st h hh)) K := by
  unfold addP owns
  iintro ⟨⟨%f, %hf, H⟩, Hk⟩
  subst hf
  sl_exec
  sl_step
  iapply Hk
  iexists _; isplitr; swap; · iexact H
  ipureintro; exact View.read_writes_cons_put _ _ _ _ [] rfl

end Cert.KernelIdeal.Own

end
-- ==== Proof.KernelIdeal.RunHead.lean ====
/- A head of the body, run. -/
module

public import proofs.«01_k».proof.Proof.KernelIdeal.RunBlock
public import proofs.«01_k».proof.Proof.KernelIdeal.RunLoads
public import proofs.«01_k».proof.Proof.KernelIdeal.RunAdd

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
/-- A head, run. -/
theorem head_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (h : Nat) (hh : h < 7) (d14 d15 : Vec F S1x7x64x1024 .bf16) (o : Vec F S1x7x64x192 .f32) (E : Set ℕ) (K : PUnit → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o
            ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (headKv (fun j hj => dkOf X i n st h j hh hj) h d14) ∗ owns (c : Thread nD τ) arg15 fullShare (headKv (fun j hj => dvOf X i n st h j hh hj) h d15) ∗ owns (c : Thread nD τ) arg16 fullShare (putDq X i n st h hh o)) -∗ K ⟨⟩))
          ⊢ wp frame (wpE (defs₀ (F := F)) Variants.none c none) E (headP arg3 arg4 arg5 arg6 arg7 arg8 arg9 arg10 arg11 arg12 arg13 arg14 harg14 arg15 harg15 arg16 i n st h hh) K := by
  unfold headP
  simp only [wp_bind]
  iintro ⟨H0, H1, H2, H3, H4, H5, H6, H7, H8, H9, H10, HK, HV, HO, Hk⟩
  iapply (loads_run c arg3 harg3 arg4 harg4 arg5 harg5 arg6 harg6 arg7 harg7 arg8 harg8 arg9 harg9 arg10 harg10 arg11 harg11 arg12 harg12 arg13 harg13 arg14 harg14 arg15 harg15 arg16 harg16 X i h hh E _)
  iframe H0 H1 H2 H3 H4 H10
  iintro %r %hr ⟨H0, H1, H2, H3, H4, H10⟩
  subst hr
  dsimp only
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 0 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 1 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 2 hh _ _ _ _ _ E)
  iframe H5 H6 H7 H8 H9 HK HV
  iintro ⟨H5, H6, H7, H8, H9, HK, HV⟩
  iapply (block_run c arg3 harg3 arg4 harg4 arg5 harg5 arg6 harg6 arg7 harg7 arg8 harg8 arg9 harg9 arg10 harg10 arg11 harg11 arg12 harg12 arg13 harg13 arg14 harg14 arg15 harg15 arg16 harg16 X i n st h 3 hh _ _ _ _ _ E)
  iframe H5 H6 H7 H8 H9 HK HV
  iintro ⟨H5, H6, H7, H8, H9, HK, HV⟩
  iapply (add_run c arg3 harg3 arg4 harg4 arg5 harg5 arg6 harg6 arg7 harg7 arg8 harg8 arg9 harg9 arg10 harg10 arg11 harg11 arg12 harg12 arg13 harg13 arg14 harg14 arg15 harg15 arg16 harg16 X i n st h hh o E K)
  iframe HO
  iintro HO
  iapply Hk
  iframe H0 H1 H2 H3 H4 H5 H6 H7 H8 H9 H10 HK HV HO

end Cert.KernelIdeal.Own

end
-- ==== Proof.KernelIdeal.RunActive.lean ====
/- The active section of the body, run. -/
module

public import proofs.«01_k».proof.Proof.KernelIdeal.RunHead

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- The blocks of the seven heads, put. -/
def actKv (g : (h j : Nat) → h < 7 → j < 4 → FVec F S64x256 .bf16) (d : Vec F S1x7x64x1024 .bf16) : Vec F S1x7x64x1024 .bf16 :=
  (headKv (fun j hj => g 6 j (by decide) hj) 6 (headKv (fun j hj => g 5 j (by decide) hj) 5 (headKv (fun j hj => g 4 j (by decide) hj) 4 (headKv (fun j hj => g 3 j (by decide) hj) 3 (headKv (fun j hj => g 2 j (by decide) hj) 2 (headKv (fun j hj => g 1 j (by decide) hj) 1 (headKv (fun j hj => g 0 j (by decide) hj) 0 d)))))))
/-- The seven heads' parts of the query gradient, put. -/
def actDq (X : Ins F) (i : grid0.Coords) (n st : BitVec 32) (o : Vec F S1x7x64x192 .f32) : Vec F S1x7x64x192 .f32 :=
  (putDq X i n st 6 (by decide) (putDq X i n st 5 (by decide) (putDq X i n st 4 (by decide) (putDq X i n st 3 (by decide) (putDq X i n st 2 (by decide) (putDq X i n st 1 (by decide) (putDq X i n st 0 (by decide) o)))))))

set_option maxHeartbeats 4000000 in
/-- The active section, run. -/
theorem active_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n st : BitVec 32) (d14 d15 : Vec F S1x7x64x1024 .bf16) (o : Vec F S1x7x64x192 .f32) (E : Set ℕ) (K : PUnit → sProp 𝕄) :
        iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o
            ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (actKv (fun h j hh hj => dkOf X i n st h j hh hj) d14) ∗ owns (c : Thread nD τ) arg15 fullShare (actKv (fun h j hh hj => dvOf X i n st h j hh hj) d15) ∗ owns (c : Thread nD τ) arg16 fullShare (actDq X i n st o)) -∗ K ⟨⟩))
          ⊢ wp frame (wpE (defs₀ (F := F)) Variants.none c none) E (activeP arg3 arg4 arg5 arg6 arg7 arg8 arg9 arg10 arg11 arg12 arg13 arg14 harg14 arg15 harg15 arg16 i n st) K := by
  unfold activeP
  simp only [wp_bind]
  iintro ⟨H0, H1, H2, H3, H4, H5, H6, H7, H8, H9, H10, HK, HV, HO, Hk⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 0 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 1 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 2 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 3 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 4 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 5 _ _ _ _ E _)
  iframe H0 H1 H2 H3 H4 H5 H6 H7 H8 H9 H10 HK HV HO
  iintro ⟨H0, H1, H2, H3, H4, H5, H6, H7, H8, H9, H10, HK, HV, HO⟩
  iapply (head_run c arg3 harg3 arg4 harg4 arg5 harg5 arg6 harg6 arg7 harg7 arg8 harg8 arg9 harg9 arg10 harg10 arg11 harg11 arg12 harg12 arg13 harg13 arg14 harg14 arg15 harg15 arg16 harg16 X i n st 6 _ _ _ _ E _)
  iframe H0 H1 H2 H3 H4 H5 H6 H7 H8 H9 H10 HK HV HO
  iintro ⟨H0, H1, H2, H3, H4, H5, H6, H7, H8, H9, H10, HK, HV, HO⟩
  unfold actKv actDq
  iapply Hk
  iframe H0 H1 H2 H3 H4 H5 H6 H7 H8 H9 H10 HK HV HO

end Cert.KernelIdeal.Own

end
-- ==== Proof.KernelIdeal.RunSec.lean ====
/- The sections of the body, run. -/
module

public import proofs.«01_k».proof.Proof.KernelIdeal.RunActive

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-! ## What the sections leave -/

section Vals
variable (X : Ins F) (i : grid0.Coords) (n : BitVec 32)
/-- The sum over the sequences after the first section. -/
def acc1 (a : Vec F S7x64x192 .f32) : Vec F S7x64x192 .f32 := if cond0_1 i then k0_pay1 else a
/-- The sequence's query gradient after the second section. -/
def dqs1 (o : Vec F S1x7x64x192 .f32) : Vec F S1x7x64x192 .f32 := if cond0_2 i then k0_pay2 else o
/-- The key gradient after the third section. -/
def dk1 (d : Vec F S1x7x64x1024 .bf16) : Vec F S1x7x64x1024 .bf16 := if k0_cond3 i n = 1#1 then k0_pay3 else d
/-- The value gradient after the third section. -/
def dv1 (d : Vec F S1x7x64x1024 .bf16) : Vec F S1x7x64x1024 .bf16 := if k0_cond3 i n = 1#1 then k0_pay4 else d
/-- The tile's first position. -/
abbrev stOf : BitVec 32 := Scalar.muli (BitVec.ofNat 32 (i 1).val) 1024#32
/-- The key gradient after the active section. -/
def dk2 (d : Vec F S1x7x64x1024 .bf16) : Vec F S1x7x64x1024 .bf16 := if k0_cond4 i n = 1#1 then actKv (fun h j hh hj => dkOf X i n (stOf i) h j hh hj) d else d
/-- The value gradient after the active section. -/
def dv2 (d : Vec F S1x7x64x1024 .bf16) : Vec F S1x7x64x1024 .bf16 := if k0_cond4 i n = 1#1 then actKv (fun h j hh hj => dvOf X i n (stOf i) h j hh hj) d else d
/-- The sequence's query gradient after the active section. -/
def dqs2 (o : Vec F S1x7x64x192 .f32) : Vec F S1x7x64x192 .f32 := if k0_cond4 i n = 1#1 then actDq X i n (stOf i) o else o
/-- The sum over the sequences after the fifth section. -/
def acc2 (a : Vec F S7x64x192 .f32) (o : Vec F S1x7x64x192 .f32) : Vec F S7x64x192 .f32 := if cond0_5 i then k0_pay6 a o else a
/-- The query gradient after the last section. -/
def dq2 (q : Vec F S7x64x192 .bf16) (a : Vec F S7x64x192 .f32) : Vec F S7x64x192 .bf16 := if cond0_6 i then k0_pay7 a else q
end Vals

set_option maxHeartbeats 1000000 in
theorem sec1_run (c : Dev nD) (i : grid0.Coords) (arg18 : Memref sig .tc .vmem S7x64x192 .f32) (harg18 : arg18.IsWhole) (a : Vec F S7x64x192 .f32) (E : Set ℕ) (K : PUnit → sProp 𝕄) :
    iprop(owns (c : Thread nD τ) arg18 fullShare a ∗ (iprop(owns (c : Thread nD τ) arg18 fullShare (acc1 i a)) -∗ K ⟨⟩)) ⊢ wp frame (wpE (defs₀ (F := F)) Variants.none c none) E (sec1P i arg18 harg18) K := by
  unfold sec1P acc1
  split
  · rename_i hc
    unfold owns
    iintro ⟨⟨%f15, %hf15, H15⟩, Hk⟩
    subst hf15
    sl_exec
    sl_step
    iapply Hk
    iexists _; isplitr; swap; · iexact H15
    ipureintro
    exact View.read_writes_full _ _ _ _ _
  · iintro ⟨H15, Hk⟩
    sl_step
    iapply Hk
    iframe H15

set_option maxHeartbeats 1000000 in
theorem sec2_run (c : Dev nD) (i : grid0.Coords) (arg16 : Memref sig .tc .vmem S1x7x64x192 .f32) (harg16 : arg16.IsWhole) (o : Vec F S1x7x64x192 .f32) (E : Set ℕ) (K : PUnit → sProp 𝕄) :
    iprop(owns (c : Thread nD τ) arg16 fullShare o ∗ (iprop(owns (c : Thread nD τ) arg16 fullShare (dqs1 i o)) -∗ K ⟨⟩)) ⊢ wp frame (wpE (defs₀ (F := F)) Variants.none c none) E (sec2P i arg16 harg16) K := by
  unfold sec2P dqs1
  split
  · rename_i hc
    unfold owns
    iintro ⟨⟨%f13, %hf13, H13⟩, Hk⟩
    subst hf13
    sl_exec
    sl_step
    iapply Hk
    iexists _; isplitr; swap; · iexact H13
    ipureintro
    exact View.read_writes_full _ _ _ _ _
  · iintro ⟨H13, Hk⟩
    sl_step
    iapply Hk
    iframe H13

set_option maxHeartbeats 1000000 in
theorem sec3_run (c : Dev nD) (i : grid0.Coords) (n : BitVec 32) (arg14 : Memref sig .tc .vmem S1x7x64x1024 .bf16) (harg14 : arg14.IsWhole) (arg15 : Memref sig .tc .vmem S1x7x64x1024 .bf16) (harg15 : arg15.IsWhole) (d14 : Vec F S1x7x64x1024 .bf16) (d15 : Vec F S1x7x64x1024 .bf16) (E : Set ℕ) (K : PUnit → sProp 𝕄) :
    iprop(owns (c : Thread nD τ) arg14 fullShare d14 ∗ owns (c : Thread nD τ) arg15 fullShare d15 ∗ (iprop(owns (c : Thread nD τ) arg14 fullShare (dk1 i n d14) ∗ owns (c : Thread nD τ) arg15 fullShare (dv1 i n d15)) -∗ K ⟨⟩)) ⊢ wp frame (wpE (defs₀ (F := F)) Variants.none c none) E (sec3P i n arg14 harg14 arg15 harg15) K := by
  unfold sec3P dk1 dv1
  split
  · rename_i hc
    unfold owns
    iintro ⟨⟨%f11, %hf11, H11⟩, ⟨%f12, %hf12, H12⟩, Hk⟩
    subst hf11; subst hf12
    sl_exec
    sl_step
    iapply Hk
    isplitl [H11]
    · iexists _; isplitr; swap; · iexact H11
      ipureintro
      exact View.read_writes_full _ _ _ _ _
    iexists _; isplitr; swap; · iexact H12
    ipureintro
    exact View.read_writes_full _ _ _ _ _
  · iintro ⟨H11, H12, Hk⟩
    sl_step
    iapply Hk
    iframe H11 H12

set_option maxHeartbeats 1000000 in
theorem sec5_run (c : Dev nD) (i : grid0.Coords) (arg16 : Memref sig .tc .vmem S1x7x64x192 .f32) (harg16 : arg16.IsWhole) (arg18 : Memref sig .tc .vmem S7x64x192 .f32) (harg18 : arg18.IsWhole) (o : Vec F S1x7x64x192 .f32) (a : Vec F S7x64x192 .f32) (E : Set ℕ) (K : PUnit → sProp 𝕄) :
    iprop(owns (c : Thread nD τ) arg16 fullShare o ∗ owns (c : Thread nD τ) arg18 fullShare a ∗ (iprop(owns (c : Thread nD τ) arg16 fullShare o ∗ owns (c : Thread nD τ) arg18 fullShare (acc2 i a o)) -∗ K ⟨⟩)) ⊢ wp frame (wpE (defs₀ (F := F)) Variants.none c none) E (sec5P i arg16 harg16 arg18 harg18) K := by
  unfold sec5P acc2
  split
  · rename_i hc
    unfold owns
    iintro ⟨⟨%f13, %hf13, H13⟩, ⟨%f15, %hf15, H15⟩, Hk⟩
    subst hf13; subst hf15
    sl_exec
    sl_step
    iapply Hk
    isplitl [H13]
    · iexists _; isplitr; swap; · iexact H13
      ipureintro
      rfl
    iexists _; isplitr; swap; · iexact H15
    ipureintro
    rw [View.read_writes_full, View.readAt_full, View.readAt_full]
  · iintro ⟨H13, H15, Hk⟩
    sl_step
    iapply Hk
    iframe H13 H15

set_option maxHeartbeats 1000000 in
theorem sec6_run (c : Dev nD) (i : grid0.Coords) (arg17 : Memref sig .tc .vmem S7x64x192 .bf16) (harg17 : arg17.IsWhole) (arg18 : Memref sig .tc .vmem S7x64x192 .f32) (harg18 : arg18.IsWhole) (q : Vec F S7x64x192 .bf16) (a : Vec F S7x64x192 .f32) (E : Set ℕ) (K : PUnit → sProp 𝕄) :
    iprop(owns (c : Thread nD τ) arg17 fullShare q ∗ owns (c : Thread nD τ) arg18 fullShare a ∗ (iprop(owns (c : Thread nD τ) arg17 fullShare (dq2 i q a) ∗ owns (c : Thread nD τ) arg18 fullShare a) -∗ K ⟨⟩)) ⊢ wp frame (wpE (defs₀ (F := F)) Variants.none c none) E (sec6P i arg17 harg17 arg18 harg18) K := by
  unfold sec6P dq2
  split
  · rename_i hc
    unfold owns
    iintro ⟨⟨%f14, %hf14, H14⟩, ⟨%f15, %hf15, H15⟩, Hk⟩
    subst hf14; subst hf15
    sl_exec
    sl_step
    iapply Hk
    isplitl [H14]
    · iexists _; isplitr; swap; · iexact H14
      ipureintro
      rw [View.read_writes_full, View.readAt_full]
    iexists _; isplitr; swap; · iexact H15
    ipureintro
    rfl
  · iintro ⟨H14, H15, Hk⟩
    sl_step
    iapply Hk
    iframe H14 H15

set_option maxHeartbeats 1000000 in
theorem sec4_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (X : Ins F) (i : grid0.Coords) (n : BitVec 32) (d14 d15 : Vec F S1x7x64x1024 .bf16) (o : Vec F S1x7x64x192 .f32) (E : Set ℕ) (K : PUnit → sProp 𝕄) :
    iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (dk2 X i n d14) ∗ owns (c : Thread nD τ) arg15 fullShare (dv2 X i n d15) ∗ owns (c : Thread nD τ) arg16 fullShare (dqs2 X i n o)) -∗ K ⟨⟩))
      ⊢ wp frame (wpE (defs₀ (F := F)) Variants.none c none) E (sec4P arg3 harg3 arg4 harg4 arg5 harg5 arg6 harg6 arg7 harg7 arg8 harg8 arg9 harg9 arg10 harg10 arg11 harg11 arg12 harg12 arg13 harg13 arg14 harg14 arg15 harg15 arg16 harg16 i n) K := by
  unfold sec4P dk2 dv2 dqs2
  split
  · rename_i hc
    rw [wp_bind]
    iintro ⟨H0, H1, H2, H3, H4, H5, H6, H7, H8, H9, H10, HK, HV, HO, Hk⟩
    iapply (active_run c arg3 harg3 arg4 harg4 arg5 harg5 arg6 harg6 arg7 harg7 arg8 harg8 arg9 harg9 arg10 harg10 arg11 harg11 arg12 harg12 arg13 harg13 arg14 harg14 arg15 harg15 arg16 harg16 X i n _ d14 d15 o E _)
    iframe H0 H1 H2 H3 H4 H5 H6 H7 H8 H9 H10 HK HV HO
    iintro ⟨H0, H1, H2, H3, H4, H5, H6, H7, H8, H9, H10, HK, HV, HO⟩
    sl_step
    iapply Hk
    iframe H0 H1 H2 H3 H4 H5 H6 H7 H8 H9 H10 HK HV HO
  · iintro ⟨H0, H1, H2, H3, H4, H5, H6, H7, H8, H9, H10, HK, HV, HO, Hk⟩
    sl_step
    iapply Hk
    iframe H0 H1 H2 H3 H4 H5 H6 H7 H8 H9 H10 HK HV HO

end Cert.KernelIdeal.Own

end
-- ==== Proof.KernelIdeal.RunBody.lean ====
/- The body, run: what it leaves in every buffer, from what it finds. -/
module

public import proofs.«01_k».proof.Proof.KernelIdeal.RunSec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

theorem table_run (c : Dev nD) (i : grid0.Coords) (xt0 : TbBuf0 (F := F) c tbM0_0) (E : Set ℕ) (K : BitVec 32 → sProp 𝕄) :
    iprop(tbPt0 c tbM0_0 xt0 ∗ (tbPt0 c tbM0_0 xt0 -∗ K (tword c xt0 i)))
      ⊢ wp frame (wpE (defs₀ (F := F)) Variants.none c none) E (smemLoad tbM0_0 (Rect.unit (s := S24) (k0_off1 i) S1.size (k0_off1_inb i)) numel1_S1 rfl) K := by
  iintro ⟨HT, Hk⟩
  sl_exec
  sl_step
  iapply Hk
  iexact HT

section Vals
variable (X : Ins F) (i : grid0.Coords) (n : BitVec 32)
/-- The key gradient the body leaves. -/
def dkOut (d : Vec F S1x7x64x1024 .bf16) : Vec F S1x7x64x1024 .bf16 := dk2 X i n (dk1 i n d)
/-- The value gradient the body leaves. -/
def dvOut (d : Vec F S1x7x64x1024 .bf16) : Vec F S1x7x64x1024 .bf16 := dv2 X i n (dv1 i n d)
/-- The sequence's query gradient the body leaves. -/
def dqsOut (o : Vec F S1x7x64x192 .f32) : Vec F S1x7x64x192 .f32 := dqs2 X i n (dqs1 i o)
/-- The sum over the sequences the body leaves. -/
def accOut (a : Vec F S7x64x192 .f32) (o : Vec F S1x7x64x192 .f32) : Vec F S7x64x192 .f32 := acc2 i (acc1 i a) (dqsOut X i n o)
/-- The query gradient the body leaves. -/
def dqOut (q : Vec F S7x64x192 .bf16) (a : Vec F S7x64x192 .f32) (o : Vec F S1x7x64x192 .f32) : Vec F S7x64x192 .bf16 := dq2 i q (accOut X i n a o)
end Vals

set_option maxHeartbeats 1000000 in
/-- The body, run. -/
theorem body_run (c : Dev nD) (arg3 : Memref sig .tc .smem S7x24 .f32) (harg3 : arg3.IsWhole) (arg4 : Memref sig .tc .smem S7x24 .f32) (harg4 : arg4.IsWhole) (arg5 : Memref sig .tc .smem S24x7 .f32) (harg5 : arg5.IsWhole) (arg6 : Memref sig .tc .vmem S7x192x64 .bf16) (harg6 : arg6.IsWhole) (arg7 : Memref sig .tc .vmem S7x64x192 .bf16) (harg7 : arg7.IsWhole) (arg8 : Memref sig .tc .vmem S1x7x64x1024 .fp8e4m3) (harg8 : arg8.IsWhole) (arg9 : Memref sig .tc .vmem S1x7x64x1024 .fp8e4m3) (harg9 : arg9.IsWhole) (arg10 : Memref sig .tc .vmem S1x7x192x128 .f32) (harg10 : arg10.IsWhole) (arg11 : Memref sig .tc .vmem S1x7x192x128 .f32) (harg11 : arg11.IsWhole) (arg12 : Memref sig .tc .vmem S1x7x192x64 .fp8e5m2) (harg12 : arg12.IsWhole) (arg13 : Memref sig .tc .vmem S1x7x64x192 .fp8e5m2) (harg13 : arg13.IsWhole) (arg14 : Memref sig .tc .vmem S1x7x64x1024 .bf16) (harg14 : arg14.IsWhole) (arg15 : Memref sig .tc .vmem S1x7x64x1024 .bf16) (harg15 : arg15.IsWhole) (arg16 : Memref sig .tc .vmem S1x7x64x192 .f32) (harg16 : arg16.IsWhole) (arg17 : Memref sig .tc .vmem S7x64x192 .bf16) (harg17 : arg17.IsWhole) (arg18 : Memref sig .tc .vmem S7x64x192 .f32) (harg18 : arg18.IsWhole) (X : Ins F) (i : grid0.Coords) (xt0 : TbBuf0 (F := F) c tbM0_0) (d14 d15 : Vec F S1x7x64x1024 .bf16) (o : Vec F S1x7x64x192 .f32) (q : Vec F S7x64x192 .bf16) (a : Vec F S7x64x192 .f32) (E : Set ℕ) (K : PUnit → sProp 𝕄) :
    iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare d14 ∗ owns (c : Thread nD τ) arg15 fullShare d15 ∗ owns (c : Thread nD τ) arg16 fullShare o ∗ owns (c : Thread nD τ) arg17 fullShare q ∗ owns (c : Thread nD τ) arg18 fullShare a ∗ tbPt0 c tbM0_0 xt0 ∗ (iprop(owns (c : Thread nD τ) arg3 fullShare X.x0 ∗ owns (c : Thread nD τ) arg4 fullShare X.x1 ∗ owns (c : Thread nD τ) arg5 fullShare X.x2 ∗ owns (c : Thread nD τ) arg6 fullShare X.x3 ∗ owns (c : Thread nD τ) arg7 fullShare X.x4 ∗ owns (c : Thread nD τ) arg8 fullShare X.x5 ∗ owns (c : Thread nD τ) arg9 fullShare X.x6 ∗ owns (c : Thread nD τ) arg10 fullShare X.x7 ∗ owns (c : Thread nD τ) arg11 fullShare X.x8 ∗ owns (c : Thread nD τ) arg12 fullShare X.x9 ∗ owns (c : Thread nD τ) arg13 fullShare X.x10 ∗ owns (c : Thread nD τ) arg14 fullShare (dkOut X i (tword c xt0 i) d14) ∗ owns (c : Thread nD τ) arg15 fullShare (dvOut X i (tword c xt0 i) d15) ∗ owns (c : Thread nD τ) arg16 fullShare (dqsOut X i (tword c xt0 i) o) ∗ owns (c : Thread nD τ) arg17 fullShare (dqOut X i (tword c xt0 i) q a o) ∗ owns (c : Thread nD τ) arg18 fullShare (accOut X i (tword c xt0 i) a o) ∗ tbPt0 c tbM0_0 xt0) -∗ K ⟨⟩))
      ⊢ wp frame (wpE (defs₀ (F := F)) Variants.none c none) E (cc0_main i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_main_eq_bodyP]
  unfold bodyP
  simp only [wp_bind]
  iintro ⟨H0, H1, H2, H3, H4, H5, H6, H7, H8, H9, H10, HK, HV, HO, HQ, HS, HT, Hk⟩
  iapply (table_run c i xt0 E _)
  iframe HT
  iintro HT
  iapply (sec1_run c i arg18 harg18 a E _)
  iframe HS
  iintro HS
  iapply (sec2_run c i arg16 harg16 o E _)
  iframe HO
  iintro HO
  iapply (sec3_run c i _ arg14 harg14 arg15 harg15 d14 d15 E _)
  iframe HK HV
  iintro ⟨HK, HV⟩
  iapply (sec4_run c arg3 harg3 arg4 harg4 arg5 harg5 arg6 harg6 arg7 harg7 arg8 harg8 arg9 harg9 arg10 harg10 arg11 harg11 arg12 harg12 arg13 harg13 arg14 harg14 arg15 harg15 arg16 harg16 X i _ _ _ _ E _)
  iframe H0 H1 H2 H3 H4 H5 H6 H7 H8 H9 H10 HK HV HO
  iintro ⟨H0, H1, H2, H3, H4, H5, H6, H7, H8, H9, H10, HK, HV, HO⟩
  iapply (sec5_run c i arg16 harg16 arg18 harg18 _ _ E _)
  iframe HO HS
  iintro ⟨HO, HS⟩
  iapply (sec6_run c i arg17 harg17 arg18 harg18 q _ E _)
  iframe HQ HS
  iintro ⟨HQ, HS⟩
  unfold dkOut dvOut dqOut accOut dqsOut
  iapply Hk
  iframe H0 H1 H2 H3 H4 H5 H6 H7 H8 H9 H10 HK HV HO HQ HS HT

end Cert.KernelIdeal.Own

end
-- ==== Proof.KernelIdeal.ActVals.lean ====
/- What the stores of a head and of the active section leave, index by index. -/
module

public import proofs.«01_k».proof.Proof.KernelIdeal.RunBody

public import Idealize.ShloMosaic.Lib.ValueIdxCore
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

open Idealize.ShloMosaic.ValueIdx

/-- The place in its block of 256 positions of an element of a tile. -/
def kvIdx (y : S1x7x64x1024.Idx) : S64x256.Idx := ix2 (⟨(y 2).val, (y 2).isLt⟩ : Fin 64) (⟨(y 3).val % 256, Nat.mod_lt _ (by decide)⟩ : Fin 256)
/-- The place in its head of an element of a query gradient. -/
def dqIdx (y : S1x7x64x192.Idx) : S64x192.Idx := ix2 (⟨(y 2).val, (y 2).isLt⟩ : Fin 64) (⟨(y 3).val, (y 3).isLt⟩ : Fin 192)

theorem putKv_apply (h j : Nat) (d : Vec F S1x7x64x1024 .bf16) (w : FVec F S64x256 .bf16) (y : S1x7x64x1024.Idx) :
    putKv h j d w y = if (y 1).val = h ∧ (y 3).val / 256 = j then w (kvIdx y) else d y := by
  unfold putKv put
  by_cases hc : (y 1).val = h ∧ (y 3).val / 256 = j
  · obtain ⟨h1, h3⟩ := hc
    have h0 : (y 0).val < 1 := (y 0).isLt
    have h2 : (y 2).val < 64 := (y 2).isLt
    have hb : ∀ a, (![0, h, 0, 256 * j] : Fin 4 → Nat) a ≤ (y a).val ∧ (y a).val < (![0, h, 0, 256 * j] : Fin 4 → Nat) a + S1x1x64x256.size a := by
      intro a; fin_cases a
      · show 0 ≤ (y 0).val ∧ (y 0).val < 0 + 1
        omega
      · show h ≤ (y 1).val ∧ (y 1).val < h + 1
        omega
      · show 0 ≤ (y 2).val ∧ (y 2).val < 0 + 64
        omega
      · show 256 * j ≤ (y 3).val ∧ (y 3).val < 256 * j + 256
        omega
    rw [dif_pos hb, if_pos ⟨h1, h3⟩]
    refine shapeCast_apply _ _ _ (kvIdx y) ((Shape.rowMajor_val_two _).trans (Eq.trans ?_ (Shape.rowMajor_val_four _).symm))
    show (y 2).val * 256 + (y 3).val % 256 = ((((y 0).val - 0) * 1 + ((y 1).val - h)) * 64 + ((y 2).val - 0)) * 256 + ((y 3).val - 256 * j)
    have := Nat.div_add_mod (y 3).val 256
    rw [h3] at this
    have e0 : (y 0).val = 0 := by omega
    rw [e0, h1]
    omega
  · rw [if_neg hc, dif_neg]
    intro hb
    have b1 : h ≤ (y 1).val ∧ (y 1).val < h + 1 := hb 1
    have b3 : 256 * j ≤ (y 3).val ∧ (y 3).val < 256 * j + 256 := hb 3
    exact hc ⟨by omega, by omega⟩

/-- The stores of the active section into a tile: the tile holds block by block what the section computes, whatever it held. -/
theorem actKv_apply (g : (h j : Nat) → h < 7 → j < 4 → FVec F S64x256 .bf16) (d : Vec F S1x7x64x1024 .bf16) (y : S1x7x64x1024.Idx) :
    actKv g d y = g (y 1).val ((y 3).val / 256) (y 1).isLt (Nat.div_lt_of_lt_mul (y 3).isLt) (kvIdx y) := by
  have key : ∀ (A B : Nat) (hA : A < 7) (hB : B < 4), (y 1).val = A → (y 3).val / 256 = B → actKv g d y = g A B hA hB (kvIdx y) := by
    intro A B hA hB eA eB
    unfold actKv headKv
    simp only [putKv_apply, eA, eB]
    clear eA eB
    interval_cases A <;> interval_cases B <;> simp
  exact key _ _ _ _ rfl rfl

theorem actKv_indep (g : (h j : Nat) → h < 7 → j < 4 → FVec F S64x256 .bf16) (d d' : Vec F S1x7x64x1024 .bf16) : actKv g d = actKv g d' := by
  funext y; rw [actKv_apply, actKv_apply]

theorem putDq_apply (X : Ins F) (i : grid0.Coords) (n st : BitVec 32) (h : Nat) (hh : h < 7) (o : Vec F S1x7x64x192 .f32) (y : S1x7x64x192.Idx) :
    putDq X i n st h hh o y = if (y 1).val = h then addf (fun _ => o y) (mulf (dq4Of X i n st h hh) (broadcast S64x192 (csOf X i h hh))) (dqIdx y) else o y := by
  unfold putDq put
  have h0 : (y 0).val < 1 := (y 0).isLt
  have h2 : (y 2).val < 64 := (y 2).isLt
  have h3 : (y 3).val < 192 := (y 3).isLt
  by_cases hc : (y 1).val = h
  · have hb : ∀ a, (![0, h, 0, 0] : Fin 4 → Nat) a ≤ (y a).val ∧ (y a).val < (![0, h, 0, 0] : Fin 4 → Nat) a + S1x1x64x192.size a := by
      intro a; fin_cases a
      · show 0 ≤ (y 0).val ∧ (y 0).val < 0 + 1
        omega
      · show h ≤ (y 1).val ∧ (y 1).val < h + 1
        omega
      · show 0 ≤ (y 2).val ∧ (y 2).val < 0 + 64
        omega
      · show 0 ≤ (y 3).val ∧ (y 3).val < 0 + 192
        omega
    rw [dif_pos hb, if_pos hc]
    refine (shapeCast_apply _ _ _ (dqIdx y) ((Shape.rowMajor_val_two _).trans (Eq.trans ?_ (Shape.rowMajor_val_four _).symm))).trans ?_
    · show (y 2).val * 192 + (y 3).val = ((((y 0).val - 0) * 1 + ((y 1).val - h)) * 64 + ((y 2).val - 0)) * 192 + ((y 3).val - 0)
      rw [hc]; omega
    · refine congrArg (fun z => addf (fun _ : S64x192.Idx => z) (mulf (dq4Of X i n st h hh) (broadcast S64x192 (csOf X i h hh))) (dqIdx y)) ?_
      refine (shapeCast_apply _ _ _ (Rect.unitLocal (s := S1x7x64x192) (off := (![0, h, 0, 0] : Fin 4 → Nat)) (size := S1x1x64x192.size) y hb) ((Shape.rowMajor_val_four _).trans (Eq.trans ?_ (Shape.rowMajor_val_two _).symm))).trans ?_
      · show ((((y 0).val - 0) * 1 + ((y 1).val - h)) * 64 + ((y 2).val - 0)) * 192 + ((y 3).val - 0) = (y 2).val * 192 + (y 3).val
        rw [hc]; omega
      · unfold window
        congr 1
        funext a
        apply Fin.ext
        show (![0, h, 0, 0] : Fin 4 → Nat) a + 1 * ((y a).val - (![0, h, 0, 0] : Fin 4 → Nat) a) = (y a).val
        have := (hb a).1
        omega
  · rw [if_neg hc, dif_neg]
    intro hb
    have b1 : h ≤ (y 1).val ∧ (y 1).val < h + 1 := hb 1
    exact hc (by omega)

/-- The stores of the active section into the query gradient: each head's part added to what it held. -/
theorem actDq_apply (X : Ins F) (i : grid0.Coords) (n st : BitVec 32) (o : Vec F S1x7x64x192 .f32) (y : S1x7x64x192.Idx) :
    actDq X i n st o y = addf (fun _ => o y) (mulf (dq4Of X i n st (y 1).val (y 1).isLt) (broadcast S64x192 (csOf X i (y 1).val (y 1).isLt))) (dqIdx y) := by
  have key : ∀ (A : Nat) (hA : A < 7), (y 1).val = A → actDq X i n st o y = addf (fun _ => o y) (mulf (dq4Of X i n st A hA) (broadcast S64x192 (csOf X i A hA))) (dqIdx y) := by
    intro A hA eA
    unfold actDq
    simp only [putDq_apply, eA]
    clear eA
    interval_cases A <;> simp
  exact key _ _ rfl

end Cert.KernelIdeal.Own

end
-- ==== Proof.KernelIdeal.Traj.lean ====
/- What the body leaves at every point of the grid: the recursion of the two accumulators over the points, and which
   windows the body leaves alone. -/
module

public import proofs.«01_k».proof.Proof.KernelIdeal.ActVals

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open VecWindow (window put)

/-! ## One of the two sections on the length runs -/

theorem c3_or_c4 (i : grid0.Coords) (n : BitVec 32) : k0_cond3 i n = 1#1 ∨ k0_cond4 i n = 1#1 := by
  unfold k0_cond3 k0_cond4
  dsimp only
  rcases Bool.eq_false_or_eq_true ((Scalar.muli (BitVec.ofNat 32 (i 1).val) 1024#32).slt n) with h | h
  · right
    simp [Scalar.cmpi, Scalar.extui, IntOp.cmpi, h]
  · left
    simp [Scalar.cmpi, Scalar.extui, IntOp.cmpi, BitVec.sle_eq_not_slt, h]

theorem dkOut_indep (X : Ins F) (i : grid0.Coords) (n : BitVec 32) (d d' : Vec F S1x7x64x1024 .bf16) : dkOut X i n d = dkOut X i n d' := by
  unfold dkOut dk2 dk1
  rcases c3_or_c4 i n with h | h
  · simp only [if_pos h]
  · simp only [if_pos h]; exact actKv_indep _ _ _

theorem dvOut_indep (X : Ins F) (i : grid0.Coords) (n : BitVec 32) (d d' : Vec F S1x7x64x1024 .bf16) : dvOut X i n d = dvOut X i n d' := by
  unfold dvOut dv2 dv1
  rcases c3_or_c4 i n with h | h
  · simp only [if_pos h]
  · simp only [if_pos h]; exact actKv_indep _ _ _

theorem dqsOut_first (X : Ins F) (i : grid0.Coords) (n : BitVec 32) (o o' : Vec F S1x7x64x192 .f32) (h : cond0_2 i) : dqsOut X i n o = dqsOut X i n o' := by
  unfold dqsOut dqs1; simp only [if_pos h]

theorem dqsOut_idle (X : Ins F) (i : grid0.Coords) (n : BitVec 32) (o : Vec F S1x7x64x192 .f32) (h : ¬cond0_2 i) (h4 : ¬k0_cond4 i n = 1#1) : dqsOut X i n o = o := by
  unfold dqsOut dqs2 dqs1; simp only [if_neg h, if_neg h4]

/-! ## The blocks and the length of a point, and the two accumulators over the points -/

/-- The input blocks of point `t`. -/
def insAt (hO : Ok m) (c : Dev nD) (t : Fin (cfgM m hO).N) : Ins F :=
  ⟨iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t⟩
/-- The length of the sequence of point `t`. -/
def nAt (c : Dev nD) (t : Fin grid0.N) : BitVec 32 := tword c (tbl m 0) (grid0.coords t)

/-- The sequence's query gradient after point `n`. -/
def dqsT (hO : Ok m) (c : Dev nD) : (n : ℕ) → n < (cfgM m hO).N → Vec F S1x7x64x192 .f32
  | 0, h => dqsOut (insAt m hO c ⟨0, h⟩) (grid0.coords ⟨0, h⟩) (nAt m c ⟨0, h⟩) k0_pay2
  | n + 1, h => dqsOut (insAt m hO c ⟨n + 1, h⟩) (grid0.coords ⟨n + 1, h⟩) (nAt m c ⟨n + 1, h⟩) (dqsT hO c n (Nat.lt_of_succ_lt h))

/-- The sum over the sequences after point `n`. -/
def accT (hO : Ok m) (c : Dev nD) : (n : ℕ) → n < (cfgM m hO).N → Vec F S7x64x192 .f32
  | 0, h => acc2 (grid0.coords ⟨0, h⟩) (acc1 (grid0.coords ⟨0, h⟩) k0_pay1) (dqsT m hO c 0 h)
  | n + 1, h => acc2 (grid0.coords ⟨n + 1, h⟩) (acc1 (grid0.coords ⟨n + 1, h⟩) (accT hO c n (Nat.lt_of_succ_lt h))) (dqsT m hO c (n + 1) h)

/-- The body turns the query gradient of the point before into the point's, and at a sequence's first tile anything. -/
theorem dqs_step (hO : Ok m) (c : Dev nD) (t : Fin (cfgM m hO).N) (o : Vec F S1x7x64x192 .f32)
    (ho : t.val % 16 ≠ 0 → o = dqsT m hO c (t.val - 1) (by omega)) :
    dqsOut (insAt m hO c t) (grid0.coords t) (nAt m c t) o = dqsT m hO c t.val t.isLt := by
  by_cases h : t.val % 16 = 0
  · obtain ⟨n, hn⟩ := t
    cases n with
    | zero => exact dqsOut_first _ _ _ _ _ ((hcond0_2 _).mpr h)
    | succ n => exact dqsOut_first _ _ _ _ _ ((hcond0_2 _).mpr h)
  · rw [ho h]
    obtain ⟨n, hn⟩ := t
    cases n with
    | zero => exact absurd (Nat.zero_mod _) h
    | succ n => rfl

theorem acc_step (hO : Ok m) (c : Dev nD) (t : Fin (cfgM m hO).N) (a : Vec F S7x64x192 .f32)
    (ha : t.val ≠ 0 → a = accT m hO c (t.val - 1) (by omega)) :
    acc2 (grid0.coords t) (acc1 (grid0.coords t) a) (dqsT m hO c t.val t.isLt) = accT m hO c t.val t.isLt := by
  by_cases h : t.val = 0
  · obtain ⟨n, hn⟩ := t
    cases n with
    | zero =>
      unfold accT acc1
      rw [if_pos ((hcond0_1 ⟨0, hn⟩).mpr rfl), if_pos ((hcond0_1 ⟨0, hn⟩).mpr rfl)]
    | succ n => exact absurd h (Nat.succ_ne_zero n)
  · rw [ha h]
    obtain ⟨n, hn⟩ := t
    cases n with
    | zero => exact absurd rfl h
    | succ n => rfl

/-! ## When the windows are written back, and when the body leaves them alone -/

theorem atD_eq (c : Dev nD) (i : grid0.Coords) : (tbl m).atD 0 (k0_off1 i) = tword c (tbl m 0) i := by
  unfold Pipeline.Prefetch.Contents.atD
  split
  · refine congrArg (tbl m 0) (funext fun a => Fin.ext ?_)
    fin_cases a
    rfl
  · rename_i h
    exact (h fun a => by
      obtain rfl : a = (0 : Fin 1) := Subsingleton.elim (α := Fin 1) _ _
      exact k0_off1_inb i 0).elim

theorem flush11 (hO : Ok m) (t : Fin (cfgM m hO).N) : ((cfgM m hO).win 11).flush t = true :=
  ((fun t => Pipeline.Window.flushOf_reads cc0_transform_11 reads0_11 hreads0_11 1 (by decide) (by decide) (Pipeline.Window.sep_of_coord cc0_transform_11 1 3 (fun _ => rfl) (by decide)) (P := 1) (m := 0) (by decide) rfl t : ∀ t : Fin grid0.N, Pipeline.Window.flushOf grid0 true cc0_transform_11 t = true ↔ t.val % 1 = 0) t).mpr (Nat.mod_one _)
theorem flush12 (hO : Ok m) (t : Fin (cfgM m hO).N) : ((cfgM m hO).win 12).flush t = true :=
  ((fun t => Pipeline.Window.flushOf_reads cc0_transform_12 reads0_12 hreads0_12 1 (by decide) (by decide) (Pipeline.Window.sep_of_coord cc0_transform_12 1 3 (fun _ => rfl) (by decide)) (P := 1) (m := 0) (by decide) rfl t : ∀ t : Fin grid0.N, Pipeline.Window.flushOf grid0 true cc0_transform_12 t = true ↔ t.val % 1 = 0) t).mpr (Nat.mod_one _)
theorem flush13 (hO : Ok m) (t : Fin (cfgM m hO).N) : ((cfgM m hO).win 13).flush t = true ↔ t.val % 16 = 15 :=
  (fun t => Pipeline.Window.flushOf_reads cc0_transform_13 reads0_13 hreads0_13 0 (by decide) (by decide) (Pipeline.Window.sep_of_coord cc0_transform_13 0 0 (fun _ => rfl) (by decide)) (P := 16) (m := 15) (by decide) rfl t : ∀ t : Fin grid0.N, Pipeline.Window.flushOf grid0 true cc0_transform_13 t = true ↔ t.val % 16 = 15) t
theorem flush14 (hO : Ok m) (t : Fin (cfgM m hO).N) : ((cfgM m hO).win 14).flush t = true ↔ t.val = 383 :=
  ((fun t => Pipeline.Window.flushOf_const cc0_transform_14 (fun _ _ => rfl) (n := 384) (by decide) rfl t : ∀ t : Fin grid0.N, Pipeline.Window.flushOf grid0 true cc0_transform_14 t = true ↔ t.val % 384 = 383) t).trans
    (by have ht : t.val < 384 := Nat.lt_of_lt_of_eq t.isLt N_0
        omega)

theorem idle11 (hO : Ok m) (t : Fin (cfgM m hO).N) : (cfgM m hO).idle 11 ((cfgM m hO).grid.coords t) = false := by
  show (!(k0_cond3 (grid0.coords t) ((tbl m).atD 0 (k0_off1 (grid0.coords t))) == 1#1) && !(k0_cond4 (grid0.coords t) ((tbl m).atD 0 (k0_off1 (grid0.coords t))) == 1#1)) = false
  rcases c3_or_c4 (grid0.coords t) ((tbl m).atD 0 (k0_off1 (grid0.coords t))) with h | h <;> simp [h]
theorem idle13 (hO : Ok m) (c : Dev nD) (t : Fin (cfgM m hO).N) (h : (cfgM m hO).idle 13 ((cfgM m hO).grid.coords t) = true) :
    ¬cond0_2 (grid0.coords t) ∧ ¬k0_cond4 (grid0.coords t) (nAt m c t) = 1#1 := by
  replace h : (!(k0_cond2 (grid0.coords t) == 1#1) && !(k0_cond4 (grid0.coords t) ((tbl m).atD 0 (k0_off1 (grid0.coords t))) == 1#1)) = true := h
  rw [atD_eq m c] at h
  simpa [cond0_2, nAt] using h
theorem idle14 (hO : Ok m) (t : Fin (cfgM m hO).N) (h : (cfgM m hO).idle 14 ((cfgM m hO).grid.coords t) = true) : ¬cond0_6 (grid0.coords t) := by
  replace h : (!(k0_cond6 (grid0.coords t) == 1#1)) = true := h
  simpa [cond0_6] using h
theorem idle14' (hO : Ok m) (t : Fin (cfgM m hO).N) (h : (cfgM m hO).idle 14 ((cfgM m hO).grid.coords t) = false) : cond0_6 (grid0.coords t) := by
  replace h : (!(k0_cond6 (grid0.coords t) == 1#1)) = false := h
  simpa [cond0_6] using h

/-- Past a sequence's first tile the buffer of its query gradient holds what the point before left. -/
theorem fresh13 (hO : Ok m) (c : Dev nD) : ∀ n : ℕ, n < (cfgM m hO).N → n % 16 ≠ 0 → (cfgM m hO).fresh 13 n = false
  | 0, _, h => absurd (Nat.zero_mod _) h
  | n + 1, hn, h => by
    have hn' : n < (cfgM m hO).N := Nat.lt_of_succ_lt hn
    rw [Pipeline.Cfg.fresh_succ _ _ n hn']
    have hf : ((cfgM m hO).win 13).flush ⟨n, hn'⟩ = false := by
      rw [Bool.eq_false_iff]; intro hh
      have := (flush13 m hO ⟨n, hn'⟩).mp hh
      have e : n % 16 = 15 := this
      omega
    rw [hf, Bool.false_or]
    by_cases h0 : n % 16 = 0
    · have hi : (cfgM m hO).idle 13 ((cfgM m hO).grid.coords ⟨n, hn'⟩) = false := by
        rw [Bool.eq_false_iff]; intro hh
        exact (idle13 m hO c ⟨n, hn'⟩ hh).1 ((hcond0_2 _).mpr h0)
      rw [hi, Bool.false_and]
    · rw [fresh13 hO c n hn' h0, Bool.and_false]

end Cert.KernelIdeal.Own

end
-- ==== Proof.KernelIdeal.Frame.lean ====
/- The frame of the main call: the proof data of the pipeline, the body at every point, the run. -/
module

public import proofs.«01_k».proof.Proof.KernelIdeal.Traj

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
open VecWindow (window put)

/-! ## The proof data -/

/-- The invariant before position `n`: the sum over the sequences at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accT m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM0_0 fullShare (accT m hO c n hn)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM0_0 fullShare (accT m hO c (n - 1) (by omega))) ∗ (∃ r, prngReg c r)) ∗ Pipeline.ΦT pre0 (tbl m) c) := by
  cases n with
  | zero => exact absurd rfl hz
  | succ n => rfl

/-- The proof data of the pipeline on core `c`: each input's buffer at its block, each output's at what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => dkOut (insAt m hO c t) (grid0.coords t) (nAt m c t) k0_pay3
    | ⟨12, _⟩ => dvOut (insAt m hO c t) (grid0.coords t) (nAt m c t) k0_pay4
    | ⟨13, _⟩ => dqsT m hO c t.val t.isLt
    | ⟨14, _⟩ => k0_pay7 (accT m hO c t.val t.isLt)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = dkOut (insAt m hO c t) (grid0.coords t) (nAt m c t) k0_pay3 := by dsimp only [dats]; try rfl
theorem after0_12 (hO : Ok m) (c : Dev nD) (t : Fin (cfgM m hO).N) : (dats m hO 0 c).after 12 t = dvOut (insAt m hO c t) (grid0.coords t) (nAt m c t) k0_pay4 := by dsimp only [dats]; try rfl
theorem after0_13 (hO : Ok m) (c : Dev nD) (t : Fin (cfgM m hO).N) : (dats m hO 0 c).after 13 t = dqsT m hO c t.val t.isLt := by dsimp only [dats]; try rfl
theorem after0_14 (hO : Ok m) (c : Dev nD) (t : Fin (cfgM m hO).N) : (dats m hO 0 c).after 14 t = k0_pay7 (accT m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-- Past a sequence's first tile the body finds its query gradient as the point before left it. -/
theorem before0_13 (hO : Ok m) (c : Dev nD) (t : Fin (cfgM m hO).N) (ht : t.val % 16 ≠ 0) (d) : (dats m hO 0 c).before 13 t d = dqsT m hO c (t.val - 1) (by omega) := by
  refine (Pipeline.Dat.before_out_traj (dats m hO 0 c) 13 rfl (fun _ _ => rfl) ?_ t.val t rfl d).trans ?_
  · intro s hs hi hfr
    rw [after0_13, after0_13, ← dqs_step m hO c s (dqsT m hO c (s.val - 1) (by omega)) (fun _ => rfl)]
    exact dqsOut_idle _ _ _ _ (idle13 m hO c s hi).1 (idle13 m hO c s hi).2
  · rw [fresh13 m hO c t.val t.isLt ht]
    exact after0_13 m hO c _

/-! ## The body at a point -/

/-- What the body must hand back of a window's buffer, from contents that are what it found where the window is idle and
    not written back, and otherwise what the proof data says. -/
theorem leaves_of (hO : Ok m) (c : Dev nD) (w : Fin (cfgM m hO).W) (t : Fin (cfgM m hO).N) (X)
    (h1 : (cfgM m hO).idle w ((cfgM m hO).grid.coords t) = true → ((cfgM m hO).win w).flush t = false → ∃ d, X = (dats m hO 0 c).before w t d)
    (h2 : (cfgM m hO).idle w ((cfgM m hO).grid.coords t) = false ∨ ((cfgM m hO).win w).flush t = true → X = (dats m hO 0 c).after w t) :
    owns (c : Thread nD τ) (((cfgM m hO).win w).stage ((cfgM m hO).slots t w)) fullShare X ⊢ ((dats m hO 0 c).leavesExact w t : sProp 𝕄) := by
  unfold Dat.leavesExact
  cases hi : (cfgM m hO).idle w ((cfgM m hO).grid.coords t) with
  | false => rw [h2 (.inl hi)]
  | true =>
    cases hf : ((cfgM m hO).win w).flush t with
    | false =>
      obtain ⟨d, hd⟩ := h1 hi hf
      rw [hd]
      iintro H
      iexists d
      iexact H
    | true => rw [h2 (.inr hf)]

theorem leavesIn (hO : Ok m) (c : Dev nD) (w : Fin (cfgM m hO).W) (t : Fin (cfgM m hO).N) (hi : (cfgM m hO).idle w ((cfgM m hO).grid.coords t) = false) :
    ((dats m hO 0 c).leavesExact w t : sProp 𝕄) = owns (c : Thread nD τ) (((cfgM m hO).win w).stage ((cfgM m hO).slots t w)) fullShare ((dats m hO 0 c).after w t) := by
  unfold Dat.leavesExact; rw [hi]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t)

theorem leaves13 (hO : Ok m) (c : Dev nD) (t : Fin (cfgM m hO).N) (d) :
    owns (c : Thread nD τ) (ms0_13 m hO t) fullShare (dqsOut (insAt m hO c t) (grid0.coords t) (nAt m c t) ((dats m hO 0 c).before 13 t d)) ⊢ ((dats m hO 0 c).leavesExact 13 t : sProp 𝕄) :=
  leaves_of m hO c 13 t _ (fun hi _ => ⟨d, dqsOut_idle _ _ _ _ (idle13 m hO c t hi).1 (idle13 m hO c t hi).2⟩)
    (fun _ => (dqs_step m hO c t _ (fun ht => before0_13 m hO c t ht d)).trans (after0_13 m hO c t).symm)

theorem leaves14 (hO : Ok m) (c : Dev nD) (t : Fin (cfgM m hO).N) (d) :
    owns (c : Thread nD τ) (ms0_14 m hO t) fullShare (dq2 (grid0.coords t) ((dats m hO 0 c).before 14 t d) (accT m hO c t.val t.isLt)) ⊢ ((dats m hO 0 c).leavesExact 14 t : sProp 𝕄) :=
  leaves_of m hO c 14 t _ (fun hi _ => ⟨d, if_neg (idle14 m hO t hi)⟩)
    (fun h => ((if_pos (h.elim (idle14' m hO t) fun hf => (hcond0_6 t).mpr ((flush14 m hO t).mp hf))).trans (after0_14 m hO c t).symm))

theorem leaves11 (hO : Ok m) (c : Dev nD) (t : Fin (cfgM m hO).N) (d) :
    owns (c : Thread nD τ) (ms0_11 m hO t) fullShare (dkOut (insAt m hO c t) (grid0.coords t) (nAt m c t) d) ⊢ ((dats m hO 0 c).leavesExact 11 t : sProp 𝕄) :=
  leaves_of m hO c 11 t _ (fun hi => absurd hi (by rw [idle11]; exact Bool.false_ne_true)) (fun _ => (dkOut_indep _ _ _ _ _).trans (after0_11 m hO c t).symm)
theorem leaves12 (hO : Ok m) (c : Dev nD) (t : Fin (cfgM m hO).N) (d) :
    owns (c : Thread nD τ) (ms0_12 m hO t) fullShare (dvOut (insAt m hO c t) (grid0.coords t) (nAt m c t) d) ⊢ ((dats m hO 0 c).leavesExact 12 t : sProp 𝕄) :=
  leaves_of m hO c 12 t _ (fun hi => absurd hi (by rw [show (cfgM m hO).idle 12 = (cfgM m hO).idle 11 from rfl, idle11]; exact Bool.false_ne_true)) (fun _ => (dvOut_indep _ _ _ _ _).trans (after0_12 m hO c t).symm)

set_option maxHeartbeats 8000000 in
/-- The body at a point, with the sum over the sequences as the point finds it. -/
theorem sound_at (hO : Ok m) (c : Dev nD) (t : Fin (cfgM m hO).N) (a : Vec F S7x64x192 .f32) (ha : t.val ≠ 0 → a = accT m hO c (t.val - 1) (by omega)) :
    iprop((iprop(iprop(owns (c : Thread nD τ) scM0_0 fullShare a) ∗ (∃ r, prngReg c r)) ∗ tbPt0 c tbM0_0 (tbl m 0)) ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d)))
      ⊢ wp frame (wpE (defs₀ (F := F)) Variants.none c none) Set.univ (bodyAt0 (adm m hO) t) (fun _ => bodyPost m hO c t) := by
  unfold bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [leavesIn m hO c 0 t rfl, after0_0]
  rw [leavesIn m hO c 1 t rfl, after0_1]
  rw [leavesIn m hO c 2 t rfl, after0_2]
  rw [leavesIn m hO c 3 t rfl, after0_3]
  rw [leavesIn m hO c 4 t rfl, after0_4]
  rw [leavesIn m hO c 5 t rfl, after0_5]
  rw [leavesIn m hO c 6 t rfl, after0_6]
  rw [leavesIn m hO c 7 t rfl, after0_7]
  rw [leavesIn m hO c 8 t rfl, after0_8]
  rw [leavesIn m hO c 9 t rfl, after0_9]
  rw [leavesIn m hO c 10 t rfl, after0_10]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) scM0_0 (Memref.isWhole_whole _) (insAt m hO c t) (grid0.coords t) (tbl m 0) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [HT]; · iexact HT
  rw [show tword c (tbl m 0) (grid0.coords t) = nAt m c t from rfl]
  unfold dqOut accOut
  rw [dqs_step m hO c t ((dats m hO 0 c).before 13 t d13) (fun ht => before0_13 m hO c t ht d13), acc_step m hO c t a ha]
  rw [← dqs_step m hO c t ((dats m hO 0 c).before 13 t d13) (fun ht => before0_13 m hO c t ht d13)]
  iintro ⟨H0, H1, H2, H3, H4, H5, H6, H7, H8, H9, H10, H11, H12, H13, H14, HS, HT⟩
  isplitl [HS Hg HT]
  · isplitl [HS Hg]
    · isplitl [HS]
      · iexact HS
      · iexact Hg
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves11 m hO c t _); iexact H11
  isplitl [H12]; · iapply (leaves12 m hO c t _); iexact H12
  isplitl [H13]; · iapply (leaves13 m hO c t _); iexact H13
  iapply (leaves14 m hO c t _); iexact H14

set_option maxHeartbeats 8000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  by_cases hz : t.val = 0
  · rw [PhiS_castSucc m hO c t, PhiS_zero m hO c _ _ hz, PhiT0_eq, PhiA0_eq]
    iintro ⟨⟨⟨⟨%a, HS⟩, Hg⟩, HT⟩, Hr⟩
    iapply (sound_at m hO c t a (fun h => absurd hz h))
    isplitl [HS Hg HT]
    · isplitl [HS Hg]
      · isplitl [HS]
        · iexact HS
        · iexact Hg
      · iexact HT
    iexact Hr
  · rw [PhiS_castSucc m hO c t, PhiS_pos m hO c _ _ hz, PhiT0_eq]
    exact sound_at m hO c t _ (fun _ => rfl)

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _
theorem hout (hO : Ok m) (c : Dev nD) : (dats m hO 0 c).Φ (Fin.last (cfgM m hO).N) ⊢ Pipeline.ΦA spec0 c := by
  have hN : (Fin.last (cfgM m hO).N).val ≠ 0 := by rw [Fin.val_last]; have : (cfgM m hO).N = 384 := N_0; omega
  rw [show (dats m hO 0 c).Φ (Fin.last (cfgM m hO).N) = PhiS m hO c (Fin.last (cfgM m hO).N).val (Nat.le_of_lt_succ (Fin.last (cfgM m hO).N).isLt) from rfl, PhiS_pos m hO c _ _ hN, PhiA0_eq]
  iintro ⟨⟨HS0, Hg⟩, -⟩
  isplitl [HS0]
  · iexists _; iexact HS0
  iexact Hg

/-! ## The run and the frame -/

set_option backward.isDefEq.respectTransparency.types false in
/-- Every execution of @main ends with every array of the pipeline at what the proof data says, every other buffer as the region found it, and every
    semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem args_of (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 2).trans (((dats m hO 0 c).arrAt_in 2 rfl _).trans ((A_eq m hO c 2).trans (V_main_arg7 m c))),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩

/-- The frame of the main call, for lengths that the region admits. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_of m hO r h.1 c, h.2⟩) (run_main_quiescent m ρ hO)

end Cert.KernelIdeal.Own

end
-- ==== Proof.KernelIdeal.Lengths.lean ====
/- The lengths that the region admits: every sequence has a position. What the index maps of the key and value blocks are then. -/
module

public import proofs.«01_k».proof.Proof.KernelIdeal.Traj
public import proofs.«01_k».proof.Proof.Words
public import Idealize.ShloMosaic.Lib.ValueIdx

@[expose] public section

noncomputable section

namespace Cert.KernelIdeal.Own

open Cert.KernelIdeal Cert.KernelIdeal.Gen
open Idealize.ShloMosaic Idealize.ShloMosaic.TcCoe

variable {F : FTy → Type} [FloatOps F]
variable (m : (ℓ : Loc nD τ sig) → Buf (Elt F) ℓ)

/-- The length of a sequence. -/
def len (b : Fin 24) : BitVec 32 := m (((0 : Dev nD).tc : Thread nD τ).loc main_arg9) (Idealize.ShloMosaic.ValueIdx.ix1 b)

/-- The sequence of a point. -/
def seqOf (i : grid0.Coords) : Fin 24 := ⟨(i 0).val, (i 0).isLt⟩

/-- Every sequence has a position, and the lengths are not negative. -/
def Lens : Prop := ∀ b : Fin 24, 0 < (len m b).toNat ∧ (len m b).toNat < 2 ^ 31

/-- The word of the table at a sequence is its length. -/
theorem table_at (i : grid0.Coords) : (tbl m).at 0 (Rect.unit (s := S24) (k0_off1 i) S1.size (k0_off1_inb i)) numel1_S1 = len m (seqOf i) := by
  unfold len
  rw [← V_main_arg9 m 0]
  refine congrArg (V m 0 main_arg9) (funext fun a => Fin.ext ?_)
  fin_cases a
  show (BitVec.ofNat 32 (i 0).val).toNat + 0 * 1 = (i 0).val
  have : (i 0).val < 24 := (i 0).isLt
  rw [BitVec.toNat_ofNat]; omega

/-- The length the body reads is the sequence's. -/
theorem nAt_eq (c : Dev nD) (t : Fin grid0.N) : nAt m c t = len m (seqOf (grid0.coords t)) := table_at m _

/-- The index map of the key blocks: the tile, or the sequence's last tile if that is before it. -/
theorem transform5 (hL : Lens m) (i : grid0.Coords) : cc0_transform_5 k0_off1_inb numel1_S1 (tbl m) i = ![(i 0).val, 0, 0, min (i 1).val (((len m (seqOf i)).toNat - 1) / 1024)] := by
  have h0 : (i 0).val < 24 := (i 0).isLt
  have h1 : (i 1).val < 16 := (i 1).isLt
  have e : cc0_transform_5 k0_off1_inb numel1_S1 (tbl m) i = ![(BitVec.ofNat 32 (i 0).val).toNat, 0, 0, (Scalar.minsi (BitVec.ofNat 32 (i 1).val) (Cert.Own.floorTile (Scalar.subi (len m (seqOf i)) 1#32))).toNat] := by
    rw [← table_at m i]; rfl
  rw [e, Cert.Own.tile_toNat _ (hL _) _ (by omega), BitVec.toNat_ofNat, Nat.mod_eq_of_lt (by omega)]

/-- The index map of the value blocks: the same. -/
theorem transform6 (hL : Lens m) (i : grid0.Coords) : cc0_transform_6 k0_off1_inb numel1_S1 (tbl m) i = ![(i 0).val, 0, 0, min (i 1).val (((len m (seqOf i)).toNat - 1) / 1024)] :=
  transform5 m hL i

theorem inb_kv (x t : Nat) (hx : x < 24) (ht : t < 16) (a : Fin 4) : ((![x, 0, 0, t] : Fin 4 → Nat) a + 1) * S1x7x64x1024.size a ≤ S24x7x64x16384.size a := by
  fin_cases a <;> simp [S1x7x64x1024, S24x7x64x16384] <;> omega

/-- Of such lengths the region's side condition holds. -/
theorem ok_of_lens (hL : Lens m) : Ok m :=
  ⟨fun i => ⟨by
      rw [transform5 m hL i]
      exact inb_kv _ _ (i 0).isLt (Nat.lt_of_le_of_lt (Nat.min_le_left _ _) (i 1).isLt), .inr (Affine.block_words_dvd (of_decide_eq_true rfl) (by decide))⟩,
   fun i => ⟨by
      rw [transform6 m hL i]
      exact inb_kv _ _ (i 0).isLt (Nat.lt_of_le_of_lt (Nat.min_le_left _ _) (i 1).isLt), .inr (Affine.block_words_dvd (of_decide_eq_true rfl) (by decide))⟩⟩

end Cert.KernelIdeal.Own

end
-- ==== Proof.Spec.lean ====
/- The backward pass of the masked attention over the extended reals, as a function of the arguments: what both programs compute. -/
module

public import Idealize.ShloMosaic.Lib.ValueIdx

@[expose] public section

noncomputable section

namespace Cert.Own

open Idealize.ShloMosaic

/-- The factor `1/8` of the scores. -/
abbrev sm : EReal := Ideal.ofBits .f32 0x3E000000#32

/-- The arguments, by sequence `b`, position `t`, head `h`, latent `l` and channel `d`. -/
structure Args where
  q : Fin 192 → Fin 7 → Fin 64 → EReal
  k : Fin 24 → Fin 16384 → Fin 7 → Fin 64 → EReal
  ks : Fin 24 → Fin 7 → EReal
  v : Fin 24 → Fin 16384 → Fin 7 → Fin 64 → EReal
  vs : Fin 24 → Fin 7 → EReal
  lse : Fin 24 → Fin 7 → Fin 192 → EReal
  dout : Fin 24 → Fin 192 → Fin 7 → Fin 64 → EReal
  dsc : Fin 24 → Fin 7 → EReal
  delta : Fin 24 → Fin 7 → Fin 192 → EReal
  n : Fin 24 → ℕ

variable (A : Args)

/-- The masked weight of position `t` for latent `l`. -/
def prob (b : Fin 24) (h : Fin 7) (l : Fin 192) (t : Fin 16384) : EReal :=
  if t.val < A.n b then Ideal.exp (sm * A.ks b h * (∑ d : Fin 64, A.q l h d * A.k b t h d) - A.lse b h l) else 0

/-- The gradient of a score. -/
def dscore (b : Fin 24) (h : Fin 7) (l : Fin 192) (t : Fin 16384) : EReal :=
  prob A b h l t * (A.dsc b h * A.vs b h * (∑ d : Fin 64, A.dout b l h d * A.v b t h d) - A.delta b h l)

/-- The gradient of the values. -/
def dvSpec (b : Fin 24) (h : Fin 7) (d : Fin 64) (t : Fin 16384) : EReal :=
  A.dsc b h * ∑ l : Fin 192, A.dout b l h d * prob A b h l t

/-- The gradient of the keys. -/
def dkSpec (b : Fin 24) (h : Fin 7) (d : Fin 64) (t : Fin 16384) : EReal :=
  sm * ∑ l : Fin 192, A.q l h d * dscore A b h l t

/-- A position's part of the gradient of the queries, before the scale. -/
def dqTerm (b : Fin 24) (h : Fin 7) (d : Fin 64) (l : Fin 192) (t : Fin 16384) : EReal := A.k b t h d * dscore A b h l t

/-- The gradient of the queries of one sequence. -/
def dqsSpec (b : Fin 24) (h : Fin 7) (d : Fin 64) (l : Fin 192) : EReal :=
  sm * A.ks b h * ∑ t : Fin 16384, dqTerm A b h d l t

/-- The gradient of the queries. -/
def dqSpec (h : Fin 7) (d : Fin 64) (l : Fin 192) : EReal := ∑ b : Fin 24, dqsSpec A b h d l

variable {A}

theorem prob_masked {b : Fin 24} {t : Fin 16384} (ht : A.n b ≤ t.val) (h : Fin 7) (l : Fin 192) : prob A b h l t = 0 := if_neg (by omega)

theorem dscore_masked {b : Fin 24} {t : Fin 16384} (ht : A.n b ≤ t.val) (h : Fin 7) (l : Fin 192) : dscore A b h l t = 0 := by
  unfold dscore; rw [prob_masked ht, zero_mul]

theorem dvSpec_masked {b : Fin 24} {t : Fin 16384} (ht : A.n b ≤ t.val) (h : Fin 7) (d : Fin 64) : dvSpec A b h d t = 0 := by
  unfold dvSpec
  rw [Finset.sum_eq_zero fun l _ => by rw [prob_masked ht, mul_zero], mul_zero]

theorem dkSpec_masked {b : Fin 24} {t : Fin 16384} (ht : A.n b ≤ t.val) (h : Fin 7) (d : Fin 64) : dkSpec A b h d t = 0 := by
  unfold dkSpec
  rw [Finset.sum_eq_zero fun l _ => by rw [dscore_masked ht, mul_zero], mul_zero]

theorem dqTerm_masked {b : Fin 24} {t : Fin 16384} (ht : A.n b ≤ t.val) (h : Fin 7) (d : Fin 64) (l : Fin 192) : dqTerm A b h d l t = 0 := by
  unfold dqTerm; rw [dscore_masked ht, mul_zero]

end Cert.Own

end
-- ==== Proof.KernelIdeal.Blocks.lean ====
/- What a block of the ideal kernel computes, element by element. -/
module

public import proofs.«01_k».proof.Proof.KernelIdeal.Vals
public import proofs.«01_k».proof.Proof.Spec
public import Idealize.ShloMosaic.Lib.MatmulPlain
public import Idealize.ShloMosaic.Lib.ValueIdx
public import Idealize.ShloMosaic.Lib.ValueLayout

@[expose] public section

noncomputable section

namespace Cert.KernelIdeal.Own

open Cert.KernelIdeal Cert.KernelIdeal.Gen
open Idealize.ShloMosaic Idealize.ShloMosaic.ValueIdx
open VecWindow (window)
open Cert.Own (sm)

/-! ## The products -/

theorem dotA_apply {φ₁ φ₂ : FTy} (x : FVec Ideal S192x64 φ₁) (y : FVec Ideal S64x256 φ₂) (l : Fin 192) (c : Fin 256) :
    matmul dot_S192x64_S64x256_S192x256_1_0_0_1_n_n none x y (constant S192x256 .f32 0x00000000#32) (ix2 l c) = ∑ d : Fin 64, x (ix2 l d) * y (ix2 d c) := by
  refine (Ideal.matmul_plain_apply none x y (constant S192x256 .f32 0x00000000#32) l c).trans ?_
  rw [constant_apply, Ideal.ofBits_zero_f32, zero_add]

theorem dotB_apply {φ₁ φ₂ : FTy} (x : FVec Ideal S64x192 φ₁) (y : FVec Ideal S192x256 φ₂) (d : Fin 64) (c : Fin 256) :
    matmul dot_S64x192_S192x256_S64x256_1_0_0_1_n_n none x y (constant S64x256 .f32 0x00000000#32) (ix2 d c) = ∑ l : Fin 192, x (ix2 d l) * y (ix2 l c) := by
  refine (Ideal.matmul_plain_apply none x y (constant S64x256 .f32 0x00000000#32) d c).trans ?_
  rw [constant_apply, Ideal.ofBits_zero_f32, zero_add]

theorem dotC_apply {φ₁ φ₂ : FTy} (x : FVec Ideal S64x256 φ₁) (y : FVec Ideal S192x256 φ₂) (d : Fin 64) (l : Fin 192) :
    matmul dot_S64x256_S192x256_S64x192_1_1_0_0_n_n none x y (constant S64x192 .f32 0x00000000#32) (ix2 d l) = ∑ c : Fin 256, x (ix2 d c) * y (ix2 l c) := by
  refine (Ideal.matmul_transposedRhs_apply none x y (constant S64x192 .f32 0x00000000#32) d l).trans ?_
  rw [constant_apply, Ideal.ofBits_zero_f32, zero_add]

/-! ## The blocks -/

theorem pBlk_apply (cs : EReal) (n st : BitVec 32) (q : FVec Ideal S192x64 .bf16) (k : FVec Ideal S64x256 .bf16) (L : FVec Ideal S192x256 .f32) (l : Fin 192) (c : Fin 256) :
    pBlk (F := Ideal) cs n st q k L (ix2 l c) = Scalar.select (IntOp.cmpi .slt (st + BitVec.ofNat 32 c.val) n) (Ideal.exp (cs * (∑ d : Fin 64, q (ix2 l d) * k (ix2 d c)) - L (ix2 l c))) 0 := by
  unfold pBlk
  rw [select_apply, broadcast_apply]
  have e1 : (Scalar.ofBits (F := Ideal) .f32 0x00000000#32 : EReal) = 0 := Ideal.ofBits_zero_f32
  have e2 : broadcastTo S192x256 (shapeCast S1x256 (cmpi .slt (addi (broadcast S1x256 st) (iota .tc S1x256 32 [1] iota_S1x256_d1_w32)) (broadcast S1x256 n)) shapeCasts_S1x256_S1x256) broadcasts_S1x256_S192x256 (ix2 l c) = IntOp.cmpi .slt (st + BitVec.ofNat 32 c.val) n := by
    refine (broadcastTo_1b_ab_apply _ _ l c).trans ?_
    refine (shapeCast_apply _ _ _ (ix2 0 c) rfl).trans ?_
    show IntOp.cmpi .slt (st + BitVec.ofNat 32 (0 + c.val)) n = _
    rw [Nat.zero_add]
  rw [e2]
  refine congrArg₂ (fun a b => Scalar.select _ a b) ?_ e1
  show Ideal.exp (cs * matmul dot_S192x64_S64x256_S192x256_1_0_0_1_n_n none q k (constant S192x256 .f32 0x00000000#32) (ix2 l c) - L (ix2 l c)) = _
  rw [dotA_apply]

theorem dsBlk_apply (cdp : EReal) (p : FVec Ideal S192x256 .f32) (x : FVec Ideal S192x64 .fp8e5m2) (v : FVec Ideal S64x256 .fp8e4m3) (de : FVec Ideal S192x256 .f32) (l : Fin 192) (c : Fin 256) :
    dsBlk (F := Ideal) cdp p x v de (ix2 l c) = (p (ix2 l c) * (cdp * (∑ d : Fin 64, x (ix2 l d) * v (ix2 d c)) - de (ix2 l c)) : EReal) := by
  unfold dsBlk
  show (p (ix2 l c) * (cdp * matmul dot_S192x64_S64x256_S192x256_1_0_0_1_n_n none x v (constant S192x256 .f32 0x00000000#32) (ix2 l c) - de (ix2 l c)) : EReal) = _
  rw [dotA_apply]

theorem dvBlk_apply (dsc : EReal) (x : FVec Ideal S64x192 .bf16) (p : FVec Ideal S192x256 .f32) (d : Fin 64) (c : Fin 256) :
    dvBlk (F := Ideal) dsc x p (ix2 d c) = (dsc * (∑ l : Fin 192, x (ix2 d l) * p (ix2 l c)) : EReal) := by
  unfold dvBlk
  show (dsc * matmul dot_S64x192_S192x256_S64x256_1_0_0_1_n_n none x (truncf .bf16 p bitsLt_bf16_f32) (constant S64x256 .f32 0x00000000#32) (ix2 d c) : EReal) = _
  rw [dotB_apply]; rfl

theorem dkBlk_apply (x : FVec Ideal S64x192 .bf16) (ds : FVec Ideal S192x256 .bf16) (d : Fin 64) (c : Fin 256) :
    dkBlk (F := Ideal) x ds (ix2 d c) = (sm * (∑ l : Fin 192, x (ix2 d l) * ds (ix2 l c)) : EReal) := by
  unfold dkBlk
  show (sm * matmul dot_S64x192_S192x256_S64x256_1_0_0_1_n_n none x ds (constant S64x256 .f32 0x00000000#32) (ix2 d c) : EReal) = _
  rw [dotB_apply]

theorem dqBlk_apply (k : FVec Ideal S64x256 .bf16) (ds : FVec Ideal S192x256 .bf16) (d : Fin 64) (l : Fin 192) :
    dqBlk (F := Ideal) k ds (ix2 d l) = (∑ c : Fin 256, k (ix2 d c) * ds (ix2 l c) : EReal) := by
  unfold dqBlk
  rw [dotC_apply]

/-- A row twice, read where every lane holds the same. -/
theorem twice_apply (x : Vec Ideal S1x1x192x128 .f32) (r : Fin 192 → EReal) (hx : ∀ (l : Fin 192) (c : Fin 128), x (ix4 0 0 l c) = r l) (l : Fin 192) (c : Fin 256) : twice (F := Ideal) x (ix2 l c) = r l := by
  have hs : ∀ c' : Fin 128, shapeCast S192x128 x shapeCasts_S1x1x192x128_S192x128 (ix2 l c') = r l := fun c' => by
    refine (shapeCast_apply _ _ _ (ix4 0 0 l c') ((Shape.rowMajor_val_four _).trans (Eq.trans ?_ (Shape.rowMajor_val_two _).symm))).trans (hx l c')
    show ((0 * 1 + 0) * 192 + l.val) * 128 + c'.val = l.val * 128 + c'.val
    omega
  unfold twice
  by_cases h : c.val < 128
  · refine (concatenate_pair_apply_left (t := S192x256) (s₁ := S192x128) (s₂ := S192x128) 1 _ _ concatenates_S192x128_S192x128_S192x256_d1 (ix2 l c) rfl (ix2 l (⟨c.val, h⟩ : Fin 128)) ?_).trans (hs _)
    intro b; fin_cases b <;> rfl
  · refine (concatenate_pair_apply_right (t := S192x256) (s₁ := S192x128) (s₂ := S192x128) 1 _ _ concatenates_S192x128_S192x128_S192x256_d1 (ix2 l c) rfl rfl (ix2 l (⟨c.val - 128, by omega⟩ : Fin 128)) ?_ ?_).trans (hs _)
    · intro b; fin_cases b <;> simp
    · show c.val - 128 + 128 = c.val
      omega

end Cert.KernelIdeal.Own

end
-- ==== Proof.KernelIdeal.Reads.lean ====
/- The blocks of a head of the ideal kernel, when the input blocks hold the arguments at a sequence and a tile. -/
module

public import proofs.«01_k».proof.Proof.KernelIdeal.Blocks
public import proofs.«01_k».proof.Proof.KernelIdeal.RunBody
public import proofs.«01_k».proof.Proof.Words

@[expose] public section

noncomputable section

namespace Cert.KernelIdeal.Own

open Cert.KernelIdeal Cert.KernelIdeal.Gen
open Idealize.ShloMosaic Idealize.ShloMosaic.ValueIdx
open VecWindow (window)
open Cert.Own (sm Args prob dscore dvSpec dkSpec dqTerm)

/-- A position of a tile. -/
def posT (tk : Fin 16) (c : Fin 1024) : Fin 16384 := ⟨1024 * tk.val + c.val, by omega⟩

/-- A column of a block as a column of the tile. -/
def colT (j : Nat) (hj : j < 4) (c : Fin 256) : Fin 1024 := ⟨256 * j + c.val, by omega⟩

/-- The input blocks hold the arguments at sequence `b` and tile `tk`. -/
structure Holds (A : Args) (X : Ins Ideal) (b : Fin 24) (tk : Fin 16) : Prop where
  x0 : ∀ (h : Fin 7), X.x0 (ix2 h b) = A.ks b h
  x1 : ∀ (h : Fin 7), X.x1 (ix2 h b) = A.vs b h
  x2 : ∀ (h : Fin 7), X.x2 (ix2 b h) = A.dsc b h
  x3 : ∀ (h : Fin 7) (l : Fin 192) (d : Fin 64), X.x3 (ix3 h l d) = A.q l h d
  x4 : ∀ (h : Fin 7) (d : Fin 64) (l : Fin 192), X.x4 (ix3 h d l) = A.q l h d
  x5 : ∀ (h : Fin 7) (d : Fin 64) (c : Fin 1024), X.x5 (ix4 0 h d c) = A.k b (posT tk c) h d
  x6 : ∀ (h : Fin 7) (d : Fin 64) (c : Fin 1024), X.x6 (ix4 0 h d c) = A.v b (posT tk c) h d
  x7 : ∀ (h : Fin 7) (l : Fin 192) (c : Fin 128), X.x7 (ix4 0 h l c) = A.lse b h l
  x8 : ∀ (h : Fin 7) (l : Fin 192) (c : Fin 128), X.x8 (ix4 0 h l c) = A.delta b h l
  x9 : ∀ (h : Fin 7) (l : Fin 192) (d : Fin 64), X.x9 (ix4 0 h l d) = A.dout b l h d
  x10 : ∀ (h : Fin 7) (d : Fin 64) (l : Fin 192), X.x10 (ix4 0 h d l) = A.dout b l h d

/-! ## The reads -/

section
variable (X : Ins Ideal) (i : grid0.Coords) (h : Fin 7)

theorem qOf_apply (l : Fin 192) (d : Fin 64) : qOf X h.val h.isLt (ix2 l d) = X.x3 (ix3 h l d) := by
  unfold qOf
  refine (shapeCast_apply _ _ _ (ix3 (0 : Fin 1) l d) ((Shape.rowMajor_val_three _).trans (Eq.trans ?_ (Shape.rowMajor_val_two _).symm))).trans ?_
  · show (0 * 192 + l.val) * 64 + d.val = l.val * 64 + d.val
    omega
  · refine congrArg X.x3 (funext fun a => Fin.ext ?_)
    fin_cases a
    · show h.val + 1 * 0 = h.val
      omega
    · show 0 + 1 * l.val = l.val
      omega
    · show 0 + 1 * d.val = d.val
      omega

theorem qtOf_apply (d : Fin 64) (l : Fin 192) : qtOf X h.val h.isLt (ix2 d l) = X.x4 (ix3 h d l) := by
  unfold qtOf
  refine (shapeCast_apply _ _ _ (ix3 (0 : Fin 1) d l) ((Shape.rowMajor_val_three _).trans (Eq.trans ?_ (Shape.rowMajor_val_two _).symm))).trans ?_
  · show (0 * 64 + d.val) * 192 + l.val = d.val * 192 + l.val
    omega
  · refine congrArg X.x4 (funext fun a => Fin.ext ?_)
    fin_cases a
    · show h.val + 1 * 0 = h.val
      omega
    · show 0 + 1 * d.val = d.val
      omega
    · show 0 + 1 * l.val = l.val
      omega

theorem doTOf_apply (d : Fin 64) (l : Fin 192) : doTOf X h.val h.isLt (ix2 d l) = X.x10 (ix4 0 h d l) := by
  show shapeCast S64x192 (window X.x10 _ S1x1x64x192.size (inbDoT h.val h.isLt)) shapeCasts_S1x1x64x192_S64x192 (ix2 d l) = _
  refine (shapeCast_apply (s := S1x1x64x192) (t := S64x192) _ shapeCasts_S1x1x64x192_S64x192 (ix2 d l) (ix4 (0 : Fin 1) (0 : Fin 1) d l) ((Shape.rowMajor_val_four _).trans (Eq.trans ?_ (Shape.rowMajor_val_two _).symm))).trans ?_
  · show ((0 * 1 + 0) * 64 + d.val) * 192 + l.val = d.val * 192 + l.val
    omega
  · refine congrArg X.x10 (funext fun a => Fin.ext ?_)
    fin_cases a
    · rfl
    · show h.val + 1 * 0 = h.val
      omega
    · show 0 + 1 * d.val = d.val
      omega
    · show 0 + 1 * l.val = l.val
      omega

theorem doOf_apply (l : Fin 192) (d : Fin 64) : doOf X h.val h.isLt (ix2 l d) = X.x9 (ix4 0 h l d) := by
  unfold doOf
  refine (shapeCast_apply _ _ _ (ix4 (0 : Fin 1) (0 : Fin 1) l d) ((Shape.rowMajor_val_four _).trans (Eq.trans ?_ (Shape.rowMajor_val_two _).symm))).trans ?_
  · show ((0 * 1 + 0) * 192 + l.val) * 64 + d.val = l.val * 64 + d.val
    omega
  · refine congrArg X.x9 (funext fun a => Fin.ext ?_)
    fin_cases a
    · rfl
    · show h.val + 1 * 0 = h.val
      omega
    · show 0 + 1 * l.val = l.val
      omega
    · show 0 + 1 * d.val = d.val
      omega

/-- A window of a key or value block. -/
theorem kv_window {α : Type} (x : S1x7x64x1024.Idx → α) (j : Nat) (hj : j < 4) (d : Fin 64) (c : Fin 256) :
    shapeCast S64x256 (window x _ S1x1x64x256.size (inbKv h.val j h.isLt hj)) shapeCasts_S1x1x64x256_S64x256 (ix2 d c) = x (ix4 0 h d (colT j hj c)) := by
  refine (shapeCast_apply _ _ _ (ix4 (0 : Fin 1) (0 : Fin 1) d c) ((Shape.rowMajor_val_four _).trans (Eq.trans ?_ (Shape.rowMajor_val_two _).symm))).trans ?_
  · show ((0 * 1 + 0) * 64 + d.val) * 256 + c.val = d.val * 256 + c.val
    omega
  · refine congrArg x (funext fun a => Fin.ext ?_)
    fin_cases a
    · rfl
    · show h.val + 1 * 0 = h.val
      omega
    · show 0 + 1 * d.val = d.val
      omega
    · show 256 * j + 1 * c.val = 256 * j + c.val
      omega

theorem kbOf_apply (j : Nat) (hj : j < 4) (d : Fin 64) (c : Fin 256) : kbOf X h.val j h.isLt hj (ix2 d c) = X.x5 (ix4 0 h d (colT j hj c)) :=
  kv_window h X.x5 j hj d c

theorem vbOf_apply (j : Nat) (hj : j < 4) (d : Fin 64) (c : Fin 256) : vbOf X h.val j h.isLt hj (ix2 d c) = X.x6 (ix4 0 h d (colT j hj c)) :=
  kv_window h X.x6 j hj d c

/-- A row of the log-sum-exps or of the deltas, twice. -/
theorem row_apply (x : Vec Ideal S1x7x192x128 .f32) (r : Fin 192 → EReal) (hx : ∀ (l : Fin 192) (c : Fin 128), x (ix4 0 h l c) = r l) (l : Fin 192) (c : Fin 256) :
    twice (F := Ideal) (window x _ S1x1x192x128.size (inbRow h.val h.isLt)) (ix2 l c) = r l :=
  twice_apply _ r (fun l c => (congrArg x (funext fun a => Fin.ext (by
    fin_cases a
    · rfl
    · show h.val + 1 * 0 = h.val
      omega
    · show 0 + 1 * l.val = l.val
      omega
    · show 0 + 1 * c.val = c.val
      omega))).trans (hx l c)) l c

theorem seq_word (b : Fin 24) (hb : (i 0).val = b.val) : (Scalar.indexCast (BitVec.ofNat 32 (i 0).val) : Index).toNat = b.val := by
  rw [hb]
  clear hb
  revert b
  decide

theorem ksOf_apply (b : Fin 24) (hb : (i 0).val = b.val) : ksOf X i h.val h.isLt = X.x0 (ix2 h b) := by
  unfold ksOf
  refine congrArg X.x0 (funext fun a => Fin.ext ?_)
  fin_cases a
  · show h.val + 1 * 0 = h.val
    omega
  · show (Scalar.indexCast (BitVec.ofNat 32 (i 0).val) : Index).toNat + 1 * 0 = b.val
    rw [seq_word i b hb]; omega

theorem vsOf_apply (b : Fin 24) (hb : (i 0).val = b.val) : vsOf X i h.val h.isLt = X.x1 (ix2 h b) := by
  unfold vsOf
  refine congrArg X.x1 (funext fun a => Fin.ext ?_)
  fin_cases a
  · show h.val + 1 * 0 = h.val
    omega
  · show (Scalar.indexCast (BitVec.ofNat 32 (i 0).val) : Index).toNat + 1 * 0 = b.val
    rw [seq_word i b hb]; omega

theorem dscOf_apply (b : Fin 24) (hb : (i 0).val = b.val) : dscOf X i h.val h.isLt = X.x2 (ix2 b h) := by
  unfold dscOf
  refine congrArg X.x2 (funext fun a => Fin.ext ?_)
  fin_cases a
  · show (Scalar.indexCast (BitVec.ofNat 32 (i 0).val) : Index).toNat + 1 * 0 = b.val
    rw [seq_word i b hb]; omega
  · show h.val + 1 * 0 = h.val
    omega
end

/-! ## The mask -/

/-- A position below the length, read signed. -/
theorem mask_select {α : Type} (p : Nat) (n : BitVec 32) (hp : p < 2 ^ 31) (hn : n.toNat < 2 ^ 31) (x y : α) :
    Scalar.select (IntOp.cmpi .slt (BitVec.ofNat 32 p) n) x y = if p < n.toNat then x else y := by
  have hs : (BitVec.ofNat 32 p).slt n = decide (p < n.toNat) := by
    rw [BitVec.slt_eq_decide, BitVec.toInt_eq_toNat_of_lt (x := BitVec.ofNat 32 p) (by rw [BitVec.toNat_ofNat]; omega), BitVec.toInt_eq_toNat_of_lt (x := n) (by omega), BitVec.toNat_ofNat, Nat.mod_eq_of_lt (by omega)]
    simp
  simp only [IntOp.cmpi, hs, Scalar.select]
  by_cases h : p < n.toNat <;> simp [h]

/-! ## The values -/

section
variable {A : Args} {X : Ins Ideal} {b : Fin 24} {tk : Fin 16} (H : Holds A X b tk) {i : grid0.Coords} (hb : (i 0).val = b.val) (ht : (i 1).val = tk.val)
  {n : BitVec 32} (hn : n.toNat = A.n b) (hn' : n.toNat < 2 ^ 31) (h : Fin 7)
include H hb

theorem csOf_eq : csOf X i h.val h.isLt = sm * A.ks b h := by
  unfold csOf; rw [ksOf_apply X i h b hb, H.x0]; rfl

theorem cdpOf_eq : cdpOf X i h.val h.isLt = A.dsc b h * A.vs b h := by
  unfold cdpOf; rw [dscOf_apply X i h b hb, vsOf_apply X i h b hb, H.x1, H.x2]; rfl

include ht hn hn'

theorem pOf_eq (j : Nat) (hj : j < 4) (l : Fin 192) (c : Fin 256) : pOf X i n (stOf i) h.val j h.isLt hj (ix2 l c) = prob A b h l (posT tk (colT j hj c)) := by
  unfold pOf
  rw [pBlk_apply]
  have e : Scalar.addi (stOf i) (BitVec.ofNat 32 (256 * j)) + BitVec.ofNat 32 c.val = BitVec.ofNat 32 (posT tk (colT j hj c)).val := by
    show (BitVec.ofNat 32 (i 1).val * 1024#32 + BitVec.ofNat 32 (256 * j)) + BitVec.ofNat 32 c.val = BitVec.ofNat 32 (1024 * tk.val + (256 * j + c.val))
    rw [ht]
    apply BitVec.eq_of_toNat_eq
    simp only [BitVec.toNat_add, BitVec.toNat_mul, BitVec.toNat_ofNat]
    omega
  rw [e, mask_select _ _ (by have := (posT tk (colT j hj c)).isLt; omega) hn', hn]
  unfold prob lseOf
  rw [csOf_eq H hb, row_apply h X.x7 (A.lse b h) (H.x7 h) l c]
  refine congrArg (fun z => ite _ (Ideal.exp (sm * A.ks b h * z - _)) 0) (Finset.sum_congr rfl fun d _ => ?_)
  rw [qOf_apply, kbOf_apply, H.x3, H.x5]

theorem dsOf_eq (j : Nat) (hj : j < 4) (l : Fin 192) (c : Fin 256) : dsOf X i n (stOf i) h.val j h.isLt hj (ix2 l c) = dscore A b h l (posT tk (colT j hj c)) := by
  unfold dsOf
  rw [dsBlk_apply, pOf_eq H hb ht hn hn', cdpOf_eq H hb]
  unfold dscore deltaOf
  rw [row_apply h X.x8 (A.delta b h) (H.x8 h) l c]
  refine congrArg (fun z => prob A b h l _ * (A.dsc b h * A.vs b h * z - _)) (Finset.sum_congr rfl fun d _ => ?_)
  rw [doOf_apply, vbOf_apply, H.x9, H.x6]

theorem dvOf_eq (j : Nat) (hj : j < 4) (d : Fin 64) (c : Fin 256) : dvOf X i n (stOf i) h.val j h.isLt hj (ix2 d c) = dvSpec A b h d (posT tk (colT j hj c)) := by
  unfold dvOf
  rw [dvBlk_apply, dscOf_apply X i h b hb, H.x2]
  refine congrArg (fun z => A.dsc b h * z) (Finset.sum_congr rfl fun l _ => ?_)
  rw [pOf_eq H hb ht hn hn', doTOf_apply, H.x10]

theorem dkOf_eq (j : Nat) (hj : j < 4) (d : Fin 64) (c : Fin 256) : dkOf X i n (stOf i) h.val j h.isLt hj (ix2 d c) = dkSpec A b h d (posT tk (colT j hj c)) := by
  unfold dkOf
  rw [dkBlk_apply]
  refine congrArg (fun z => sm * z) (Finset.sum_congr rfl fun l _ => ?_)
  rw [dsOf_eq H hb ht hn hn', qtOf_apply, H.x4]

theorem dqOf_eq (j : Nat) (hj : j < 4) (d : Fin 64) (l : Fin 192) : dqOf X i n (stOf i) h.val j h.isLt hj (ix2 d l) = ∑ c : Fin 256, dqTerm A b h d l (posT tk (colT j hj c)) := by
  unfold dqOf
  rw [dqBlk_apply]
  refine Finset.sum_congr rfl fun c _ => ?_
  rw [dsOf_eq H hb ht hn hn', kbOf_apply, H.x5]; rfl

theorem dq4Of_eq (d : Fin 64) (l : Fin 192) : dq4Of X i n (stOf i) h.val h.isLt (ix2 d l) = ∑ c : Fin 1024, dqTerm A b h d l (posT tk c) := by
  have e0 : (Scalar.ofBits (F := Ideal) .f32 0x00000000#32 : EReal) = 0 := Ideal.ofBits_zero_f32
  have e : dq4Of X i n (stOf i) h.val h.isLt (ix2 d l) = (((0 + dqOf X i n (stOf i) h.val 0 h.isLt (by decide) (ix2 d l)) + dqOf X i n (stOf i) h.val 1 h.isLt (by decide) (ix2 d l)) + dqOf X i n (stOf i) h.val 2 h.isLt (by decide) (ix2 d l)) + dqOf X i n (stOf i) h.val 3 h.isLt (by decide) (ix2 d l) := by
    rw [← e0]; rfl
  rw [e]
  simp only [dqOf_eq H hb ht hn hn']
  rw [zero_add, ← (finProdFinEquiv (m := 4) (n := 256)).sum_comp (fun c : Fin 1024 => dqTerm A b h d l (posT tk c)), Fintype.sum_prod_type, Fin.sum_univ_four]
  refine congrArg₂ (· + ·) (congrArg₂ (· + ·) (congrArg₂ (· + ·) ?_ ?_) ?_) ?_ <;>
  · refine Finset.sum_congr rfl fun c _ => congrArg (fun z => dqTerm A b h d l (posT tk z)) (Fin.ext ?_)
    simp [colT, finProdFinEquiv]; try omega
end

end Cert.KernelIdeal.Own

end
-- ==== Proof.KernelIdeal.Inputs.lean ====
/- The input blocks of the ideal kernel hold the arguments: the host arrays before the region, and the blocks of a point. -/
module

public import proofs.«01_k».proof.Proof.KernelIdeal.Reads
public import proofs.«01_k».proof.Proof.KernelIdeal.Lengths
public import proofs.«01_k».proof.Proof.KernelIdeal.Traj

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Cert.Own (sm Args)

variable (m : (ℓ : Loc nD τ sig) → Buf (Elt Ideal) ℓ)

/-- The arguments of the ideal kernel on a core. -/
def argsOf (c : Dev nD) : Args where
  q l h d := m ((c : Thread nD τ).loc main_arg0) (ix3 l h d)
  k b t h d := m ((c : Thread nD τ).loc main_arg1) (ix4 b t h d)
  ks b h := m ((c : Thread nD τ).loc main_arg2) (ix2 b h)
  v b t h d := m ((c : Thread nD τ).loc main_arg3) (ix4 b t h d)
  vs b h := m ((c : Thread nD τ).loc main_arg4) (ix2 b h)
  lse b h l := m ((c : Thread nD τ).loc main_arg5) (ix3 b h l)
  dout b l h d := m ((c : Thread nD τ).loc main_arg6) (ix4 b l h d)
  dsc b h := m ((c : Thread nD τ).loc main_arg7) (ix2 b h)
  delta b h l := m ((c : Thread nD τ).loc main_arg8) (ix3 b h l)
  n b := (len m b).toNat

/-! ## The host arrays -/

variable (c : Dev nD)

theorem V_v0 : V m c main_v0 = transpose S24x7x64x16384 [0, 2, 3, 1] (m ((c : Thread nD τ).loc main_arg1)) transposes_S24x16384x7x64_S24x7x64x16384_0_2_3_1 := by
  show StableHlo.after hostOps0 _ (Proc.devRef .tc main_v0) = _
  after_results
theorem V_v1 : V m c main_v1 = transpose S24x7x64x16384 [0, 2, 3, 1] (m ((c : Thread nD τ).loc main_arg3)) transposes_S24x16384x7x64_S24x7x64x16384_0_2_3_1 := by
  show StableHlo.after hostOps0 _ (Proc.devRef .tc main_v1) = _
  after_results
theorem V_v2 : V m c main_v2 = transpose S24x7x64x192 [0, 2, 3, 1] (m ((c : Thread nD τ).loc main_arg6)) transposes_S24x192x7x64_S24x7x64x192_0_2_3_1 := by
  show StableHlo.after hostOps0 _ (Proc.devRef .tc main_v2) = _
  after_results
theorem V_v3 : V m c main_v3 = transpose S7x64x192 [1, 2, 0] (m ((c : Thread nD τ).loc main_arg0)) transposes_S192x7x64_S7x64x192_1_2_0 := by
  show StableHlo.after hostOps0 _ (Proc.devRef .tc main_v3) = _
  after_results
theorem V_v4 : V m c main_v4 = transpose S7x192x64 [1, 0, 2] (m ((c : Thread nD τ).loc main_arg0)) transposes_S192x7x64_S7x192x64_1_0_2 := by
  show StableHlo.after hostOps0 _ (Proc.devRef .tc main_v4) = _
  after_results
theorem V_v5 : V m c main_v5 = transpose S24x7x192x64 [0, 2, 1, 3] (m ((c : Thread nD τ).loc main_arg6)) transposes_S24x192x7x64_S24x7x192x64_0_2_1_3 := by
  show StableHlo.after hostOps0 _ (Proc.devRef .tc main_v5) = _
  after_results
theorem V_v7 : V m c main_v7 = broadcastInDim S24x7x192x128 ![0, 1, 2, 3] bcast_S24x7x192x1_S24x7x192x128_0_1_2_3 (broadcastInDim S24x7x192x1 ![0, 1, 2] bcast_S24x7x192_S24x7x192x1_0_1_2 (m ((c : Thread nD τ).loc main_arg5))) := by
  show StableHlo.after hostOps0 _ (Proc.devRef .tc main_v7) = _
  after_results
theorem V_v9 : V m c main_v9 = broadcastInDim S24x7x192x128 ![0, 1, 2, 3] bcast_S24x7x192x1_S24x7x192x128_0_1_2_3 (broadcastInDim S24x7x192x1 ![0, 1, 2] bcast_S24x7x192_S24x7x192x1_0_1_2 (m ((c : Thread nD τ).loc main_arg8))) := by
  show StableHlo.after hostOps0 _ (Proc.devRef .tc main_v9) = _
  after_results
theorem V_v10 : V m c main_v10 = transpose S7x24 [1, 0] (m ((c : Thread nD τ).loc main_arg2)) transposes_S24x7_S7x24_1_0 := by
  show StableHlo.after hostOps0 _ (Proc.devRef .tc main_v10) = _
  after_results
theorem V_v11 : V m c main_v11 = transpose S7x24 [1, 0] (m ((c : Thread nD τ).loc main_arg4)) transposes_S24x7_S7x24_1_0 := by
  show StableHlo.after hostOps0 _ (Proc.devRef .tc main_v11) = _
  after_results
theorem V_arg7 : V m c main_arg7 = m ((c : Thread nD τ).loc main_arg7) := by
  show StableHlo.after hostOps0 _ (Proc.devRef .tc main_arg7) = _
  after_results

/-! ## The blocks -/

variable (hO : Ok m) (t : Fin (cfgM m hO).N)

theorem iblk0 (h : Fin 7) (b : Fin 24) : iblk m hO c 0 t (ix2 h b) = (argsOf m c).ks b h := by
  have e : iblk m hO c 0 t (ix2 h b) = V m c main_v10 (ix2 h b) := by
    refine congrArg (V m c main_v10) (funext fun a => Fin.ext ?_)
    refine (Pipeline.Window.rect_emb_val ((cfgM m hO).win 0) t _ a).trans ?_
    fin_cases a
    · show 0 * 7 + h.val = h.val
      omega
    · show 0 * 24 + b.val = b.val
      omega
  rw [e, V_v10]
  exact transpose_apply _ _ _ _ (ix2 b h) fun a => by fin_cases a <;> rfl

theorem iblk1 (h : Fin 7) (b : Fin 24) : iblk m hO c 1 t (ix2 h b) = (argsOf m c).vs b h := by
  have e : iblk m hO c 1 t (ix2 h b) = V m c main_v11 (ix2 h b) := by
    refine congrArg (V m c main_v11) (funext fun a => Fin.ext ?_)
    refine (Pipeline.Window.rect_emb_val ((cfgM m hO).win 1) t _ a).trans ?_
    fin_cases a
    · show 0 * 7 + h.val = h.val
      omega
    · show 0 * 24 + b.val = b.val
      omega
  rw [e, V_v11]
  exact transpose_apply _ _ _ _ (ix2 b h) fun a => by fin_cases a <;> rfl

theorem iblk2 (b : Fin 24) (h : Fin 7) :
    iblk m hO c 2 t (ix2 b h) = (argsOf m c).dsc b h := by
  have e : iblk m hO c 2 t (ix2 b h) = V m c main_arg7 (ix2 b h) := by
    refine congrArg (V m c main_arg7) (funext fun a => Fin.ext ?_)
    refine (Pipeline.Window.rect_emb_val ((cfgM m hO).win 2) t _ a).trans ?_
    fin_cases a
    · show 0 * 24 + b.val = b.val
      omega
    · show 0 * 7 + h.val = h.val
      omega
  rw [e, V_arg7]
  rfl

theorem iblk3 (h : Fin 7) (l : Fin 192) (d : Fin 64) :
    iblk m hO c 3 t (ix3 h l d) = (argsOf m c).q l h d := by
  have e : iblk m hO c 3 t (ix3 h l d) = V m c main_v4 (ix3 h l d) := by
    refine congrArg (V m c main_v4) (funext fun a => Fin.ext ?_)
    refine (Pipeline.Window.rect_emb_val ((cfgM m hO).win 3) t _ a).trans ?_
    fin_cases a
    · show 0 * 7 + h.val = h.val
      omega
    · show 0 * 192 + l.val = l.val
      omega
    · show 0 * 64 + d.val = d.val
      omega
  rw [e, V_v4]
  exact transpose_apply _ _ _ _ (ix3 l h d) fun a => by fin_cases a <;> rfl

theorem iblk4 (h : Fin 7) (d : Fin 64) (l : Fin 192) :
    iblk m hO c 4 t (ix3 h d l) = (argsOf m c).q l h d := by
  have e : iblk m hO c 4 t (ix3 h d l) = V m c main_v3 (ix3 h d l) := by
    refine congrArg (V m c main_v3) (funext fun a => Fin.ext ?_)
    refine (Pipeline.Window.rect_emb_val ((cfgM m hO).win 4) t _ a).trans ?_
    fin_cases a
    · show 0 * 7 + h.val = h.val
      omega
    · show 0 * 64 + d.val = d.val
      omega
    · show 0 * 192 + l.val = l.val
      omega
  rw [e, V_v3]
  exact transpose_apply _ _ _ _ (ix3 l h d) fun a => by fin_cases a <;> rfl

theorem iblk5 (hL : Lens m) (b : Fin 24) (tk : Fin 16) (hb : (grid0.coords t 0).val = b.val) (ht : (grid0.coords t 1).val = tk.val)
    (ha : 1024 * tk.val < (len m b).toNat) (h : Fin 7) (d : Fin 64) (k : Fin 1024) :
    iblk m hO c 5 t (ix4 0 h d k) = (argsOf m c).k b (posT tk k) h d := by
  have e : iblk m hO c 5 t (ix4 0 h d k) = V m c main_v0 (ix4 b h d (posT tk k)) := by
    refine congrArg (V m c main_v0) (funext fun a => Fin.ext ?_)
    refine (Pipeline.Window.rect_emb_val ((cfgM m hO).win 5) t _ a).trans ?_
    show cc0_transform_5 k0_off1_inb numel1_S1 (tbl m) (grid0.coords t) a * S1x7x64x1024.size a + _ = _
    have hs : seqOf (grid0.coords t) = b := Fin.ext hb
    rw [transform5 m hL, hs]
    fin_cases a
    · show (grid0.coords t 0).val * 1 + 0 = b.val
      omega
    · show 0 * 7 + h.val = h.val
      omega
    · show 0 * 64 + d.val = d.val
      omega
    · show min (grid0.coords t 1).val (((len m b).toNat - 1) / 1024) * 1024 + k.val = 1024 * tk.val + k.val
      omega
  rw [e, V_v0]
  exact transpose_apply _ _ _ _ (ix4 b (posT tk k) h d) fun a => by fin_cases a <;> rfl

theorem iblk6 (hL : Lens m) (b : Fin 24) (tk : Fin 16) (hb : (grid0.coords t 0).val = b.val) (ht : (grid0.coords t 1).val = tk.val)
    (ha : 1024 * tk.val < (len m b).toNat) (h : Fin 7) (d : Fin 64) (k : Fin 1024) :
    iblk m hO c 6 t (ix4 0 h d k) = (argsOf m c).v b (posT tk k) h d := by
  have e : iblk m hO c 6 t (ix4 0 h d k) = V m c main_v1 (ix4 b h d (posT tk k)) := by
    refine congrArg (V m c main_v1) (funext fun a => Fin.ext ?_)
    refine (Pipeline.Window.rect_emb_val ((cfgM m hO).win 6) t _ a).trans ?_
    show cc0_transform_6 k0_off1_inb numel1_S1 (tbl m) (grid0.coords t) a * S1x7x64x1024.size a + _ = _
    have hs : seqOf (grid0.coords t) = b := Fin.ext hb
    rw [transform6 m hL, hs]
    fin_cases a
    · show (grid0.coords t 0).val * 1 + 0 = b.val
      omega
    · show 0 * 7 + h.val = h.val
      omega
    · show 0 * 64 + d.val = d.val
      omega
    · show min (grid0.coords t 1).val (((len m b).toNat - 1) / 1024) * 1024 + k.val = 1024 * tk.val + k.val
      omega
  rw [e, V_v1]
  exact transpose_apply _ _ _ _ (ix4 b (posT tk k) h d) fun a => by fin_cases a <;> rfl

theorem iblk7 (b : Fin 24) (hb : (grid0.coords t 0).val = b.val) (h : Fin 7) (l : Fin 192) (k : Fin 128) :
    iblk m hO c 7 t (ix4 0 h l k) = (argsOf m c).lse b h l := by
  have e : iblk m hO c 7 t (ix4 0 h l k) = V m c main_v7 (ix4 b h l k) := by
    refine congrArg (V m c main_v7) (funext fun a => Fin.ext ?_)
    refine (Pipeline.Window.rect_emb_val ((cfgM m hO).win 7) t _ a).trans ?_
    fin_cases a
    · show (BitVec.ofNat 32 (grid0.coords t 0).val).toNat * 1 + 0 = b.val
      rw [BitVec.toNat_ofNat]
      omega
    · show 0 * 7 + h.val = h.val
      omega
    · show 0 * 192 + l.val = l.val
      omega
    · show 0 * 128 + k.val = k.val
      omega
  rw [e, V_v7]
  refine (broadcastInDim_apply _ _ _ _ (ix4 b h l 0) fun a => by fin_cases a <;> rfl).trans ?_
  exact broadcastInDim_apply _ _ _ _ (ix3 b h l) fun a => by fin_cases a <;> rfl

theorem iblk8 (b : Fin 24) (hb : (grid0.coords t 0).val = b.val) (h : Fin 7) (l : Fin 192) (k : Fin 128) :
    iblk m hO c 8 t (ix4 0 h l k) = (argsOf m c).delta b h l := by
  have e : iblk m hO c 8 t (ix4 0 h l k) = V m c main_v9 (ix4 b h l k) := by
    refine congrArg (V m c main_v9) (funext fun a => Fin.ext ?_)
    refine (Pipeline.Window.rect_emb_val ((cfgM m hO).win 8) t _ a).trans ?_
    fin_cases a
    · show (BitVec.ofNat 32 (grid0.coords t 0).val).toNat * 1 + 0 = b.val
      rw [BitVec.toNat_ofNat]
      omega
    · show 0 * 7 + h.val = h.val
      omega
    · show 0 * 192 + l.val = l.val
      omega
    · show 0 * 128 + k.val = k.val
      omega
  rw [e, V_v9]
  refine (broadcastInDim_apply _ _ _ _ (ix4 b h l 0) fun a => by fin_cases a <;> rfl).trans ?_
  exact broadcastInDim_apply _ _ _ _ (ix3 b h l) fun a => by fin_cases a <;> rfl

theorem iblk9 (b : Fin 24) (hb : (grid0.coords t 0).val = b.val) (h : Fin 7) (l : Fin 192) (d : Fin 64) :
    iblk m hO c 9 t (ix4 0 h l d) = (argsOf m c).dout b l h d := by
  have e : iblk m hO c 9 t (ix4 0 h l d) = V m c main_v5 (ix4 b h l d) := by
    refine congrArg (V m c main_v5) (funext fun a => Fin.ext ?_)
    refine (Pipeline.Window.rect_emb_val ((cfgM m hO).win 9) t _ a).trans ?_
    fin_cases a
    · show (BitVec.ofNat 32 (grid0.coords t 0).val).toNat * 1 + 0 = b.val
      rw [BitVec.toNat_ofNat]
      omega
    · show 0 * 7 + h.val = h.val
      omega
    · show 0 * 192 + l.val = l.val
      omega
    · show 0 * 64 + d.val = d.val
      omega
  rw [e, V_v5]
  exact transpose_apply _ _ _ _ (ix4 b l h d) fun a => by fin_cases a <;> rfl

theorem iblk10 (b : Fin 24) (hb : (grid0.coords t 0).val = b.val) (h : Fin 7) (d : Fin 64) (l : Fin 192) :
    iblk m hO c 10 t (ix4 0 h d l) = (argsOf m c).dout b l h d := by
  have e : iblk m hO c 10 t (ix4 0 h d l) = V m c main_v2 (ix4 b h d l) := by
    refine congrArg (V m c main_v2) (funext fun a => Fin.ext ?_)
    refine (Pipeline.Window.rect_emb_val ((cfgM m hO).win 10) t _ a).trans ?_
    fin_cases a
    · show (BitVec.ofNat 32 (grid0.coords t 0).val).toNat * 1 + 0 = b.val
      rw [BitVec.toNat_ofNat]
      omega
    · show 0 * 7 + h.val = h.val
      omega
    · show 0 * 64 + d.val = d.val
      omega
    · show 0 * 192 + l.val = l.val
      omega
  rw [e, V_v2]
  exact transpose_apply _ _ _ _ (ix4 b l h d) fun a => by fin_cases a <;> rfl

set_option maxHeartbeats 2000000 in
/-- At a point whose tile has a position of the sequence, the input blocks hold the arguments. -/
theorem holds (hL : Lens m) (b : Fin 24) (tk : Fin 16) (hb : (grid0.coords t 0).val = b.val) (ht : (grid0.coords t 1).val = tk.val)
    (ha : 1024 * tk.val < (len m b).toNat) : Holds (argsOf m c) (insAt m hO c t) b tk where
  x0 h := iblk0 m c hO t h b
  x1 h := iblk1 m c hO t h b
  x2 h := iblk2 m c hO t b h
  x3 := iblk3 m c hO t
  x4 := iblk4 m c hO t
  x5 := iblk5 m c hO t hL b tk hb ht ha
  x6 := iblk6 m c hO t hL b tk hb ht ha
  x7 := iblk7 m c hO t b hb
  x8 := iblk8 m c hO t b hb
  x9 := iblk9 m c hO t b hb
  x10 := iblk10 m c hO t b hb

end Cert.KernelIdeal.Own

end
-- ==== Proof.KernelIdeal.Tiles.lean ====
/- What the ideal kernel computes at a point: the tiles of the key and value gradients, the query gradient of a sequence over its
   tiles, and its sum over the sequences. -/
module

public import proofs.«01_k».proof.Proof.KernelIdeal.Inputs
public import proofs.«01_k».proof.Proof.KernelIdeal.ActVals
public import Idealize.ShloMosaic.Lib.IdealHost

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Cert.Own (sm Args prob dscore dvSpec dkSpec dqTerm dqsSpec dqSpec)

/-! ## The points -/

/-- The sequence of a point. -/
def bOf (t : Fin grid0.N) : Fin 24 := ⟨t.val / 16, Nat.div_lt_of_lt_mul (Nat.lt_of_lt_of_eq t.isLt N_0)⟩
/-- The tile of a point. -/
def tOf (t : Fin grid0.N) : Fin 16 := ⟨t.val % 16, Nat.mod_lt _ (by decide)⟩

theorem coords0 (t : Fin grid0.N) : (grid0.coords t 0).val = (bOf t).val := coords_b t
theorem coords1 (t : Fin grid0.N) : (grid0.coords t 1).val = (tOf t).val := coords_t t

/-- The section on the active tiles runs when the tile has a position of the sequence. -/
theorem cond4_iff (i : grid0.Coords) (n : BitVec 32) (hn : n.toNat < 2 ^ 31) : k0_cond4 i n = 1#1 ↔ 1024 * (i 1).val < n.toNat := by
  have h1 : (i 1).val < 16 := (i 1).isLt
  have e : (Scalar.muli (BitVec.ofNat 32 (i 1).val) 1024#32).toNat = 1024 * (i 1).val := by
    show (BitVec.ofNat 32 (i 1).val * 1024#32).toNat = _
    simp only [BitVec.toNat_mul, BitVec.toNat_ofNat]
    omega
  have hs : (Scalar.muli (BitVec.ofNat 32 (i 1).val) 1024#32).slt n = decide (1024 * (i 1).val < n.toNat) := by
    rw [BitVec.slt_eq_decide, BitVec.toInt_eq_toNat_of_lt (by rw [e]; omega), BitVec.toInt_eq_toNat_of_lt (by omega), e]
    exact decide_eq_decide.mpr (by push_cast; omega)
  unfold k0_cond4
  dsimp only
  by_cases h : 1024 * (i 1).val < n.toNat
  · rw [decide_eq_true h] at hs
    simp [Scalar.cmpi, Scalar.extui, IntOp.cmpi, hs, h]
  · rw [decide_eq_false h] at hs
    simp [Scalar.cmpi, Scalar.extui, IntOp.cmpi, hs, h]

variable (m : (ℓ : Loc nD τ sig) → Buf (Elt Ideal) ℓ) (hL : Lens m) (hO : Ok m) (c : Dev nD)

theorem nAt_len (t : Fin grid0.N) : nAt m c t = len m (bOf t) := by
  rw [nAt_eq]; exact congrArg (len m) (Fin.ext (coords0 t))

include hL in
theorem active_iff (t : Fin grid0.N) : k0_cond4 (grid0.coords t) (nAt m c t) = 1#1 ↔ 1024 * (tOf t).val < (argsOf m c).n (bOf t) := by
  rw [nAt_len, cond4_iff _ _ (hL _).2, coords1]; rfl

theorem split_col (tk : Fin 16) (k : Fin 1024) (hj : k.val / 256 < 4) : posT tk (colT (k.val / 256) hj ⟨k.val % 256, Nat.mod_lt _ (by decide)⟩) = posT tk k :=
  Fin.ext (by show 1024 * tk.val + (256 * (k.val / 256) + k.val % 256) = 1024 * tk.val + k.val; omega)

include hL in
/-- A tile of the key gradient. -/
theorem dkOut_apply (t : Fin grid0.N) (z : Fin 1) (h : Fin 7) (d : Fin 64) (k : Fin 1024) :
    dkOut (insAt m hO c t) (grid0.coords t) (nAt m c t) (k0_pay3 (F := Ideal)) (ix4 z h d k) = dkSpec (argsOf m c) (bOf t) h d (posT (tOf t) k) := by
  unfold dkOut dk2
  by_cases ha : 1024 * (tOf t).val < (argsOf m c).n (bOf t)
  · rw [if_pos ((active_iff m hL c t).mpr ha), actKv_apply]
    have H := holds m c hO t hL (bOf t) (tOf t) (coords0 t) (coords1 t) ha
    refine (dkOf_eq H (coords0 t) (coords1 t) (by rw [nAt_len]; rfl) (by rw [nAt_len]; exact (hL _).2) h _ _ d _).trans ?_
    exact congrArg _ (split_col (tOf t) k _)
  · have h4 := fun e => ha ((active_iff m hL c t).mp e)
    rw [if_neg h4]
    unfold dk1
    rw [if_pos ((c3_or_c4 _ _).resolve_right h4), Cert.Own.dkSpec_masked (by show _ ≤ 1024 * (tOf t).val + k.val; omega)]
    exact Ideal.ofBits_zero_bf16

include hL in
/-- A tile of the value gradient. -/
theorem dvOut_apply (t : Fin grid0.N) (z : Fin 1) (h : Fin 7) (d : Fin 64) (k : Fin 1024) :
    dvOut (insAt m hO c t) (grid0.coords t) (nAt m c t) (k0_pay4 (F := Ideal)) (ix4 z h d k) = dvSpec (argsOf m c) (bOf t) h d (posT (tOf t) k) := by
  unfold dvOut dv2
  by_cases ha : 1024 * (tOf t).val < (argsOf m c).n (bOf t)
  · rw [if_pos ((active_iff m hL c t).mpr ha), actKv_apply]
    have H := holds m c hO t hL (bOf t) (tOf t) (coords0 t) (coords1 t) ha
    refine (dvOf_eq H (coords0 t) (coords1 t) (by rw [nAt_len]; rfl) (by rw [nAt_len]; exact (hL _).2) h _ _ d _).trans ?_
    exact congrArg _ (split_col (tOf t) k _)
  · have h4 := fun e => ha ((active_iff m hL c t).mp e)
    rw [if_neg h4]
    unfold dv1
    rw [if_pos ((c3_or_c4 _ _).resolve_right h4), Cert.Own.dvSpec_masked (by show _ ≤ 1024 * (tOf t).val + k.val; omega)]
    exact Ideal.ofBits_zero_bf16

/-! ## The query gradient of a sequence -/

/-- A tile's part of the query gradient, before the scale. -/
def tileSum (A : Args) (b : Fin 24) (h : Fin 7) (d : Fin 64) (l : Fin 192) (x : ℕ) : EReal :=
  if hx : x < 16 then ∑ k : Fin 1024, dqTerm A b h d l (posT ⟨x, hx⟩ k) else 0

include hL in
/-- A point adds its tile's part, scaled, to what the buffer held, or to zero at a sequence's first tile. -/
theorem dqsOut_apply (t : Fin grid0.N) (o : Vec Ideal S1x7x64x192 .f32) (z : Fin 1) (h : Fin 7) (d : Fin 64) (l : Fin 192) :
    dqsOut (insAt m hO c t) (grid0.coords t) (nAt m c t) o (ix4 z h d l)
      = (if t.val % 16 = 0 then 0 else o (ix4 z h d l)) + tileSum (argsOf m c) (bOf t) h d l (t.val % 16) * (sm * (argsOf m c).ks (bOf t) h) := by
  have e1 : dqs1 (grid0.coords t) o (ix4 z h d l) = (if t.val % 16 = 0 then 0 else o (ix4 z h d l) : EReal) := by
    unfold dqs1
    by_cases h0 : t.val % 16 = 0
    · rw [if_pos ((hcond0_2 t).mpr h0), if_pos h0]
      exact Ideal.ofBits_zero_f32
    · rw [if_neg fun e => h0 ((hcond0_2 t).mp e), if_neg h0]
  unfold dqsOut dqs2
  by_cases ha : 1024 * (tOf t).val < (argsOf m c).n (bOf t)
  · rw [if_pos ((active_iff m hL c t).mpr ha), actDq_apply]
    have H := holds m c hO t hL (bOf t) (tOf t) (coords0 t) (coords1 t) ha
    have e2 := dq4Of_eq H (coords0 t) (coords1 t) (n := nAt m c t) (by rw [nAt_len]; rfl) (by rw [nAt_len]; exact (hL _).2) h d l
    have e3 := csOf_eq H (coords0 t) h
    have e4 : tileSum (argsOf m c) (bOf t) h d l (t.val % 16) = ∑ k : Fin 1024, dqTerm (argsOf m c) (bOf t) h d l (posT (tOf t) k) := by
      unfold tileSum; rw [dif_pos (show t.val % 16 < 16 from (tOf t).isLt)]; rfl
    rw [e4, ← e1, ← e2, ← e3]
    rfl
  · have h4 := fun e => ha ((active_iff m hL c t).mp e)
    rw [if_neg h4, e1]
    have e4 : tileSum (argsOf m c) (bOf t) h d l (t.val % 16) = 0 := by
      unfold tileSum; rw [dif_pos (show t.val % 16 < 16 from (tOf t).isLt)]
      exact Finset.sum_eq_zero fun k _ => Cert.Own.dqTerm_masked (by show _ ≤ 1024 * (tOf t).val + k.val; omega) h d l
    rw [e4, zero_mul, add_zero]

include hL in
/-- After a point the buffer holds the scaled parts of the tiles so far. -/
theorem dqsT_apply (z : Fin 1) (h : Fin 7) (d : Fin 64) (l : Fin 192) : ∀ (n : ℕ) (hn : n < (cfgM m hO).N),
    dqsT m hO c n hn (ix4 z h d l) = ∑ x ∈ Finset.range (n % 16 + 1), tileSum (argsOf m c) (bOf ⟨n, hn⟩) h d l x * (sm * (argsOf m c).ks (bOf ⟨n, hn⟩) h)
  | 0, hn => by
    unfold dqsT
    rw [dqsOut_apply m hL hO c ⟨0, hn⟩]
    simp
  | n + 1, hn => by
    unfold dqsT
    rw [dqsOut_apply m hL hO c ⟨n + 1, hn⟩, dqsT_apply z h d l n (Nat.lt_of_succ_lt hn), Finset.sum_range_succ _ ((n + 1) % 16)]
    refine congrArg (fun y : EReal => y + tileSum (argsOf m c) (bOf ⟨n + 1, hn⟩) h d l ((n + 1) % 16) * (sm * (argsOf m c).ks (bOf ⟨n + 1, hn⟩) h)) ?_
    by_cases h0 : (n + 1) % 16 = 0
    · rw [if_pos h0, h0]; simp
    · rw [if_neg h0]
      have eb : bOf ⟨n, Nat.lt_of_succ_lt hn⟩ = bOf ⟨n + 1, hn⟩ := Fin.ext (by show n / 16 = (n + 1) / 16; omega)
      rw [eb, show n % 16 + 1 = (n + 1) % 16 by omega]

/-- The parts of the tiles are the sum over the positions. -/
theorem sum_tiles (f : Fin 16384 → EReal) : ∑ x : Fin 16, ∑ k : Fin 1024, f (posT x k) = ∑ t : Fin 16384, f t := by
  rw [← Fintype.sum_prod_type (f := fun p : Fin 16 × Fin 1024 => f (posT p.1 p.2))]
  refine Fintype.sum_equiv (finProdFinEquiv (m := 16) (n := 1024)) _ _ fun p => congrArg f (Fin.ext ?_)
  show 1024 * p.1.val + p.2.val = p.2.val + 1024 * p.1.val
  omega

/-- A factor that is not negative and finite goes out of a sum. -/
theorem sum_mul_const (s : EReal) (h0 : 0 ≤ s) (ht : s ≠ ⊤) (f : ℕ → EReal) : ∀ n : ℕ, ∑ x ∈ Finset.range n, f x * s = s * ∑ x ∈ Finset.range n, f x
  | 0 => by simp
  | n + 1 => by
    rw [Finset.sum_range_succ, Finset.sum_range_succ, sum_mul_const s h0 ht f n, EReal.left_distrib_of_nonneg_of_ne_top h0 ht, mul_comm (f n) s]

/-- The scales of the keys are finite and not negative. -/
def Scaled : Prop := ∀ (b : Fin 24) (h : Fin 7), 0 ≤ (argsOf m c).ks b h ∧ (argsOf m c).ks b h ≠ ⊤

theorem sm_eq : sm = ((1 / 8 : ℝ) : EReal) := by
  simp [sm, Ideal.ofBits, Ideal.ieee, -EReal.coe_mul]; norm_num

include hL in
/-- After a sequence's last tile the buffer holds the sequence's query gradient. -/
theorem dqsT_last (hS : Scaled m c) (z : Fin 1) (h : Fin 7) (d : Fin 64) (l : Fin 192) (n : ℕ) (hn : n < (cfgM m hO).N) (h15 : n % 16 = 15) :
    dqsT m hO c n hn (ix4 z h d l) = dqsSpec (argsOf m c) (bOf ⟨n, hn⟩) h d l := by
  obtain ⟨k0, k1⟩ := hS (bOf ⟨n, hn⟩) h
  have s0 : 0 ≤ sm * (argsOf m c).ks (bOf ⟨n, hn⟩) h := mul_nonneg (by rw [sm_eq]; exact_mod_cast (by norm_num : (0 : ℝ) ≤ 1 / 8)) k0
  have s1 : sm * (argsOf m c).ks (bOf ⟨n, hn⟩) h ≠ ⊤ := by
    rw [sm_eq]
    lift (argsOf m c).ks (bOf ⟨n, hn⟩) h to ℝ using ⟨k1, fun e => absurd (e ▸ k0) (by simp)⟩ with r
    rw [← EReal.coe_mul]; exact EReal.coe_ne_top _
  rw [dqsT_apply m hL, h15, sum_mul_const _ s0 s1]
  unfold dqsSpec
  refine congrArg (fun x => sm * (argsOf m c).ks (bOf ⟨n, hn⟩) h * x) ?_
  rw [← sum_tiles, ← Fin.sum_univ_eq_sum_range (fun x => tileSum (argsOf m c) (bOf ⟨n, hn⟩) h d l x) 16]
  exact Finset.sum_congr rfl fun x _ => by unfold tileSum; rw [dif_pos x.isLt]

/-! ## The sum over the sequences -/

/-- A sequence's query gradient, by its number. -/
def seqGrad (A : Args) (h : Fin 7) (d : Fin 64) (l : Fin 192) (x : ℕ) : EReal := if hx : x < 24 then dqsSpec A ⟨x, hx⟩ h d l else 0

/-- A sequence's query gradient added. -/
theorem pay6_apply (a : Vec Ideal S7x64x192 .f32) (o : Vec Ideal S1x7x64x192 .f32) (h : Fin 7) (d : Fin 64) (l : Fin 192) :
    k0_pay6 (F := Ideal) a o (ix3 h d l) = (a (ix3 h d l) : EReal) + o (ix4 0 h d l) := by
  unfold k0_pay6
  rw [shapeCast_self]
  refine congrArg (fun x : EReal => a (ix3 h d l) + x) (shapeCast_apply _ _ _ (ix4 0 h d l) ((Shape.rowMajor_val_four _).trans (Eq.trans ?_ (Shape.rowMajor_val_three _).symm)))
  show ((0 * 7 + h.val) * 64 + d.val) * 192 + l.val = (h.val * 64 + d.val) * 192 + l.val
  omega

include hL in
/-- After a point the sum holds the gradients of the sequences finished so far. -/
theorem accT_apply (hS : Scaled m c) (h : Fin 7) (d : Fin 64) (l : Fin 192) : ∀ (n : ℕ) (hn : n < (cfgM m hO).N),
    accT m hO c n hn (ix3 h d l) = ∑ x ∈ Finset.range ((n + 1) / 16), seqGrad (argsOf m c) h d l x
  | 0, hn => by
    unfold accT acc2 acc1
    rw [if_neg fun e => absurd ((hcond0_5 ⟨0, hn⟩).mp e) (show ¬(0 % 16 = 15) by decide), if_pos ((hcond0_1 ⟨0, hn⟩).mpr rfl)]
    refine Eq.trans ?_ (by simp : (0 : EReal) = _)
    unfold k0_pay1
    rw [shapeCast_self]
    exact Ideal.ofBits_zero_f32
  | n + 1, hn => by
    have hn' : n + 1 < 384 := Nat.lt_of_lt_of_eq hn N_0
    have IH := accT_apply hS h d l n (Nat.lt_of_succ_lt hn)
    unfold accT acc2 acc1
    rw [if_neg fun e => absurd ((hcond0_1 ⟨n + 1, hn⟩).mp e) (Nat.succ_ne_zero n)]
    by_cases h15 : (n + 1) % 16 = 15
    · rw [if_pos ((hcond0_5 ⟨n + 1, hn⟩).mpr h15), pay6_apply, IH, dqsT_last m hL hO c hS 0 h d l (n + 1) hn h15,
        show (n + 1 + 1) / 16 = (n + 1) / 16 + 1 by omega, Finset.sum_range_succ]
      refine congrArg (fun y : EReal => (∑ x ∈ Finset.range ((n + 1) / 16), seqGrad (argsOf m c) h d l x) + y) ?_
      unfold seqGrad
      rw [dif_pos (show (n + 1) / 16 < 24 by omega)]
      rfl
    · rw [if_neg fun e => h15 ((hcond0_5 ⟨n + 1, hn⟩).mp e), IH, show (n + 1 + 1) / 16 = (n + 1) / 16 by omega]

include hL in
/-- After the last point the sum is the query gradient. -/
theorem accT_last (hS : Scaled m c) (h : Fin 7) (d : Fin 64) (l : Fin 192) (n : ℕ) (hn : n < (cfgM m hO).N) (hl : n = 383) :
    accT m hO c n hn (ix3 h d l) = dqSpec (argsOf m c) h d l := by
  subst hl
  rw [accT_apply m hL hO c hS]
  unfold dqSpec
  rw [show (383 + 1) / 16 = 24 from rfl, ← Fin.sum_univ_eq_sum_range (fun x => seqGrad (argsOf m c) h d l x) 24]
  exact Finset.sum_congr rfl fun x _ => by unfold seqGrad; rw [dif_pos x.isLt]

end Cert.KernelIdeal.Own

end
-- ==== Proof.KernelIdeal.Arrays.lean ====
/- What the ideal kernel's result arrays hold. -/
module

public import proofs.«01_k».proof.Proof.KernelIdeal.Tiles
public import proofs.«01_k».proof.Proof.KernelIdeal.Frame

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.Sem
open Cert.Own (sm Args prob dscore dvSpec dkSpec dqTerm dqsSpec dqSpec)

/-- The key gradient as an array. -/
def dkArr (A : Args) : Vec Ideal S24x7x64x16384 .bf16 := fun y => dkSpec A (y 0) (y 1) (y 2) (y 3)
/-- The value gradient as an array. -/
def dvArr (A : Args) : Vec Ideal S24x7x64x16384 .bf16 := fun y => dvSpec A (y 0) (y 1) (y 2) (y 3)
/-- The query gradients of the sequences as an array. -/
def dqsArr (A : Args) : Vec Ideal S24x7x64x192 .f32 := fun y => dqsSpec A (y 0) (y 1) (y 2) (y 3)
/-- The query gradient as an array. -/
def dqArr (A : Args) : Vec Ideal S7x64x192 .bf16 := fun y => dqSpec A (y 0) (y 1) (y 2)

theorem dkArr_apply (A : Args) (b : Fin 24) (h : Fin 7) (d : Fin 64) (t : Fin 16384) : dkArr A (ix4 b h d t) = dkSpec A b h d t := rfl
theorem dvArr_apply (A : Args) (b : Fin 24) (h : Fin 7) (d : Fin 64) (t : Fin 16384) : dvArr A (ix4 b h d t) = dvSpec A b h d t := rfl
theorem dqsArr_apply (A : Args) (b : Fin 24) (h : Fin 7) (d : Fin 64) (l : Fin 192) : dqsArr A (ix4 b h d l) = dqsSpec A b h d l := rfl
theorem dqArr_apply (A : Args) (h : Fin 7) (d : Fin 64) (l : Fin 192) : dqArr A (ix3 h d l) = dqSpec A h d l := rfl

variable (m : (ℓ : Loc nD τ sig) → Buf (Elt Ideal) ℓ) (hL : Lens m) (hO : Ok m) (c : Dev nD)

/-- The point of a sequence and a tile. -/
def ptOf (b : Fin 24) (tk : Fin 16) : Fin (cfgM m hO).N := ⟨16 * b.val + tk.val, by
  show _ < grid0.N
  rw [N_0]; omega⟩

theorem bOf_pt (b : Fin 24) (tk : Fin 16) : bOf (ptOf m hO b tk) = b := Fin.ext (by show (16 * b.val + tk.val) / 16 = b.val; omega)
theorem tOf_pt (b : Fin 24) (tk : Fin 16) : tOf (ptOf m hO b tk) = tk := Fin.ext (by show (16 * b.val + tk.val) % 16 = tk.val; omega)

/-- Where an element of a point's block of the key gradient is in the array. -/
theorem emb11 (t : Fin (cfgM m hO).N) (z : Fin 1) (h : Fin 7) (d : Fin 64) (k : Fin 1024) :
    ((((cfgM m hO).win 11).blk t).view.emb (ix4 z h d k) : S24x7x64x16384.Idx) = ix4 (bOf t) h d (posT (tOf t) k) := by
  funext a
  apply Fin.ext
  refine (Pipeline.Window.rect_emb_val ((cfgM m hO).win 11) t _ a).trans ?_
  have e0 := coords0 t
  have e1 := coords1 t
  have hb := (bOf t).isLt
  have ht := (tOf t).isLt
  have hz := z.isLt
  fin_cases a
  · show (BitVec.ofNat 32 (grid0.coords t 0).val).toNat * 1 + z.val = (bOf t).val
    rw [BitVec.toNat_ofNat]
    omega
  · show 0 * 7 + h.val = h.val
    omega
  · show 0 * 64 + d.val = d.val
    omega
  · show (BitVec.ofNat 32 (grid0.coords t 1).val).toNat * 1024 + k.val = 1024 * (tOf t).val + k.val
    rw [BitVec.toNat_ofNat]
    omega

theorem emb12 (t : Fin (cfgM m hO).N) (z : Fin 1) (h : Fin 7) (d : Fin 64) (k : Fin 1024) :
    ((((cfgM m hO).win 12).blk t).view.emb (ix4 z h d k) : S24x7x64x16384.Idx) = ix4 (bOf t) h d (posT (tOf t) k) :=
  emb11 m hO t z h d k

theorem emb13 (t : Fin (cfgM m hO).N) (z : Fin 1) (h : Fin 7) (d : Fin 64) (l : Fin 192) :
    ((((cfgM m hO).win 13).blk t).view.emb (ix4 z h d l) : S24x7x64x192.Idx) = ix4 (bOf t) h d l := by
  funext a
  apply Fin.ext
  refine (Pipeline.Window.rect_emb_val ((cfgM m hO).win 13) t _ a).trans ?_
  have e0 := coords0 t
  have hb := (bOf t).isLt
  have hz := z.isLt
  fin_cases a
  · show (BitVec.ofNat 32 (grid0.coords t 0).val).toNat * 1 + z.val = (bOf t).val
    rw [BitVec.toNat_ofNat]
    omega
  · show 0 * 7 + h.val = h.val
    omega
  · show 0 * 64 + d.val = d.val
    omega
  · show 0 * 192 + l.val = l.val
    omega

theorem emb14 (t : Fin (cfgM m hO).N) (h : Fin 7) (d : Fin 64) (l : Fin 192) :
    ((((cfgM m hO).win 14).blk t).view.emb (ix3 h d l) : S7x64x192.Idx) = ix3 h d l := by
  funext a
  apply Fin.ext
  refine (Pipeline.Window.rect_emb_val ((cfgM m hO).win 14) t _ a).trans ?_
  fin_cases a
  · show 0 * 7 + h.val = h.val
    omega
  · show 0 * 64 + d.val = d.val
    omega
  · show 0 * 192 + l.val = l.val
    omega

/-- An index by its coordinates. -/
theorem ex_tile (y : S1x7x64x1024.Idx) : ∃ (z : Fin 1) (h : Fin 7) (d : Fin 64) (k : Fin 1024), y = ix4 z h d k :=
  ⟨y 0, y 1, y 2, y 3, by funext a; fin_cases a <;> rfl⟩
theorem ex_kv (y : S24x7x64x16384.Idx) : ∃ (b : Fin 24) (h : Fin 7) (d : Fin 64) (t : Fin 16384), y = ix4 b h d t :=
  ⟨y 0, y 1, y 2, y 3, by funext a; fin_cases a <;> rfl⟩
theorem ex_row (y : S1x7x64x192.Idx) : ∃ (z : Fin 1) (h : Fin 7) (d : Fin 64) (l : Fin 192), y = ix4 z h d l :=
  ⟨y 0, y 1, y 2, y 3, by funext a; fin_cases a <;> rfl⟩
theorem ex_dqs (y : S24x7x64x192.Idx) : ∃ (b : Fin 24) (h : Fin 7) (d : Fin 64) (l : Fin 192), y = ix4 b h d l :=
  ⟨y 0, y 1, y 2, y 3, by funext a; fin_cases a <;> rfl⟩
theorem ex_dq (y : S7x64x192.Idx) : ∃ (h : Fin 7) (d : Fin 64) (l : Fin 192), y = ix3 h d l :=
  ⟨y 0, y 1, y 2, by funext a; fin_cases a <;> rfl⟩

include hL in
/-- The key gradient. -/
theorem arr11 : (dats m hO 0 c).arrAt 11 (cfgM m hO).N = dkArr (argsOf m c) := by
  refine (dats m hO 0 c).arrAt_eq_of_cover 11 (dkArr (argsOf m c)) (fun t _ => ?_) (fun y => ?_)
  · funext y
    show (dats m hO 0 c).flushed 11 t y = dkArr (argsOf m c) ((((cfgM m hO).win 11).blk t).view.emb y)
    refine (congrFun (after0_11 m hO c t) y).trans ?_
    obtain ⟨z, h, d, k, rfl⟩ := ex_tile y
    refine (dkOut_apply m hL hO c t z h d k).trans ?_
    exact (congrArg (dkArr (argsOf m c)) (emb11 m hO t z h d k)).symm
  · obtain ⟨b, h, d, t, rfl⟩ := ex_kv y
    refine ⟨ptOf m hO b ⟨t.val / 1024, Nat.div_lt_of_lt_mul t.isLt⟩, flush11 m hO _, ?_⟩
    have e := emb11 m hO (ptOf m hO b ⟨t.val / 1024, Nat.div_lt_of_lt_mul t.isLt⟩) 0 h d ⟨t.val % 1024, Nat.mod_lt _ (by decide)⟩
    rw [bOf_pt, tOf_pt, show posT ⟨t.val / 1024, Nat.div_lt_of_lt_mul t.isLt⟩ ⟨t.val % 1024, Nat.mod_lt _ (by decide)⟩ = t from Fin.ext (Nat.div_add_mod t.val 1024)] at e
    exact Eq.mp (congrArg (· ∈ (((cfgM m hO).win 11).blk _).view.set) e) (View.emb_mem_set _ _)

include hL in
/-- The value gradient. -/
theorem arr12 : (dats m hO 0 c).arrAt 12 (cfgM m hO).N = dvArr (argsOf m c) := by
  refine (dats m hO 0 c).arrAt_eq_of_cover 12 (dvArr (argsOf m c)) (fun t _ => ?_) (fun y => ?_)
  · funext y
    show (dats m hO 0 c).flushed 12 t y = dvArr (argsOf m c) ((((cfgM m hO).win 12).blk t).view.emb y)
    refine (congrFun (after0_12 m hO c t) y).trans ?_
    obtain ⟨z, h, d, k, rfl⟩ := ex_tile y
    refine (dvOut_apply m hL hO c t z h d k).trans ?_
    exact (congrArg (dvArr (argsOf m c)) (emb12 m hO t z h d k)).symm
  · obtain ⟨b, h, d, t, rfl⟩ := ex_kv y
    refine ⟨ptOf m hO b ⟨t.val / 1024, Nat.div_lt_of_lt_mul t.isLt⟩, flush12 m hO _, ?_⟩
    have e := emb12 m hO (ptOf m hO b ⟨t.val / 1024, Nat.div_lt_of_lt_mul t.isLt⟩) 0 h d ⟨t.val % 1024, Nat.mod_lt _ (by decide)⟩
    rw [bOf_pt, tOf_pt, show posT ⟨t.val / 1024, Nat.div_lt_of_lt_mul t.isLt⟩ ⟨t.val % 1024, Nat.mod_lt _ (by decide)⟩ = t from Fin.ext (Nat.div_add_mod t.val 1024)] at e
    exact Eq.mp (congrArg (· ∈ (((cfgM m hO).win 12).blk _).view.set) e) (View.emb_mem_set _ _)

include hL in
/-- The query gradients of the sequences. -/
theorem arr13 (hS : Scaled m c) : (dats m hO 0 c).arrAt 13 (cfgM m hO).N = dqsArr (argsOf m c) := by
  refine (dats m hO 0 c).arrAt_eq_of_cover 13 (dqsArr (argsOf m c)) (fun t hf => ?_) (fun y => ?_)
  · funext y
    show (dats m hO 0 c).flushed 13 t y = dqsArr (argsOf m c) ((((cfgM m hO).win 13).blk t).view.emb y)
    refine (congrFun (after0_13 m hO c t) y).trans ?_
    obtain ⟨z, h, d, l, rfl⟩ := ex_row y
    refine (dqsT_last m hL hO c hS z h d l t.val t.isLt ((flush13 m hO t).mp hf)).trans ?_
    exact (congrArg (dqsArr (argsOf m c)) (emb13 m hO t z h d l)).symm
  · obtain ⟨b, h, d, l, rfl⟩ := ex_dqs y
    refine ⟨ptOf m hO b 15, (flush13 m hO _).mpr (by show (16 * b.val + 15) % 16 = 15; omega), ?_⟩
    have e := emb13 m hO (ptOf m hO b 15) 0 h d l
    rw [bOf_pt] at e
    exact Eq.mp (congrArg (· ∈ (((cfgM m hO).win 13).blk _).view.set) e) (View.emb_mem_set _ _)

include hL in
/-- The query gradient. -/
theorem arr14 (hS : Scaled m c) : (dats m hO 0 c).arrAt 14 (cfgM m hO).N = dqArr (argsOf m c) := by
  refine (dats m hO 0 c).arrAt_eq_of_cover 14 (dqArr (argsOf m c)) (fun t hf => ?_) (fun y => ?_)
  · funext y
    show (dats m hO 0 c).flushed 14 t y = dqArr (argsOf m c) ((((cfgM m hO).win 14).blk t).view.emb y)
    refine (congrFun (after0_14 m hO c t) y).trans ?_
    obtain ⟨h, d, l, rfl⟩ := ex_dq y
    refine Eq.trans (b := accT m hO c t.val t.isLt (ix3 h d l)) rfl ?_
    refine (accT_last m hL hO c hS h d l t.val t.isLt ((flush14 m hO t).mp hf)).trans ?_
    exact (congrArg (dqArr (argsOf m c)) (emb14 m hO t h d l)).symm
  · obtain ⟨h, d, l, rfl⟩ := ex_dq y
    refine ⟨ptOf m hO 23 15, (flush14 m hO _).mpr rfl, ?_⟩
    exact Eq.mp (congrArg (· ∈ (((cfgM m hO).win 14).blk _).view.set) (emb14 m hO (ptOf m hO 23 15) h d l)) (View.emb_mem_set _ _)

end Cert.KernelIdeal.Own

end
-- ==== Proof.ReferenceIdeal.Region.lean ====
/- What the region leaves: the codes of the keys, of the values and of the output gradient, which the conversion does not change over the extended reals. -/
module

public import proofs.«01_k».proof.Proof.Gen.ReferenceIdeal.Frame
public import proofs.«01_k».proof.Proof.Spec
public import Idealize.ShloMosaic.Lib.Pipeline.Value

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Idealize.ShloMosaic.Pipeline (Dat)
open Cert.Own (sm Args prob dscore dvSpec dkSpec dqTerm dqsSpec dqSpec)

variable (m : (ℓ : Loc nD τ sig) → Buf (Elt Ideal) ℓ) (c : Dev nD)

/-- The region's one point. -/
def pt0 : Fin cfg0.N := ⟨0, by decide⟩

theorem zero_off : (![0, 0, 0, 0] : Fin 4 → Nat) = fun _ => 0 := by funext a; fin_cases a <;> rfl

theorem emb0 (t : Fin cfg0.N) (y : S24x16384x7x64.Idx) : (((cfg0.win 0).blk t).view.emb y : S24x16384x7x64.Idx) = y := by
  funext a
  apply Fin.ext
  refine (Pipeline.Window.rect_emb_val (cfg0.win 0) t _ a).trans ?_
  show 0 * _ + (y a).val = (y a).val
  omega

theorem emb3 (t : Fin cfg0.N) (y : S24x16384x7x64.Idx) : (((cfg0.win 3).blk t).view.emb y : S24x16384x7x64.Idx) = y := emb0 t y

theorem block0 (t : Fin cfg0.N) (y : S24x16384x7x64.Idx) : iblk m c 0 t y = m ((c : Thread nD τ).loc main_arg1) y :=
  (congrArg (V m c main_arg1) (emb0 t y)).trans (congrFun (V_main_arg1 m c) y)

theorem out3_apply (x0 : Vec Ideal S24x16384x7x64 .fp8e4m3) (x1 : Vec Ideal S24x16384x7x64 .fp8e4m3) (x2 : Vec Ideal S24x192x7x64 .fp8e5m2) (y : S24x16384x7x64.Idx) :
    out0_3 x0 x1 x2 y = x0 y := by
  unfold out0_3
  rw [View.canon_unit_zero zero_off, View.ld_unit_zero zero_off]
  rfl

theorem arr3 : (dats m 0 c).arrAt 3 cfg0.N = (fun y => m ((c : Thread nD τ).loc main_arg1) y : S24x16384x7x64.Idx → EReal) := by
  refine (dats m 0 c).arrAt_eq_of_cover 3 (fun y => m ((c : Thread nD τ).loc main_arg1) y : S24x16384x7x64.Idx → EReal) (fun t _ => ?_) (fun y => ?_)
  · funext y
    show (dats m 0 c).flushed 3 t y = (fun y => m ((c : Thread nD τ).loc main_arg1) y : S24x16384x7x64.Idx → EReal) (((cfg0.win 3).blk t).view.emb y)
    refine (congrFun (after0_3 m c t) y).trans ?_
    refine (out3_apply _ _ _ y).trans ((block0 m c t y).trans ?_)
    exact (congrArg (fun y => m ((c : Thread nD τ).loc main_arg1) y : S24x16384x7x64.Idx → EReal) (emb3 t y)).symm
  · refine ⟨pt0, flush0_3 pt0, ?_⟩
    have e := emb3 pt0 y
    exact Eq.mp (congrArg (· ∈ ((cfg0.win 3).blk pt0).view.set) e) (View.emb_mem_set _ _)

theorem emb1 (t : Fin cfg0.N) (y : S24x16384x7x64.Idx) : (((cfg0.win 1).blk t).view.emb y : S24x16384x7x64.Idx) = y := by
  funext a
  apply Fin.ext
  refine (Pipeline.Window.rect_emb_val (cfg0.win 1) t _ a).trans ?_
  show 0 * _ + (y a).val = (y a).val
  omega

theorem emb4 (t : Fin cfg0.N) (y : S24x16384x7x64.Idx) : (((cfg0.win 4).blk t).view.emb y : S24x16384x7x64.Idx) = y := emb1 t y

theorem block1 (t : Fin cfg0.N) (y : S24x16384x7x64.Idx) : iblk m c 1 t y = m ((c : Thread nD τ).loc main_arg3) y :=
  (congrArg (V m c main_arg3) (emb1 t y)).trans (congrFun (V_main_arg3 m c) y)

theorem out4_apply (x0 : Vec Ideal S24x16384x7x64 .fp8e4m3) (x1 : Vec Ideal S24x16384x7x64 .fp8e4m3) (x2 : Vec Ideal S24x192x7x64 .fp8e5m2) (y : S24x16384x7x64.Idx) :
    out0_4 x0 x1 x2 y = x1 y := by
  unfold out0_4
  rw [View.canon_unit_zero zero_off, View.ld_unit_zero zero_off]
  rfl

theorem arr4 : (dats m 0 c).arrAt 4 cfg0.N = (fun y => m ((c : Thread nD τ).loc main_arg3) y : S24x16384x7x64.Idx → EReal) := by
  refine (dats m 0 c).arrAt_eq_of_cover 4 (fun y => m ((c : Thread nD τ).loc main_arg3) y : S24x16384x7x64.Idx → EReal) (fun t _ => ?_) (fun y => ?_)
  · funext y
    show (dats m 0 c).flushed 4 t y = (fun y => m ((c : Thread nD τ).loc main_arg3) y : S24x16384x7x64.Idx → EReal) (((cfg0.win 4).blk t).view.emb y)
    refine (congrFun (after0_4 m c t) y).trans ?_
    refine (out4_apply _ _ _ y).trans ((block1 m c t y).trans ?_)
    exact (congrArg (fun y => m ((c : Thread nD τ).loc main_arg3) y : S24x16384x7x64.Idx → EReal) (emb4 t y)).symm
  · refine ⟨pt0, flush0_4 pt0, ?_⟩
    have e := emb4 pt0 y
    exact Eq.mp (congrArg (· ∈ ((cfg0.win 4).blk pt0).view.set) e) (View.emb_mem_set _ _)

theorem emb2 (t : Fin cfg0.N) (y : S24x192x7x64.Idx) : (((cfg0.win 2).blk t).view.emb y : S24x192x7x64.Idx) = y := by
  funext a
  apply Fin.ext
  refine (Pipeline.Window.rect_emb_val (cfg0.win 2) t _ a).trans ?_
  show 0 * _ + (y a).val = (y a).val
  omega

theorem emb5 (t : Fin cfg0.N) (y : S24x192x7x64.Idx) : (((cfg0.win 5).blk t).view.emb y : S24x192x7x64.Idx) = y := emb2 t y

theorem block2 (t : Fin cfg0.N) (y : S24x192x7x64.Idx) : iblk m c 2 t y = m ((c : Thread nD τ).loc main_arg6) y :=
  (congrArg (V m c main_arg6) (emb2 t y)).trans (congrFun (V_main_arg6 m c) y)

theorem out5_apply (x0 : Vec Ideal S24x16384x7x64 .fp8e4m3) (x1 : Vec Ideal S24x16384x7x64 .fp8e4m3) (x2 : Vec Ideal S24x192x7x64 .fp8e5m2) (y : S24x192x7x64.Idx) :
    out0_5 x0 x1 x2 y = x2 y := by
  unfold out0_5
  rw [View.canon_unit_zero zero_off, View.ld_unit_zero zero_off]
  rfl

theorem arr5 : (dats m 0 c).arrAt 5 cfg0.N = (fun y => m ((c : Thread nD τ).loc main_arg6) y : S24x192x7x64.Idx → EReal) := by
  refine (dats m 0 c).arrAt_eq_of_cover 5 (fun y => m ((c : Thread nD τ).loc main_arg6) y : S24x192x7x64.Idx → EReal) (fun t _ => ?_) (fun y => ?_)
  · funext y
    show (dats m 0 c).flushed 5 t y = (fun y => m ((c : Thread nD τ).loc main_arg6) y : S24x192x7x64.Idx → EReal) (((cfg0.win 5).blk t).view.emb y)
    refine (congrFun (after0_5 m c t) y).trans ?_
    refine (out5_apply _ _ _ y).trans ((block2 m c t y).trans ?_)
    exact (congrArg (fun y => m ((c : Thread nD τ).loc main_arg6) y : S24x192x7x64.Idx → EReal) (emb5 t y)).symm
  · refine ⟨pt0, flush0_5 pt0, ?_⟩
    have e := emb5 pt0 y
    exact Eq.mp (congrArg (· ∈ ((cfg0.win 5).blk pt0).view.set) e) (View.emb_mem_set _ _)

end Cert.ReferenceIdeal.Own

end
-- ==== Proof.ReferenceIdeal.Stages.lean ====
/- The reference's results as functions of its arguments, as its operations compute them. -/
module

public import proofs.«01_k».proof.Proof.Gen.ReferenceIdeal.Frame
public import proofs.«01_k».proof.Proof.Spec
public import Idealize.ShloMosaic.Lib.ValueIdx
public import Idealize.ShloMosaic.Lib.ValueLayout
public import Idealize.ShloMosaic.Lib.MatmulPlain
public import Idealize.ShloMosaic.Lib.IdealHost
public import Idealize.ShloMosaic.Lib.StackMember

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Cert.Own (sm Args prob dscore dvSpec dkSpec dqTerm dqsSpec dqSpec)

variable (q : FVec Ideal S192x7x64 .bf16) (k v : FVec Ideal S24x16384x7x64 .bf16) (o : FVec Ideal S24x192x7x64 .bf16)
  (ks vs dsc : FVec Ideal S24x7 .f32) (lse delta : FVec Ideal S24x7x192 .f32) (n : IVec S24 32)

/-- The masked weights. -/
def pR : FVec Ideal S24x7x192x16384 .f32 :=
  select
    (cmpi .slt (iotaInDim S24x7x192x16384 32 3)
      (broadcastInDim S24x7x192x16384 ![0, 1, 2, 3] bcast_S24x1x1x1_S24x7x192x16384_0_1_2_3
        (broadcastInDim S24x1x1x1 ![0] bcast_S24_S24x1x1x1_0 n)))
    (Host.exp (subf
      (mulf
        (broadcastInDim S24x7x192x16384 ![0, 1, 2, 3] bcast_S24x7x1x1_S24x7x192x16384_0_1_2_3
          (mulf (broadcastInDim S24x7x1x1 ![] bcast_S_S24x7x1x1 (constant S_ .f32 0x3E000000#32))
            (broadcastInDim S24x7x1x1 ![0, 1] bcast_S24x7_S24x7x1x1_0_1 ks)))
        (transpose S24x7x192x16384 [1, 0, 3, 2]
          (Host.dotGeneral dot_S24x16384x7x64_S192x7x64_S7x24x16384x192_3_2_01_0_2_1 none k q)
          transposes_S7x24x16384x192_S24x7x192x16384_1_0_3_2))
      (broadcastInDim S24x7x192x16384 ![0, 1, 2, 3] bcast_S24x7x192x1_S24x7x192x16384_0_1_2_3
        (broadcastInDim S24x7x192x1 ![0, 1, 2] bcast_S24x7x192_S24x7x192x1_0_1_2 lse))))
    (broadcastInDim S24x7x192x16384 ![] bcast_S_S24x7x192x16384 (id (constant S_ .f32 0x00000000#32)))

/-- The gradients of the scores. -/
def dsR (p : FVec Ideal S24x7x192x16384 .f32) : FVec Ideal S24x7x192x16384 .f32 :=
  mulf p
    (subf
      (mulf
        (broadcastInDim S24x7x192x16384 ![0, 1, 2, 3] bcast_S24x7x1x1_S24x7x192x16384_0_1_2_3
          (broadcastInDim S24x7x1x1 ![0, 1] bcast_S24x7_S24x7x1x1_0_1 (mulf dsc vs)))
        (Host.dotGeneral dot_S24x192x7x64_S24x16384x7x64_S24x7x192x16384_3_3_1_1_02_02 none o v))
      (broadcastInDim S24x7x192x16384 ![0, 1, 2, 3] bcast_S24x7x192x1_S24x7x192x16384_0_1_2_3
        (broadcastInDim S24x7x192x1 ![0, 1, 2] bcast_S24x7x192_S24x7x192x1_0_1_2 delta)))

/-- The value gradient. -/
def dvR (p : FVec Ideal S24x7x192x16384 .f32) : FVec Ideal S24x7x64x16384 .bf16 :=
  truncf .bf16
    (mulf
      (broadcastInDim S24x7x64x16384 ![0, 1, 2, 3] bcast_S24x7x1x1_S24x7x64x16384_0_1_2_3
        (broadcastInDim S24x7x1x1 ![0, 1] bcast_S24x7_S24x7x1x1_0_1 dsc))
      (Host.dotGeneral dot_S24x192x7x64_S24x7x192x16384_S24x7x64x16384_1_2_3_3_02_01 none o (truncf .bf16 p bitsLt_bf16_f32)))
    bitsLt_bf16_f32

/-- The key gradient. -/
def dkR (ds : FVec Ideal S24x7x192x16384 .f32) : FVec Ideal S24x7x64x16384 .bf16 :=
  truncf .bf16
    (mulf
      (broadcastInDim S24x7x64x16384 ![] bcast_S_S24x7x64x16384 (constant S_ .f32 0x3E000000#32))
      (transpose S24x7x64x16384 [2, 0, 1, 3]
        (Host.dotGeneral dot_S192x7x64_S24x7x192x16384_S7x64x24x16384_0_2_2_03_1_1 none q (truncf .bf16 ds bitsLt_bf16_f32))
        transposes_S7x64x24x16384_S24x7x64x16384_2_0_1_3))
    bitsLt_bf16_f32

/-- The query gradients of the sequences. -/
def dqsR (ds : FVec Ideal S24x7x192x16384 .f32) : FVec Ideal S24x7x64x192 .f32 :=
  mulf
    (broadcastInDim S24x7x64x192 ![0, 1, 2, 3] bcast_S24x7x1x1_S24x7x64x192_0_1_2_3
      (mulf (broadcastInDim S24x7x1x1 ![] bcast_S_S24x7x1x1 (constant S_ .f32 0x3E000000#32))
        (broadcastInDim S24x7x1x1 ![0, 1] bcast_S24x7_S24x7x1x1_0_1 ks)))
    (Host.dotGeneral dot_S24x16384x7x64_S24x7x192x16384_S24x7x64x192_1_3_3_2_02_01 none k (truncf .bf16 ds bitsLt_bf16_f32))

/-- The query gradient. -/
def dqR (dqs : FVec Ideal S24x7x64x192 .f32) : FVec Ideal S7x64x192 .bf16 :=
  truncf .bf16
    (Host.reduceAdd dqs (constant (F := Ideal) S_ .f32 0x00000000#32) reducesTo_S24x7x64x192_S7x64x192_d0 h_S_)
    bitsLt_bf16_f32

end Cert.ReferenceIdeal.Own

end
-- ==== Proof.ReferenceIdeal.TailReads.lean ====
/- The result buffers of the reference after its operations, over what they read. -/
module

public import proofs.«01_k».proof.Proof.ReferenceIdeal.Stages
public import Idealize.ShloMosaic.Lib.Pipeline.FrameTail

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Cert.Own (sm Args prob dscore dvSpec dkSpec dqTerm dqsSpec dqSpec)

/-- The operations after the region. -/
abbrev tailOps : List (HloOp τ sig (Elt Ideal)) := [hostOps1, hostOps1_1, hostOps1_2].flatten

variable (W : Valuation τ sig (Elt Ideal))

/-- The weights that the operations compute from a valuation. -/
abbrev pW : FVec Ideal S24x7x192x16384 .f32 :=
  pR (W (Proc.devRef .tc main_arg0)) (W (Proc.devRef .tc main_v0_0)) (W (Proc.devRef .tc main_arg2)) (W (Proc.devRef .tc main_arg5)) (W (Proc.devRef .tc main_arg9))
/-- The gradients of the scores. -/
abbrev dsW : FVec Ideal S24x7x192x16384 .f32 :=
  dsR (W (Proc.devRef .tc main_v0_1)) (W (Proc.devRef .tc main_v0_2)) (W (Proc.devRef .tc main_arg4)) (W (Proc.devRef .tc main_arg7)) (W (Proc.devRef .tc main_arg8)) (pW W)

set_option maxHeartbeats 4000000

theorem read_v32 : StableHlo.after tailOps W (Proc.devRef .tc main_v32) = dvR (W (Proc.devRef .tc main_v0_2)) (W (Proc.devRef .tc main_arg7)) (pW W) := by
  simp only [tailOps, List.flatten_cons, List.flatten_nil, List.cons_append, List.nil_append, List.append_nil]
  after_results_simp
  rfl

theorem read_v37 : StableHlo.after tailOps W (Proc.devRef .tc main_v37) = dkR (W (Proc.devRef .tc main_arg0)) (dsW W) := by
  simp only [tailOps, List.flatten_cons, List.flatten_nil, List.cons_append, List.nil_append, List.append_nil]
  after_results_simp
  rfl

theorem read_v42 : StableHlo.after tailOps W (Proc.devRef .tc main_v42) = dqsR (W (Proc.devRef .tc main_v0_0)) (W (Proc.devRef .tc main_arg2)) (dsW W) := by
  simp only [tailOps, List.flatten_cons, List.flatten_nil, List.cons_append, List.nil_append, List.append_nil]
  after_results_simp
  rfl

theorem read_v44 : StableHlo.after tailOps W (Proc.devRef .tc main_v44) = dqR (dqsR (W (Proc.devRef .tc main_v0_0)) (W (Proc.devRef .tc main_arg2)) (dsW W)) := by
  simp only [tailOps, List.flatten_cons, List.flatten_nil, List.cons_append, List.nil_append, List.append_nil]
  after_results_simp
  rfl

end Cert.ReferenceIdeal.Own

end
-- ==== Proof.ReferenceIdeal.Dots.lean ====
/- The five products of the reference, element by element. -/
module

public import proofs.«01_k».proof.Proof.Gen.ReferenceIdeal.Frame
public import proofs.«01_k».proof.Proof.Spec
public import Idealize.ShloMosaic.Lib.ValueIdx
public import Idealize.ShloMosaic.Lib.ValueLayout
public import Idealize.ShloMosaic.Lib.MatmulPlain
public import Idealize.ShloMosaic.Lib.IdealHost
public import Idealize.ShloMosaic.Lib.StackMember

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Cert.Own (sm Args prob dscore dvSpec dkSpec dqTerm dqsSpec dqSpec)

theorem dotScore {φ₁ φ₂ : FTy} (A : FVec Ideal S24x16384x7x64 φ₁) (B : FVec Ideal S192x7x64 φ₂) (h : Fin 7) (b : Fin 24) (t : Fin 16384) (l : Fin 192) :
    Host.dotGeneral dot_S24x16384x7x64_S192x7x64_S7x24x16384x192_3_2_01_0_2_1 none A B (ix4 h b t l) = ∑ c : Fin 64, A (ix4 b t h c) * B (ix3 l h c) := by
  show FloatOps.dotGeneral _ none _ A B (ix4 h b t l) = _
  rw [Ideal.dotGeneral_apply, ← Equiv.sum_comp (contrEquiv1 dot_S24x16384x7x64_S192x7x64_S7x24x16384x192_3_2_01_0_2_1 64 rfl rfl).symm]
  refine Finset.sum_congr rfl fun c _ => ?_
  have c3 := contrEquiv1_symm_val dot_S24x16384x7x64_S192x7x64_S7x24x16384x192_3_2_01_0_2_1 64 rfl rfl c
  have el : dot_S24x16384x7x64_S192x7x64_S7x24x16384x192_3_2_01_0_2_1.lhsIdx (ix4 h b t l) ((contrEquiv1 _ 64 rfl rfl).symm c) = ix4 b t h c := by
    funext ax; apply Fin.ext
    match ax with
    | ⟨0, _⟩ => simp [DotDims.lhsIdx, dot_S24x16384x7x64_S192x7x64_S7x24x16384x192_3_2_01_0_2_1]; rfl
    | ⟨1, _⟩ => simp [DotDims.lhsIdx, dot_S24x16384x7x64_S192x7x64_S7x24x16384x192_3_2_01_0_2_1]; rfl
    | ⟨2, _⟩ => simp [DotDims.lhsIdx, dot_S24x16384x7x64_S192x7x64_S7x24x16384x192_3_2_01_0_2_1]; rfl
    | ⟨3, _⟩ => simp [DotDims.lhsIdx, dot_S24x16384x7x64_S192x7x64_S7x24x16384x192_3_2_01_0_2_1]; exact c3
  have er : dot_S24x16384x7x64_S192x7x64_S7x24x16384x192_3_2_01_0_2_1.rhsIdx (ix4 h b t l) ((contrEquiv1 _ 64 rfl rfl).symm c) = ix3 l h c := by
    funext ax; apply Fin.ext
    match ax with
    | ⟨0, _⟩ => simp [DotDims.rhsIdx, dot_S24x16384x7x64_S192x7x64_S7x24x16384x192_3_2_01_0_2_1]; rfl
    | ⟨1, _⟩ => simp [DotDims.rhsIdx, dot_S24x16384x7x64_S192x7x64_S7x24x16384x192_3_2_01_0_2_1]; rfl
    | ⟨2, _⟩ => simp [DotDims.rhsIdx, dot_S24x16384x7x64_S192x7x64_S7x24x16384x192_3_2_01_0_2_1]; exact c3
  rw [el, er]

theorem dotProb {φ₁ φ₂ : FTy} (A : FVec Ideal S24x192x7x64 φ₁) (B : FVec Ideal S24x16384x7x64 φ₂) (b : Fin 24) (h : Fin 7) (l : Fin 192) (t : Fin 16384) :
    Host.dotGeneral dot_S24x192x7x64_S24x16384x7x64_S24x7x192x16384_3_3_1_1_02_02 none A B (ix4 b h l t) = ∑ c : Fin 64, A (ix4 b l h c) * B (ix4 b t h c) := by
  show FloatOps.dotGeneral _ none _ A B (ix4 b h l t) = _
  rw [Ideal.dotGeneral_apply, ← Equiv.sum_comp (contrEquiv1 dot_S24x192x7x64_S24x16384x7x64_S24x7x192x16384_3_3_1_1_02_02 64 rfl rfl).symm]
  refine Finset.sum_congr rfl fun c _ => ?_
  have c3 := contrEquiv1_symm_val dot_S24x192x7x64_S24x16384x7x64_S24x7x192x16384_3_3_1_1_02_02 64 rfl rfl c
  have el : dot_S24x192x7x64_S24x16384x7x64_S24x7x192x16384_3_3_1_1_02_02.lhsIdx (ix4 b h l t) ((contrEquiv1 _ 64 rfl rfl).symm c) = ix4 b l h c := by
    funext ax; apply Fin.ext
    match ax with
    | ⟨0, _⟩ => simp [DotDims.lhsIdx, dot_S24x192x7x64_S24x16384x7x64_S24x7x192x16384_3_3_1_1_02_02]; rfl
    | ⟨1, _⟩ => simp [DotDims.lhsIdx, dot_S24x192x7x64_S24x16384x7x64_S24x7x192x16384_3_3_1_1_02_02]; rfl
    | ⟨2, _⟩ => simp [DotDims.lhsIdx, dot_S24x192x7x64_S24x16384x7x64_S24x7x192x16384_3_3_1_1_02_02]; rfl
    | ⟨3, _⟩ => simp [DotDims.lhsIdx, dot_S24x192x7x64_S24x16384x7x64_S24x7x192x16384_3_3_1_1_02_02]; exact c3
  have er : dot_S24x192x7x64_S24x16384x7x64_S24x7x192x16384_3_3_1_1_02_02.rhsIdx (ix4 b h l t) ((contrEquiv1 _ 64 rfl rfl).symm c) = ix4 b t h c := by
    funext ax; apply Fin.ext
    match ax with
    | ⟨0, _⟩ => simp [DotDims.rhsIdx, dot_S24x192x7x64_S24x16384x7x64_S24x7x192x16384_3_3_1_1_02_02]; rfl
    | ⟨1, _⟩ => simp [DotDims.rhsIdx, dot_S24x192x7x64_S24x16384x7x64_S24x7x192x16384_3_3_1_1_02_02]; rfl
    | ⟨2, _⟩ => simp [DotDims.rhsIdx, dot_S24x192x7x64_S24x16384x7x64_S24x7x192x16384_3_3_1_1_02_02]; rfl
    | ⟨3, _⟩ => simp [DotDims.rhsIdx, dot_S24x192x7x64_S24x16384x7x64_S24x7x192x16384_3_3_1_1_02_02]; exact c3
  rw [el, er]

theorem dotV {φ₁ φ₂ : FTy} (A : FVec Ideal S24x192x7x64 φ₁) (B : FVec Ideal S24x7x192x16384 φ₂) (b : Fin 24) (h : Fin 7) (d : Fin 64) (t : Fin 16384) :
    Host.dotGeneral dot_S24x192x7x64_S24x7x192x16384_S24x7x64x16384_1_2_3_3_02_01 none A B (ix4 b h d t) = ∑ c : Fin 192, A (ix4 b c h d) * B (ix4 b h c t) := by
  show FloatOps.dotGeneral _ none _ A B (ix4 b h d t) = _
  rw [Ideal.dotGeneral_apply, ← Equiv.sum_comp (contrEquiv1 dot_S24x192x7x64_S24x7x192x16384_S24x7x64x16384_1_2_3_3_02_01 192 rfl rfl).symm]
  refine Finset.sum_congr rfl fun c _ => ?_
  have c3 := contrEquiv1_symm_val dot_S24x192x7x64_S24x7x192x16384_S24x7x64x16384_1_2_3_3_02_01 192 rfl rfl c
  have el : dot_S24x192x7x64_S24x7x192x16384_S24x7x64x16384_1_2_3_3_02_01.lhsIdx (ix4 b h d t) ((contrEquiv1 _ 192 rfl rfl).symm c) = ix4 b c h d := by
    funext ax; apply Fin.ext
    match ax with
    | ⟨0, _⟩ => simp [DotDims.lhsIdx, dot_S24x192x7x64_S24x7x192x16384_S24x7x64x16384_1_2_3_3_02_01]; rfl
    | ⟨1, _⟩ => simp [DotDims.lhsIdx, dot_S24x192x7x64_S24x7x192x16384_S24x7x64x16384_1_2_3_3_02_01]; exact c3
    | ⟨2, _⟩ => simp [DotDims.lhsIdx, dot_S24x192x7x64_S24x7x192x16384_S24x7x64x16384_1_2_3_3_02_01]; rfl
    | ⟨3, _⟩ => simp [DotDims.lhsIdx, dot_S24x192x7x64_S24x7x192x16384_S24x7x64x16384_1_2_3_3_02_01]; rfl
  have er : dot_S24x192x7x64_S24x7x192x16384_S24x7x64x16384_1_2_3_3_02_01.rhsIdx (ix4 b h d t) ((contrEquiv1 _ 192 rfl rfl).symm c) = ix4 b h c t := by
    funext ax; apply Fin.ext
    match ax with
    | ⟨0, _⟩ => simp [DotDims.rhsIdx, dot_S24x192x7x64_S24x7x192x16384_S24x7x64x16384_1_2_3_3_02_01]; rfl
    | ⟨1, _⟩ => simp [DotDims.rhsIdx, dot_S24x192x7x64_S24x7x192x16384_S24x7x64x16384_1_2_3_3_02_01]; rfl
    | ⟨2, _⟩ => simp [DotDims.rhsIdx, dot_S24x192x7x64_S24x7x192x16384_S24x7x64x16384_1_2_3_3_02_01]; exact c3
    | ⟨3, _⟩ => simp [DotDims.rhsIdx, dot_S24x192x7x64_S24x7x192x16384_S24x7x64x16384_1_2_3_3_02_01]; rfl
  rw [el, er]

theorem dotK {φ₁ φ₂ : FTy} (A : FVec Ideal S192x7x64 φ₁) (B : FVec Ideal S24x7x192x16384 φ₂) (h : Fin 7) (d : Fin 64) (b : Fin 24) (t : Fin 16384) :
    Host.dotGeneral dot_S192x7x64_S24x7x192x16384_S7x64x24x16384_0_2_2_03_1_1 none A B (ix4 h d b t) = ∑ c : Fin 192, A (ix3 c h d) * B (ix4 b h c t) := by
  show FloatOps.dotGeneral _ none _ A B (ix4 h d b t) = _
  rw [Ideal.dotGeneral_apply, ← Equiv.sum_comp (contrEquiv1 dot_S192x7x64_S24x7x192x16384_S7x64x24x16384_0_2_2_03_1_1 192 rfl rfl).symm]
  refine Finset.sum_congr rfl fun c _ => ?_
  have c3 := contrEquiv1_symm_val dot_S192x7x64_S24x7x192x16384_S7x64x24x16384_0_2_2_03_1_1 192 rfl rfl c
  have el : dot_S192x7x64_S24x7x192x16384_S7x64x24x16384_0_2_2_03_1_1.lhsIdx (ix4 h d b t) ((contrEquiv1 _ 192 rfl rfl).symm c) = ix3 c h d := by
    funext ax; apply Fin.ext
    match ax with
    | ⟨0, _⟩ => simp [DotDims.lhsIdx, dot_S192x7x64_S24x7x192x16384_S7x64x24x16384_0_2_2_03_1_1]; exact c3
    | ⟨1, _⟩ => simp [DotDims.lhsIdx, dot_S192x7x64_S24x7x192x16384_S7x64x24x16384_0_2_2_03_1_1]; rfl
    | ⟨2, _⟩ => simp [DotDims.lhsIdx, dot_S192x7x64_S24x7x192x16384_S7x64x24x16384_0_2_2_03_1_1]; rfl
  have er : dot_S192x7x64_S24x7x192x16384_S7x64x24x16384_0_2_2_03_1_1.rhsIdx (ix4 h d b t) ((contrEquiv1 _ 192 rfl rfl).symm c) = ix4 b h c t := by
    funext ax; apply Fin.ext
    match ax with
    | ⟨0, _⟩ => simp [DotDims.rhsIdx, dot_S192x7x64_S24x7x192x16384_S7x64x24x16384_0_2_2_03_1_1]; rfl
    | ⟨1, _⟩ => simp [DotDims.rhsIdx, dot_S192x7x64_S24x7x192x16384_S7x64x24x16384_0_2_2_03_1_1]; rfl
    | ⟨2, _⟩ => simp [DotDims.rhsIdx, dot_S192x7x64_S24x7x192x16384_S7x64x24x16384_0_2_2_03_1_1]; exact c3
    | ⟨3, _⟩ => simp [DotDims.rhsIdx, dot_S192x7x64_S24x7x192x16384_S7x64x24x16384_0_2_2_03_1_1]; rfl
  rw [el, er]

theorem dotQ {φ₁ φ₂ : FTy} (A : FVec Ideal S24x16384x7x64 φ₁) (B : FVec Ideal S24x7x192x16384 φ₂) (b : Fin 24) (h : Fin 7) (d : Fin 64) (l : Fin 192) :
    Host.dotGeneral dot_S24x16384x7x64_S24x7x192x16384_S24x7x64x192_1_3_3_2_02_01 none A B (ix4 b h d l) = ∑ c : Fin 16384, A (ix4 b c h d) * B (ix4 b h l c) := by
  show FloatOps.dotGeneral _ none _ A B (ix4 b h d l) = _
  rw [Ideal.dotGeneral_apply, ← Equiv.sum_comp (contrEquiv1 dot_S24x16384x7x64_S24x7x192x16384_S24x7x64x192_1_3_3_2_02_01 16384 rfl rfl).symm]
  refine Finset.sum_congr rfl fun c _ => ?_
  have c3 := contrEquiv1_symm_val dot_S24x16384x7x64_S24x7x192x16384_S24x7x64x192_1_3_3_2_02_01 16384 rfl rfl c
  have el : dot_S24x16384x7x64_S24x7x192x16384_S24x7x64x192_1_3_3_2_02_01.lhsIdx (ix4 b h d l) ((contrEquiv1 _ 16384 rfl rfl).symm c) = ix4 b c h d := by
    funext ax; apply Fin.ext
    match ax with
    | ⟨0, _⟩ => simp [DotDims.lhsIdx, dot_S24x16384x7x64_S24x7x192x16384_S24x7x64x192_1_3_3_2_02_01]; rfl
    | ⟨1, _⟩ => simp [DotDims.lhsIdx, dot_S24x16384x7x64_S24x7x192x16384_S24x7x64x192_1_3_3_2_02_01]; exact c3
    | ⟨2, _⟩ => simp [DotDims.lhsIdx, dot_S24x16384x7x64_S24x7x192x16384_S24x7x64x192_1_3_3_2_02_01]; rfl
    | ⟨3, _⟩ => simp [DotDims.lhsIdx, dot_S24x16384x7x64_S24x7x192x16384_S24x7x64x192_1_3_3_2_02_01]; rfl
  have er : dot_S24x16384x7x64_S24x7x192x16384_S24x7x64x192_1_3_3_2_02_01.rhsIdx (ix4 b h d l) ((contrEquiv1 _ 16384 rfl rfl).symm c) = ix4 b h l c := by
    funext ax; apply Fin.ext
    match ax with
    | ⟨0, _⟩ => simp [DotDims.rhsIdx, dot_S24x16384x7x64_S24x7x192x16384_S24x7x64x192_1_3_3_2_02_01]; rfl
    | ⟨1, _⟩ => simp [DotDims.rhsIdx, dot_S24x16384x7x64_S24x7x192x16384_S24x7x64x192_1_3_3_2_02_01]; rfl
    | ⟨2, _⟩ => simp [DotDims.rhsIdx, dot_S24x16384x7x64_S24x7x192x16384_S24x7x64x192_1_3_3_2_02_01]; rfl
    | ⟨3, _⟩ => simp [DotDims.rhsIdx, dot_S24x16384x7x64_S24x7x192x16384_S24x7x64x192_1_3_3_2_02_01]; exact c3
  rw [el, er]

end Cert.ReferenceIdeal.Own

end
-- ==== Proof.ReferenceIdeal.Values.lean ====
/- The reference's functions, element by element. -/
module

public import proofs.«01_k».proof.Proof.ReferenceIdeal.Stages
public import proofs.«01_k».proof.Proof.ReferenceIdeal.Dots
public import proofs.«01_k».proof.Proof.KernelIdeal.Reads

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Cert.Own (sm Args prob dscore dvSpec dkSpec dqTerm dqsSpec dqSpec)

variable (q : FVec Ideal S192x7x64 .bf16) (k v : FVec Ideal S24x16384x7x64 .bf16) (o : FVec Ideal S24x192x7x64 .bf16)
  (ks vs dsc : FVec Ideal S24x7 .f32) (lse delta : FVec Ideal S24x7x192 .f32) (n : IVec S24 32)

/-- The arguments, read off arrays. -/
def argsV : Args where
  q l h d := q (ix3 l h d)
  k b t h d := k (ix4 b t h d)
  ks b h := ks (ix2 b h)
  v b t h d := v (ix4 b t h d)
  vs b h := vs (ix2 b h)
  lse b h l := lse (ix3 b h l)
  dout b l h d := o (ix4 b l h d)
  dsc b h := dsc (ix2 b h)
  delta b h l := delta (ix3 b h l)
  n b := (n (ix1 b)).toNat

/-! ## The broadcasts -/

theorem bc_scale {X : Type} (x : S24x7.Idx → X) (b : Fin 24) (h : Fin 7) :
    broadcastInDim S24x7x1x1 ![0, 1] bcast_S24x7_S24x7x1x1_0_1 x (ix4 b h 0 0) = x (ix2 b h) :=
  broadcastInDim_apply _ _ _ _ (ix2 b h) fun a => by fin_cases a <;> rfl

theorem bc_score {X : Type} (x : S24x7x1x1.Idx → X) (b : Fin 24) (h : Fin 7) (l : Fin 192) (t : Fin 16384) :
    broadcastInDim S24x7x192x16384 ![0, 1, 2, 3] bcast_S24x7x1x1_S24x7x192x16384_0_1_2_3 x (ix4 b h l t) = x (ix4 b h 0 0) :=
  broadcastInDim_apply _ _ _ _ (ix4 b h 0 0) fun a => by fin_cases a <;> rfl

theorem bc_kv {X : Type} (x : S24x7x1x1.Idx → X) (b : Fin 24) (h : Fin 7) (d : Fin 64) (t : Fin 16384) :
    broadcastInDim S24x7x64x16384 ![0, 1, 2, 3] bcast_S24x7x1x1_S24x7x64x16384_0_1_2_3 x (ix4 b h d t) = x (ix4 b h 0 0) :=
  broadcastInDim_apply _ _ _ _ (ix4 b h 0 0) fun a => by fin_cases a <;> rfl

theorem bc_q {X : Type} (x : S24x7x1x1.Idx → X) (b : Fin 24) (h : Fin 7) (d : Fin 64) (l : Fin 192) :
    broadcastInDim S24x7x64x192 ![0, 1, 2, 3] bcast_S24x7x1x1_S24x7x64x192_0_1_2_3 x (ix4 b h d l) = x (ix4 b h 0 0) :=
  broadcastInDim_apply _ _ _ _ (ix4 b h 0 0) fun a => by fin_cases a <;> rfl

theorem bc_row {X : Type} (x : S24x7x192.Idx → X) (b : Fin 24) (h : Fin 7) (l : Fin 192) (t : Fin 16384) :
    broadcastInDim S24x7x192x16384 ![0, 1, 2, 3] bcast_S24x7x192x1_S24x7x192x16384_0_1_2_3
      (broadcastInDim S24x7x192x1 ![0, 1, 2] bcast_S24x7x192_S24x7x192x1_0_1_2 x) (ix4 b h l t) = x (ix3 b h l) :=
  (broadcastInDim_apply _ _ _ _ (ix4 b h l 0) fun a => by fin_cases a <;> rfl).trans
    (broadcastInDim_apply _ _ _ _ (ix3 b h l) fun a => by fin_cases a <;> rfl)

theorem bc_len {X : Type} (x : S24.Idx → X) (b : Fin 24) (h : Fin 7) (l : Fin 192) (t : Fin 16384) :
    broadcastInDim S24x7x192x16384 ![0, 1, 2, 3] bcast_S24x1x1x1_S24x7x192x16384_0_1_2_3
      (broadcastInDim S24x1x1x1 ![0] bcast_S24_S24x1x1x1_0 x) (ix4 b h l t) = x (ix1 b) :=
  (broadcastInDim_apply _ _ _ _ (ix4 b 0 0 0) fun a => by fin_cases a <;> rfl).trans
    (broadcastInDim_apply _ _ _ _ (ix1 b) fun a => by fin_cases a <;> rfl)

/-- The scale of the scores. -/
theorem scale_apply (b : Fin 24) (h : Fin 7) :
    mulf (broadcastInDim S24x7x1x1 ![] bcast_S_S24x7x1x1 (constant (F := Ideal) S_ .f32 0x3E000000#32))
      (broadcastInDim S24x7x1x1 ![0, 1] bcast_S24x7_S24x7x1x1_0_1 ks) (ix4 b h 0 0) = sm * ks (ix2 b h) := by
  show sm * broadcastInDim S24x7x1x1 ![0, 1] bcast_S24x7_S24x7x1x1_0_1 ks (ix4 b h 0 0) = _
  rw [bc_scale]

/-! ## The stages -/

variable (hn : ∀ b : Fin 24, (n (ix1 b)).toNat < 2 ^ 31)

include hn in
theorem pR_apply (b : Fin 24) (h : Fin 7) (l : Fin 192) (t : Fin 16384) :
    pR q k ks lse n (ix4 b h l t) = prob (argsV q k v o ks vs dsc lse delta n) b h l t := by
  have e1 : transpose S24x7x192x16384 [1, 0, 3, 2]
      (Host.dotGeneral (F := Ideal) dot_S24x16384x7x64_S192x7x64_S7x24x16384x192_3_2_01_0_2_1 none k q)
      transposes_S7x24x16384x192_S24x7x192x16384_1_0_3_2 (ix4 b h l t) = ∑ d : Fin 64, q (ix3 l h d) * k (ix4 b t h d) :=
    (transpose_apply _ _ _ _ (ix4 h b t l) fun a => by fin_cases a <;> rfl).trans
      ((dotScore k q h b t l).trans (Finset.sum_congr rfl fun d _ => mul_comm _ _))
  show Scalar.select (IntOp.cmpi .slt (BitVec.ofNat 32 t.val)
      (broadcastInDim S24x7x192x16384 ![0, 1, 2, 3] bcast_S24x1x1x1_S24x7x192x16384_0_1_2_3
        (broadcastInDim S24x1x1x1 ![0] bcast_S24_S24x1x1x1_0 n) (ix4 b h l t)))
    (Ideal.exp (broadcastInDim S24x7x192x16384 ![0, 1, 2, 3] bcast_S24x7x1x1_S24x7x192x16384_0_1_2_3
          (mulf (broadcastInDim S24x7x1x1 ![] bcast_S_S24x7x1x1 (constant (F := Ideal) S_ .f32 0x3E000000#32))
            (broadcastInDim S24x7x1x1 ![0, 1] bcast_S24x7_S24x7x1x1_0_1 ks)) (ix4 b h l t)
        * transpose S24x7x192x16384 [1, 0, 3, 2]
          (Host.dotGeneral (F := Ideal) dot_S24x16384x7x64_S192x7x64_S7x24x16384x192_3_2_01_0_2_1 none k q)
          transposes_S7x24x16384x192_S24x7x192x16384_1_0_3_2 (ix4 b h l t)
        - broadcastInDim S24x7x192x16384 ![0, 1, 2, 3] bcast_S24x7x192x1_S24x7x192x16384_0_1_2_3
            (broadcastInDim S24x7x192x1 ![0, 1, 2] bcast_S24x7x192_S24x7x192x1_0_1_2 lse) (ix4 b h l t)))
    (Ideal.ofBits .f32 0x00000000#32) = _
  rw [bc_len, bc_score, scale_apply, bc_row, e1, Cert.KernelIdeal.Own.mask_select t.val _ (by have := t.isLt; omega) (hn b), Ideal.ofBits_zero_f32]
  rfl

include hn in
theorem dsR_apply (b : Fin 24) (h : Fin 7) (l : Fin 192) (t : Fin 16384) :
    dsR v o vs dsc delta (pR q k ks lse n) (ix4 b h l t) = dscore (argsV q k v o ks vs dsc lse delta n) b h l t := by
  show pR q k ks lse n (ix4 b h l t)
    * (broadcastInDim S24x7x192x16384 ![0, 1, 2, 3] bcast_S24x7x1x1_S24x7x192x16384_0_1_2_3
          (broadcastInDim S24x7x1x1 ![0, 1] bcast_S24x7_S24x7x1x1_0_1 (mulf dsc vs)) (ix4 b h l t)
        * Host.dotGeneral (F := Ideal) dot_S24x192x7x64_S24x16384x7x64_S24x7x192x16384_3_3_1_1_02_02 none o v (ix4 b h l t)
        - broadcastInDim S24x7x192x16384 ![0, 1, 2, 3] bcast_S24x7x192x1_S24x7x192x16384_0_1_2_3
            (broadcastInDim S24x7x192x1 ![0, 1, 2] bcast_S24x7x192_S24x7x192x1_0_1_2 delta) (ix4 b h l t)) = _
  rw [pR_apply q k v o ks vs dsc lse delta n hn, bc_score, bc_scale, bc_row, dotProb]
  rfl

include hn in
theorem dvR_apply (b : Fin 24) (h : Fin 7) (d : Fin 64) (t : Fin 16384) :
    dvR o dsc (pR q k ks lse n) (ix4 b h d t) = dvSpec (argsV q k v o ks vs dsc lse delta n) b h d t := by
  show broadcastInDim S24x7x64x16384 ![0, 1, 2, 3] bcast_S24x7x1x1_S24x7x64x16384_0_1_2_3
        (broadcastInDim S24x7x1x1 ![0, 1] bcast_S24x7_S24x7x1x1_0_1 dsc) (ix4 b h d t)
      * Host.dotGeneral (F := Ideal) dot_S24x192x7x64_S24x7x192x16384_S24x7x64x16384_1_2_3_3_02_01 none o
          (truncf (F := Ideal) .bf16 (pR q k ks lse n) bitsLt_bf16_f32) (ix4 b h d t) = _
  rw [bc_kv, bc_scale, dotV]
  exact congrArg (fun x : EReal => dsc (ix2 b h) * x) (Finset.sum_congr rfl fun l _ =>
    congrArg (fun x : EReal => o (ix4 b l h d) * x) (pR_apply q k v o ks vs dsc lse delta n hn b h l t))

include hn in
theorem dkR_apply (b : Fin 24) (h : Fin 7) (d : Fin 64) (t : Fin 16384) :
    dkR q (dsR v o vs dsc delta (pR q k ks lse n)) (ix4 b h d t) = dkSpec (argsV q k v o ks vs dsc lse delta n) b h d t := by
  have e1 : transpose S24x7x64x16384 [2, 0, 1, 3]
      (Host.dotGeneral (F := Ideal) dot_S192x7x64_S24x7x192x16384_S7x64x24x16384_0_2_2_03_1_1 none q
        (truncf (F := Ideal) .bf16 (dsR v o vs dsc delta (pR q k ks lse n)) bitsLt_bf16_f32))
      transposes_S7x64x24x16384_S24x7x64x16384_2_0_1_3 (ix4 b h d t)
        = ∑ l : Fin 192, q (ix3 l h d) * dscore (argsV q k v o ks vs dsc lse delta n) b h l t :=
    (transpose_apply _ _ _ _ (ix4 h d b t) fun a => by fin_cases a <;> rfl).trans
      ((dotK q _ h d b t).trans (Finset.sum_congr rfl fun l _ =>
        congrArg (fun x : EReal => q (ix3 l h d) * x) (dsR_apply q k v o ks vs dsc lse delta n hn b h l t)))
  exact congrArg (fun x : EReal => sm * x) e1

include hn in
theorem dqsR_apply (b : Fin 24) (h : Fin 7) (d : Fin 64) (l : Fin 192) :
    dqsR k ks (dsR v o vs dsc delta (pR q k ks lse n)) (ix4 b h d l) = dqsSpec (argsV q k v o ks vs dsc lse delta n) b h d l := by
  show broadcastInDim S24x7x64x192 ![0, 1, 2, 3] bcast_S24x7x1x1_S24x7x64x192_0_1_2_3
      (mulf (broadcastInDim S24x7x1x1 ![] bcast_S_S24x7x1x1 (constant (F := Ideal) S_ .f32 0x3E000000#32))
        (broadcastInDim S24x7x1x1 ![0, 1] bcast_S24x7_S24x7x1x1_0_1 ks)) (ix4 b h d l)
    * Host.dotGeneral (F := Ideal) dot_S24x16384x7x64_S24x7x192x16384_S24x7x64x192_1_3_3_2_02_01 none k
        (truncf (F := Ideal) .bf16 (dsR v o vs dsc delta (pR q k ks lse n)) bitsLt_bf16_f32) (ix4 b h d l) = _
  rw [bc_q, scale_apply, dotQ]
  exact congrArg (fun x : EReal => sm * ks (ix2 b h) * x) (Finset.sum_congr rfl fun t _ =>
    congrArg (fun x : EReal => k (ix4 b t h d) * x) (dsR_apply q k v o ks vs dsc lse delta n hn b h l t))

theorem reduces_seq : S24x7x64x192.Reduces [0] S7x64x192 := by decide

include hn in
theorem dqR_apply (h : Fin 7) (d : Fin 64) (l : Fin 192) :
    dqR (dqsR k ks (dsR v o vs dsc delta (pR q k ks lse n))) (ix3 h d l) = dqSpec (argsV q k v o ks vs dsc lse delta n) h d l := by
  show Host.reduceAdd (dqsR k ks (dsR v o vs dsc delta (pR q k ks lse n))) (constant (F := Ideal) S_ .f32 0x00000000#32)
    reducesTo_S24x7x64x192_S7x64x192_d0 h_S_ (ix3 h d l) = _
  rw [hostReduceAdd_apply, Ideal.hostReduceAdd_single _ reduces_seq]
  show Ideal.ofBits .f32 0x00000000#32 + _ = _
  rw [Ideal.ofBits_zero_f32, zero_add]
  refine Finset.sum_congr rfl fun b _ => ?_
  have e : (reduces_seq.lift (ix3 h d l) b : S24x7x64x192.Idx) = ix4 b h d l := by
    funext a; apply Fin.ext; fin_cases a <;> rfl
  exact (congrArg _ e).trans (dqsR_apply q k v o ks vs dsc lse delta n hn b h d l)

end Cert.ReferenceIdeal.Own

end
-- ==== Proof.ReferenceIdeal.Results.lean ====
/- What the reference's result buffers hold at the end. -/
module

public import proofs.«01_k».proof.Proof.ReferenceIdeal.Region
public import proofs.«01_k».proof.Proof.ReferenceIdeal.TailReads
public import proofs.«01_k».proof.Proof.ReferenceIdeal.Values

@[expose] public section

noncomputable section

namespace Cert.ReferenceIdeal.Own

open Cert.ReferenceIdeal Cert.ReferenceIdeal.Gen
open Cert.ReferenceIdeal.Facts
open Idealize.ShloMosaic Idealize.ShloMosaic.TcCoe Idealize.ShloMosaic.Tactic Idealize.ShloMosaic.ValueIdx
open Idealize.SL Idealize.SL.Sem
open Cert.Own (sm Args prob dscore dvSpec dkSpec dqTerm dqsSpec dqSpec)

variable (m : (ℓ : Loc nD τ sig) → Buf (Elt Ideal) ℓ) (ρ : Dev nD → PrngReg) (c : Dev nD)

/-- The contents that the region leaves. -/
def atTail : Valuation τ sig (Elt Ideal) :=
  Pipeline.withArrays cfg0.spec c (V0 m c) fun w => (dats m 0 c).arrAt w cfg0.N

/-- The arguments of the reference on a core. -/
abbrev argsM : Args :=
  argsV (m ((c : Thread nD τ).loc main_arg0)) (fun y => m ((c : Thread nD τ).loc main_arg1) y) (fun y => m ((c : Thread nD τ).loc main_arg3) y)
    (fun y => m ((c : Thread nD τ).loc main_arg6) y) (m ((c : Thread nD τ).loc main_arg2)) (m ((c : Thread nD τ).loc main_arg4))
    (m ((c : Thread nD τ).loc main_arg7)) (m ((c : Thread nD τ).loc main_arg5)) (m ((c : Thread nD τ).loc main_arg8)) (m ((c : Thread nD τ).loc main_arg9))

theorem at_arg0 : atTail m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem at_arg2 : atTail m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem at_arg4 : atTail m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem at_arg5 : atTail m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem at_arg7 : atTail m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem at_arg8 : atTail m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)
theorem at_arg9 : atTail m c (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)
theorem at_v0_0 : atTail m c (Proc.devRef .tc main_v0_0) = (fun y => m ((c : Thread nD τ).loc main_arg1) y : S24x16384x7x64.Idx → EReal) :=
  (Pipeline.withArrays_arr spec0 launch0.win.arr_inj c (V0 m c) (fun w => (dats m 0 c).arrAt w cfg0.N) 3).trans (arr3 m c)
theorem at_v0_1 : atTail m c (Proc.devRef .tc main_v0_1) = (fun y => m ((c : Thread nD τ).loc main_arg3) y : S24x16384x7x64.Idx → EReal) :=
  (Pipeline.withArrays_arr spec0 launch0.win.arr_inj c (V0 m c) (fun w => (dats m 0 c).arrAt w cfg0.N) 4).trans (arr4 m c)
theorem at_v0_2 : atTail m c (Proc.devRef .tc main_v0_2) = (fun y => m ((c : Thread nD τ).loc main_arg6) y : S24x192x7x64.Idx → EReal) :=
  (Pipeline.withArrays_arr spec0 launch0.win.arr_inj c (V0 m c) (fun w => (dats m 0 c).arrAt w cfg0.N) 5).trans (arr5 m c)

theorem p_eq : pW (atTail m c) = pR (m ((c : Thread nD τ).loc main_arg0)) (fun y => m ((c : Thread nD τ).loc main_arg1) y) (m ((c : Thread nD τ).loc main_arg2)) (m ((c : Thread nD τ).loc main_arg5)) (m ((c : Thread nD τ).loc main_arg9)) := by
  unfold pW
  rw [at_arg0, at_v0_0, at_arg2, at_arg5, at_arg9]

theorem ds_eq : dsW (atTail m c) = dsR (fun y => m ((c : Thread nD τ).loc main_arg3) y) (fun y => m ((c : Thread nD τ).loc main_arg6) y) (m ((c : Thread nD τ).loc main_arg4)) (m ((c : Thread nD τ).loc main_arg7)) (m ((c : Thread nD τ).loc main_arg8))
    (pR (m ((c : Thread nD τ).loc main_arg0)) (fun y => m ((c : Thread nD τ).loc main_arg1) y) (m ((c : Thread nD τ).loc main_arg2)) (m ((c : Thread nD τ).loc main_arg5)) (m ((c : Thread nD τ).loc main_arg9))) := by
  unfold dsW
  rw [p_eq, at_v0_1, at_v0_2, at_arg4, at_arg7, at_arg8]

variable (hn : ∀ b : Fin 24, (m ((c : Thread nD τ).loc main_arg9) (ix1 b)).toNat < 2 ^ 31)

theorem ext4 {n₀ n₁ n₂ n₃ : ℕ} {f g : (⟨4, ![n₀, n₁, n₂, n₃]⟩ : Shape).Idx → EReal} (h : ∀ a b c d, f (ix4 a b c d) = g (ix4 a b c d)) : f = g :=
  funext fun y => by rw [eq_ix4 y]; exact h _ _ _ _

theorem ext3 {n₀ n₁ n₂ : ℕ} {f g : (⟨3, ![n₀, n₁, n₂]⟩ : Shape).Idx → EReal} (h : ∀ a b c, f (ix3 a b c) = g (ix3 a b c)) : f = g :=
  funext fun y => by rw [eq_ix3 y]; exact h _ _ _

include hn

/-- The key gradient. -/
theorem dk_eq : Pipeline.afterTail₀ cfgs (dats m) 0 (V0 m) [hostOps1, hostOps1_1, hostOps1_2] c main_v37
    = (fun y => dkSpec (argsM m c) (y 0) (y 1) (y 2) (y 3) : S24x7x64x16384.Idx → EReal) := by
  refine (read_v37 (atTail m c)).trans ?_
  rw [ds_eq, at_arg0]
  exact ext4 fun b h d t => dkR_apply _ _ _ _ _ _ _ _ _ _ hn b h d t

/-- The value gradient. -/
theorem dv_eq : Pipeline.afterTail₀ cfgs (dats m) 0 (V0 m) [hostOps1, hostOps1_1, hostOps1_2] c main_v32
    = (fun y => dvSpec (argsM m c) (y 0) (y 1) (y 2) (y 3) : S24x7x64x16384.Idx → EReal) := by
  refine (read_v32 (atTail m c)).trans ?_
  rw [p_eq, at_v0_2, at_arg7]
  exact ext4 fun b h d t => dvR_apply _ _ _ _ _ _ _ _ _ _ hn b h d t

/-- The query gradients of the sequences. -/
theorem dqs_eq : Pipeline.afterTail₀ cfgs (dats m) 0 (V0 m) [hostOps1, hostOps1_1, hostOps1_2] c main_v42
    = (fun y => dqsSpec (argsM m c) (y 0) (y 1) (y 2) (y 3) : S24x7x64x192.Idx → EReal) := by
  refine (read_v42 (atTail m c)).trans ?_
  rw [ds_eq, at_v0_0, at_arg2]
  exact ext4 fun b h d l => dqsR_apply _ _ _ _ _ _ _ _ _ _ hn b h d l

/-- The query gradient. -/
theorem dq_eq : Pipeline.afterTail₀ cfgs (dats m) 0 (V0 m) [hostOps1, hostOps1_1, hostOps1_2] c main_v44
    = (fun y => dqSpec (argsM m c) (y 0) (y 1) (y 2) : S7x64x192.Idx → EReal) := by
  refine (read_v44 (atTail m c)).trans ?_
  rw [ds_eq, at_v0_0, at_arg2]
  exact ext3 fun h d l => dqR_apply _ _ _ _ _ _ _ _ _ _ hn h d l

end Cert.ReferenceIdeal.Own

end
-- ==== Proof.lean ====
/- The proof of the claims: the frames of the kernel, of the ideal kernel and of the reference, that the ideal kernel is the kernel over the extended reals, and that the ideal kernel and the reference compute the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Frame
public import proofs.«01_k».proof.Proof.Gen.Pre_lengths
public import proofs.«01_k».proof.Proof.Gen.Pre_scaled
public import proofs.«01_k».proof.Proof.Pre
public import proofs.«01_k».proof.Proof.PreScaled
public import proofs.«01_k».proof.Proof.Kernel.Frame
public import proofs.«01_k».proof.Proof.Kernel.Lengths
public import proofs.«01_k».proof.Proof.KernelIdeal.Frame
public import proofs.«01_k».proof.Proof.KernelIdeal.Lengths
public import proofs.«01_k».proof.Proof.KernelIdeal.Arrays
public import proofs.«01_k».proof.Proof.ReferenceIdeal.Results
public import Idealize.ShloMosaic.Adequacy
public import Idealize.ShloMosaic.Init

@[expose] public section

noncomputable section

namespace Cert.Proof

open Idealize.ShloMosaic Idealize.SL.Sem Cert.Kernel

/-- The kernel ends, with its arguments unchanged. -/
theorem kernel_frame : Cert.quiescent_Kernel := fun m g h =>
  Cert.Kernel.Own.frame m g (Cert.Kernel.Own.ok_of_lens m fun b => Cert.Own.lens_of_lengths _ _ _ _ _ _ _ _ _ _ (h 0) b)

/-- The ideal kernel ends, with its arguments unchanged. -/
theorem kernelIdeal_frame : Cert.quiescent_KernelIdeal := fun m g h =>
  Cert.KernelIdeal.Own.frame m g (Cert.KernelIdeal.Own.ok_of_lens m fun b => Cert.Own.lens_of_lengths _ _ _ _ _ _ _ _ _ _ (h 0) b)

/-- The reference ends, with its arguments unchanged. -/
theorem reference_frame : Cert.quiescent_ReferenceIdeal := fun m g _ => Cert.ReferenceIdeal.Gen.frame m g

/-- The same, of the memories with scales that are not negative and finite. -/
theorem kernelIdeal_frame_scaled : Cert.quiescent_KernelIdeal_pre_scaled := fun m g h =>
  Cert.KernelIdeal.Own.frame m g (Cert.KernelIdeal.Own.ok_of_lens m fun b => Cert.Own.lens_of_scaled _ _ _ _ _ _ _ _ _ _ (h 0) b)

theorem reference_frame_scaled : Cert.quiescent_ReferenceIdeal_pre_scaled := fun m g _ => Cert.ReferenceIdeal.Gen.frame m g

/-- Over the extended reals the kernel and the reference end with the same gradients. -/
theorem same_results : Cert.algebraic_KernelIdeal_ReferenceIdeal_pre_scaled := by
  intro m g m' g' hpre hargs
  have hL : Cert.KernelIdeal.Own.Lens m := fun b => Cert.Own.lens_of_scaled _ _ _ _ _ _ _ _ _ _ (hpre 0) b
  have hO := Cert.KernelIdeal.Own.ok_of_lens m hL
  have hS : ∀ c, Cert.KernelIdeal.Own.Scaled m c := fun c b j => Cert.Own.scales_of_scaled _ _ _ _ _ _ _ _ _ _ (hpre c) b j
  have hn : ∀ (c : Dev Cert.ReferenceIdeal.nD) (b : Fin 24), (m' ((c.tc : Thread Cert.ReferenceIdeal.nD Cert.ReferenceIdeal.τ).loc Cert.ReferenceIdeal.main_arg9) (ValueIdx.ix1 b)).toNat < 2 ^ 31 := by
    intro c b
    rw [(hargs c).2.2.2.2.2.2.2.2.2]
    exact (Cert.Own.lens_of_scaled _ _ _ _ _ _ _ _ _ _ (hpre c) b).2
  have hA : ∀ c : Dev Cert.KernelIdeal.nD, Cert.ReferenceIdeal.Own.argsM m' c = Cert.KernelIdeal.Own.argsOf m c := by
    intro c
    obtain ⟨h0, h1, h2, h3, h4, h5, h6, h7, h8, h9⟩ := hargs c
    have hc : c = 0 := Subsingleton.elim _ _
    subst hc
    unfold Cert.ReferenceIdeal.Own.argsM
    rw [h0, h1, h2, h3, h4, h5, h6, h7, h8, h9]
    rfl
  refine ⟨fun c => Cert.KernelIdeal.Own.dkArr (Cert.KernelIdeal.Own.argsOf m c), fun c => Cert.KernelIdeal.Own.dvArr (Cert.KernelIdeal.Own.argsOf m c),
    fun c => Cert.KernelIdeal.Own.dqsArr (Cert.KernelIdeal.Own.argsOf m c), fun c => Cert.KernelIdeal.Own.dqArr (Cert.KernelIdeal.Own.argsOf m c), ?_, ?_⟩
  · refine (θ_run _ _ _).mono (fun r h c => ?_) (Cert.KernelIdeal.Own.run_main m g hO)
    exact ⟨((h c).1 11).trans (Cert.KernelIdeal.Own.arr11 m hL hO c), ((h c).1 12).trans (Cert.KernelIdeal.Own.arr12 m hL hO c),
      ((h c).1 13).trans (Cert.KernelIdeal.Own.arr13 m hL hO c (hS c)), ((h c).1 14).trans (Cert.KernelIdeal.Own.arr14 m hL hO c (hS c)),
      Cert.KernelIdeal.Own.args_of m hO r h c⟩
  · refine (θ_run _ _ _).mono (fun r h c => ?_) (θ_run_and (Cert.ReferenceIdeal.Gen.run_main m' g') (Cert.ReferenceIdeal.Gen.unchanged m' g'))
    have hk := (((h.1 c).2 Cert.ReferenceIdeal.main_v37 (Pipeline.mem_restRefs_of Cert.ReferenceIdeal.main_v37 (by decide) (by decide))).trans (Cert.ReferenceIdeal.Own.dk_eq m' c (hn c)))
    have hv := (((h.1 c).2 Cert.ReferenceIdeal.main_v32 (Pipeline.mem_restRefs_of Cert.ReferenceIdeal.main_v32 (by decide) (by decide))).trans (Cert.ReferenceIdeal.Own.dv_eq m' c (hn c)))
    have hs := (((h.1 c).2 Cert.ReferenceIdeal.main_v42 (Pipeline.mem_restRefs_of Cert.ReferenceIdeal.main_v42 (by decide) (by decide))).trans (Cert.ReferenceIdeal.Own.dqs_eq m' c (hn c)))
    have hq := (((h.1 c).2 Cert.ReferenceIdeal.main_v44 (Pipeline.mem_restRefs_of Cert.ReferenceIdeal.main_v44 (by decide) (by decide))).trans (Cert.ReferenceIdeal.Own.dq_eq m' c (hn c)))
    rw [hA c] at hk hv hs hq
    exact ⟨hk, hv, hs, hq, h.2 c⟩

theorem claim : Cert.Claim := ⟨Cert.Kernel.Gen.facts, Cert.KernelIdeal.Gen.facts, Cert.ReferenceIdeal.Gen.facts, Cert.Pre_lengths.Gen.facts, Cert.Pre_scaled.Gen.facts,
  kernel_frame, kernelIdeal_frame, kernelIdeal_frame_scaled, reference_frame, reference_frame_scaled, trivial, same_results⟩

end Cert.Proof

end
